-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9)
      ∧ r.2.mem ((c.tc : Thread Cert.Kernel4.nD Cert.Kernel4.τ).loc Cert.Kernel4.main_arg10) = m ((c.tc : Thread Cert.Kernel4.nD Cert.Kernel4.τ).loc Cert.Kernel4.main_arg10)
      ∧ r.2.mem ((c.tc : Thread Cert.Kernel4.nD Cert.Kernel4.τ).loc Cert.Kernel4.main_arg11) = m ((c.tc : Thread Cert.Kernel4.nD Cert.Kernel4.τ).loc Cert.Kernel4.main_arg11)
      ∧ r.2.mem ((c.tc : Thread Cert.Kernel4.nD Cert.Kernel4.τ).loc Cert.Kernel4.main_arg12) = m ((c.tc : Thread Cert.Kernel4.nD Cert.Kernel4.τ).loc Cert.Kernel4.main_arg12))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
      ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11)
      ∧ r.2.mem ((c.tc : Thread Cert.Kernel4Ideal.nD Cert.Kernel4Ideal.τ).loc Cert.Kernel4Ideal.main_arg12) = m ((c.tc : Thread Cert.Kernel4Ideal.nD Cert.Kernel4Ideal.τ).loc Cert.Kernel4Ideal.main_arg12))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10)
      ∧ r.2.mem ((c.tc : Thread Cert.Reference4Ideal.nD Cert.Reference4Ideal.τ).loc Cert.Reference4Ideal.main_arg11) = m ((c.tc : Thread Cert.Reference4Ideal.nD Cert.Reference4Ideal.τ).loc Cert.Reference4Ideal.main_arg11)
      ∧ r.2.mem ((c.tc : Thread Cert.Reference4Ideal.nD Cert.Reference4Ideal.τ).loc Cert.Reference4Ideal.main_arg12) = m ((c.tc : Thread Cert.Reference4Ideal.nD Cert.Reference4Ideal.τ).loc Cert.Reference4Ideal.main_arg12))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v45)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v45) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v7)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v7) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v19) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)) →
    ∃ (v0 : (c : Dev Cert.Kernel3Ideal.nD) → Buf (Elt Ideal) ((c.tc : Thread Cert.Kernel3Ideal.nD Cert.Kernel3Ideal.τ).loc Cert.Kernel3Ideal.main_v5)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v5) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v64) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)
      ∧ m' ((c.tc : Thread Cert.Reference4Ideal.nD Cert.Reference4Ideal.τ).loc Cert.Reference4Ideal.main_arg10) = m ((c.tc : Thread Cert.Kernel4Ideal.nD Cert.Kernel4Ideal.τ).loc Cert.Kernel4Ideal.main_arg10)
      ∧ m' ((c.tc : Thread Cert.Reference4Ideal.nD Cert.Reference4Ideal.τ).loc Cert.Reference4Ideal.main_arg11) = m ((c.tc : Thread Cert.Kernel4Ideal.nD Cert.Kernel4Ideal.τ).loc Cert.Kernel4Ideal.main_arg11)
      ∧ m' ((c.tc : Thread Cert.Reference4Ideal.nD Cert.Reference4Ideal.τ).loc Cert.Reference4Ideal.main_arg12) = m ((c.tc : Thread Cert.Kernel4Ideal.nD Cert.Kernel4Ideal.τ).loc Cert.Kernel4Ideal.main_arg12)) →
    ∃ (v0 : (c : Dev Cert.Kernel4Ideal.nD) → Buf (Elt Ideal) ((c.tc : Thread Cert.Kernel4Ideal.nD Cert.Kernel4Ideal.τ).loc Cert.Kernel4Ideal.main_v19)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v19) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
          ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
          ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11)
          ∧ r.2.mem ((c.tc : Thread Cert.Kernel4Ideal.nD Cert.Kernel4Ideal.τ).loc Cert.Kernel4Ideal.main_arg12) = m ((c.tc : Thread Cert.Kernel4Ideal.nD Cert.Kernel4Ideal.τ).loc Cert.Kernel4Ideal.main_arg12))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v72) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9)
          ∧ r.2.mem ((c.tc : Thread Cert.Reference4Ideal.nD Cert.Reference4Ideal.τ).loc Cert.Reference4Ideal.main_arg10) = m' ((c.tc : Thread Cert.Reference4Ideal.nD Cert.Reference4Ideal.τ).loc Cert.Reference4Ideal.main_arg10)
          ∧ r.2.mem ((c.tc : Thread Cert.Reference4Ideal.nD Cert.Reference4Ideal.τ).loc Cert.Reference4Ideal.main_arg11) = m' ((c.tc : Thread Cert.Reference4Ideal.nD Cert.Reference4Ideal.τ).loc Cert.Reference4Ideal.main_arg11)
          ∧ r.2.mem ((c.tc : Thread Cert.Reference4Ideal.nD Cert.Reference4Ideal.τ).loc Cert.Reference4Ideal.main_arg12) = m' ((c.tc : Thread Cert.Reference4Ideal.nD Cert.Reference4Ideal.τ).loc Cert.Reference4Ideal.main_arg12))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v4)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v4) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v37) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)) →
    ∃ (v0 : (c : Dev Cert.Kernel6Ideal.nD) → Buf (Elt Ideal) ((c.tc : Thread Cert.Kernel6Ideal.nD Cert.Kernel6Ideal.τ).loc Cert.Kernel6Ideal.main_v5)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v5) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v64) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
-- ==== Kernel.lean ====
abbrev S32768x7168 : Shape := ⟨2, ![32768, 7168]⟩
abbrev S8x15x31 : Shape := ⟨3, ![8, 15, 31]⟩
abbrev S64 : Shape := ⟨1, ![64]⟩
abbrev S64x1 : Shape := ⟨2, ![64, 1]⟩
abbrev S1x64 : Shape := ⟨2, ![1, 64]⟩
abbrev S_ : Shape := ⟨0, ![]⟩
abbrev S64x64 : Shape := ⟨2, ![64, 64]⟩
abbrev S4096 : Shape := ⟨1, ![4096]⟩
abbrev S1x4096 : Shape := ⟨2, ![1, 4096]⟩
abbrev S31 : Shape := ⟨1, ![31]⟩
abbrev S31x1 : Shape := ⟨2, ![31, 1]⟩
abbrev S31x4096 : Shape := ⟨2, ![31, 4096]⟩
abbrev S8x15x4096 : Shape := ⟨3, ![8, 15, 4096]⟩
abbrev S1x1x4096 : Shape := ⟨3, ![1, 1, 4096]⟩
abbrev S8x15x64x64 : Shape := ⟨4, ![8, 15, 64, 64]⟩
abbrev S8x14x64x64 : Shape := ⟨4, ![8, 14, 64, 64]⟩
abbrev S8x14x64x128 : Shape := ⟨4, ![8, 14, 64, 128]⟩
abbrev S4x128x64x7168 : Shape := ⟨4, ![4, 128, 64, 7168]⟩
abbrev S4x128x64x512 : Shape := ⟨4, ![4, 128, 64, 512]⟩
abbrev S1x16x64x512 : Shape := ⟨4, ![1, 16, 64, 512]⟩
abbrev S1x23x64x512 : Shape := ⟨4, ![1, 23, 64, 512]⟩
abbrev S23x64x512 : Shape := ⟨3, ![23, 64, 512]⟩
abbrev S64x512 : Shape := ⟨2, ![64, 512]⟩
abbrev S1x1x64x512 : Shape := ⟨4, ![1, 1, 64, 512]⟩
abbrev S1x64x512 : Shape := ⟨3, ![1, 64, 512]⟩
abbrev S1x8x64x512 : Shape := ⟨4, ![1, 8, 64, 512]⟩
abbrev S8x64x512 : Shape := ⟨3, ![8, 64, 512]⟩
abbrev S512x512 : Shape := ⟨2, ![512, 512]⟩
abbrev S1x1x64x128 : Shape := ⟨4, ![1, 1, 64, 128]⟩
abbrev S64x128 : Shape := ⟨2, ![64, 128]⟩
abbrev S512x128 : Shape := ⟨2, ![512, 128]⟩

abbrev nBuf : Space → Nat
  | .hbm => 69
  | .vmem => 11
  | .smem => 0
  | _ => 0

abbrev bufTy : (tb : Table) → Fin (tcTables nBuf tb) → BufTy
  | .hbm, ⟨0, _⟩ => ⟨S32768x7168, .bf16⟩
  | .hbm, ⟨1, _⟩ => ⟨S8x15x31, .f32⟩
  | .hbm, ⟨2, _⟩ => ⟨S64, .i32⟩
  | .hbm, ⟨3, _⟩ => ⟨S64x1, .i32⟩
  | .hbm, ⟨4, _⟩ => ⟨S64, .i32⟩
  | .hbm, ⟨5, _⟩ => ⟨S1x64, .i32⟩
  | .hbm, ⟨6, _⟩ => ⟨S_, .i32⟩
  | .hbm, ⟨7, _⟩ => ⟨S64x1, .i32⟩
  | .hbm, ⟨8, _⟩ => ⟨S64x1, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S64x1, .i32⟩
  | .hbm, ⟨13, _⟩ => ⟨S64x1, .i32⟩
  | .hbm, ⟨14, _⟩ => ⟨S_, .i32⟩
  | .hbm, ⟨15, _⟩ => ⟨S64x1, .i32⟩
  | .hbm, ⟨16, _⟩ => ⟨S64x1, .i32⟩
  | .hbm, ⟨17, _⟩ => ⟨S64x64, .i32⟩
  | .hbm, ⟨18, _⟩ => ⟨S64x64, .i32⟩
  | .hbm, ⟨19, _⟩ => ⟨S64x64, .i1⟩
  | .hbm, ⟨20, _⟩ => ⟨S_, .i32⟩
  | .hbm, ⟨21, _⟩ => ⟨S64x1, .i32⟩
  | .hbm, ⟨22, _⟩ => ⟨S64x1, .i32⟩
  | .hbm, ⟨23, _⟩ => ⟨S64x64, .i32⟩
  | .hbm, ⟨24, _⟩ => ⟨S64x64, .i32⟩
  | .hbm, ⟨25, _⟩ => ⟨S64x64, .i1⟩
  | .hbm, ⟨26, _⟩ => ⟨S64x64, .i1⟩
  | .hbm, ⟨27, _⟩ => ⟨S4096, .i1⟩
  | .hbm, ⟨28, _⟩ => ⟨S64x64, .i32⟩
  | .hbm, ⟨29, _⟩ => ⟨S64x64, .i32⟩
  | .hbm, ⟨30, _⟩ => ⟨S64x64, .i32⟩
  | .hbm, ⟨31, _⟩ => ⟨S_, .i32⟩
  | .hbm, ⟨32, _⟩ => ⟨S64x64, .i32⟩
  | .hbm, ⟨33, _⟩ => ⟨S64x64, .i32⟩
  | .hbm, ⟨34, _⟩ => ⟨S_, .i32⟩
  | .hbm, ⟨35, _⟩ => ⟨S_, .i32⟩
  | .hbm, ⟨36, _⟩ => ⟨S_, .i32⟩
  | .hbm, ⟨37, _⟩ => ⟨S64x64, .i32⟩
  | .hbm, ⟨38, _⟩ => ⟨S64x64, .i32⟩
  | .hbm, ⟨39, _⟩ => ⟨S_, .i32⟩
  | .hbm, ⟨40, _⟩ => ⟨S64x64, .i32⟩
  | .hbm, ⟨41, _⟩ => ⟨S64x64, .i32⟩
  | .hbm, ⟨42, _⟩ => ⟨S4096, .i32⟩
  | .hbm, ⟨43, _⟩ => ⟨S1x4096, .i32⟩
  | .hbm, ⟨44, _⟩ => ⟨S31, .i32⟩
  | .hbm, ⟨45, _⟩ => ⟨S31x1, .i32⟩
  | .hbm, ⟨46, _⟩ => ⟨S31x4096, .i32⟩
  | .hbm, ⟨47, _⟩ => ⟨S31x4096, .i32⟩
  | .hbm, ⟨48, _⟩ => ⟨S31x4096, .i1⟩
  | .hbm, ⟨49, _⟩ => ⟨S1x4096, .i1⟩
  | .hbm, ⟨50, _⟩ => ⟨S31x4096, .i1⟩
  | .hbm, ⟨51, _⟩ => ⟨S31x4096, .i1⟩
  | .hbm, ⟨52, _⟩ => ⟨S31x4096, .f32⟩
  | .hbm, ⟨53, _⟩ => ⟨S8x15x4096, .f32⟩
  | .hbm, ⟨54, _⟩ => ⟨S_, .f32⟩
  | .hbm, ⟨55, _⟩ => ⟨S_, .f32⟩
  | .hbm, ⟨56, _⟩ => ⟨S4096, .f32⟩
  | .hbm, ⟨57, _⟩ => ⟨S4096, .f32⟩
  | .hbm, ⟨58, _⟩ => ⟨S4096, .f32⟩
  | .hbm, ⟨59, _⟩ => ⟨S4096, .f32⟩
  | .hbm, ⟨60, _⟩ => ⟨S1x1x4096, .f32⟩
  | .hbm, ⟨61, _⟩ => ⟨S8x15x4096, .f32⟩
  | .hbm, ⟨62, _⟩ => ⟨S8x15x4096, .f32⟩
  | .hbm, ⟨63, _⟩ => ⟨S8x15x64x64, .f32⟩
  | .hbm, ⟨64, _⟩ => ⟨S8x14x64x64, .f32⟩
  | .hbm, ⟨65, _⟩ => ⟨S8x14x64x64, .f32⟩
  | .hbm, ⟨66, _⟩ => ⟨S8x14x64x128, .f32⟩
  | .hbm, ⟨67, _⟩ => ⟨S4x128x64x7168, .bf16⟩
  | .hbm, ⟨68, _⟩ => ⟨S4x128x64x512, .bf16⟩
  | .local _ .vmem, ⟨0, _⟩ => ⟨S1x16x64x512, .bf16⟩
  | .local _ .vmem, ⟨1, _⟩ => ⟨S1x16x64x512, .bf16⟩
  | .local _ .vmem, ⟨2, _⟩ => ⟨S1x23x64x512, .bf16⟩
  | .local _ .vmem, ⟨3, _⟩ => ⟨S1x23x64x512, .bf16⟩
  | .local _ .vmem, ⟨4, _⟩ => ⟨S1x23x64x512, .bf16⟩
  | .local _ .vmem, ⟨5, _⟩ => ⟨S1x23x64x512, .bf16⟩
  | .local _ .vmem, ⟨6, _⟩ => ⟨S8x14x64x128, .f32⟩
  | .local _ .vmem, ⟨7, _⟩ => ⟨S1x16x64x512, .bf16⟩
  | .local _ .vmem, ⟨8, _⟩ => ⟨S1x16x64x512, .bf16⟩
  | .local _ .vmem, ⟨9, _⟩ => ⟨S23x64x512, .bf16⟩
  | .local _ .vmem, ⟨10, _⟩ => ⟨S23x64x512, .bf16⟩
  | _, _ => ⟨S32768x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_c : Ref sig .tc := ⟨.hbm, 6, rfl⟩
abbrev main_v4 : Ref sig .tc := ⟨.hbm, 7, rfl⟩
abbrev main_v5 : Ref sig .tc := ⟨.hbm, 8, rfl⟩
abbrev main_c_0 : Ref sig .tc := ⟨.hbm, 9, rfl⟩
abbrev main_c_1 : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_c_2 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_c_3 : Ref sig .tc := ⟨.hbm, 31, rfl⟩
abbrev main_v20 : Ref sig .tc := ⟨.hbm, 32, rfl⟩
abbrev main_v21 : Ref sig .tc := ⟨.hbm, 33, rfl⟩
abbrev main_c_4 : Ref sig .tc := ⟨.hbm, 34, rfl⟩
abbrev main_c_5 : Ref sig .tc := ⟨.hbm, 35, rfl⟩
abbrev main_call1_v0 : Ref sig .tc := ⟨.hbm, 36, rfl⟩
abbrev main_call1_v1 : Ref sig .tc := ⟨.hbm, 37, rfl⟩
abbrev main_call1_v2 : Ref sig .tc := ⟨.hbm, 38, rfl⟩
abbrev main_call1_v3 : Ref sig .tc := ⟨.hbm, 39, rfl⟩
abbrev main_call1_v4 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_cst : Ref sig .tc := ⟨.hbm, 54, rfl⟩
abbrev main_cst_6 : Ref sig .tc := ⟨.hbm, 55, rfl⟩
abbrev main_call2_v0 : Ref sig .tc := ⟨.hbm, 56, rfl⟩
abbrev main_call2_v1 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_scratch1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![4, 8], ![false, false]⟩

@[reducible] def k0_t1_loop : Scf.Loop 32 :=
  let c0_i32_221 : BitVec 32 := 0#32
  let c2_i32 : BitVec 32 := 2#32
  let v279 : BitVec 32 := Scalar.addi c0_i32_221 c2_i32
  let c1_i32_222 : BitVec 32 := 1#32
  ⟨c0_i32_221, v279, c1_i32_222⟩
def k0_off1 (k0_t1 : Fin k0_t1_loop.trips) (c0_i32_224 : BitVec 32) : Fin 4 → Nat :=
  let c0_227 : Index := 0#32
  let c0_i32_221 : BitVec 32 := 0#32
  let c1_i32_222 : BitVec 32 := 1#32
  let arg9 : BitVec 32 := Scf.iv c0_i32_221 c1_i32_222 k0_t1
  let c8_i32 : BitVec 32 := 8#32
  let v280 : BitVec 32 := Scalar.muli arg9 c8_i32
  let v281 : BitVec 32 := Scalar.addi v280 c0_i32_224
  let v289 : Index := Scalar.indexCast v281
  let c0_228 : Index := 0#32
  let c0_229 : Index := 0#32
  ![0, v289.toNat, 0, 0]
def k0_off2 (i : grid0.Coords) (k0_t1 : Fin k0_t1_loop.trips) (c0_i32_224 : BitVec 32) : Fin 4 → Nat :=
  let c0_231 : Index := 0#32
  let c120_i32 : BitVec 32 := 120#32
  let c0_i32_226 : BitVec 32 := 0#32
  let arg1 : BitVec 32 := BitVec.ofNat 32 (i 1).val
  let c16_i32 : BitVec 32 := 16#32
  let v0 : BitVec 32 := Scalar.muli arg1 c16_i32
  let c0_i32_221 : BitVec 32 := 0#32
  let c1_i32_222 : BitVec 32 := 1#32
  let arg9 : BitVec 32 := Scf.iv c0_i32_221 c1_i32_222 k0_t1
  let c8_i32 : BitVec 32 := 8#32
  let v280 : BitVec 32 := Scalar.muli arg9 c8_i32
  let v281 : BitVec 32 := Scalar.addi v280 c0_i32_224
  let v282 : BitVec 32 := Scalar.addi v0 v281
  let c4_i32_225 : BitVec 32 := 4#32
  let v283 : BitVec 32 := Scalar.subi v282 c4_i32_225
  let v284 : BitVec 32 := Scalar.maxsi c0_i32_226 v283
  let v285 : BitVec 32 := Scalar.minsi c120_i32 v284
  let c105_i32 : BitVec 32 := 105#32
  let c0_i32 : BitVec 32 := 0#32
  let c4_i32 : BitVec 32 := 4#32
  let v1 : BitVec 32 := Scalar.subi v0 c4_i32
  let v2 : BitVec 32 := Scalar.maxsi c0_i32 v1
  let v3 : BitVec 32 := Scalar.minsi c105_i32 v2
  let v286 : BitVec 32 := Scalar.subi v285 v3
  let v296 : Index := Scalar.indexCast v286
  let c0_232 : Index := 0#32
  let c0_233 : Index := 0#32
  ![0, v296.toNat, 0, 0]
def k0_off3 (i : grid0.Coords) (k0_t1 : Fin k0_t1_loop.trips) (c0_i32_224 : BitVec 32) : Fin 3 → Nat :=
  let c120_i32 : BitVec 32 := 120#32
  let c0_i32_226 : BitVec 32 := 0#32
  let arg1 : BitVec 32 := BitVec.ofNat 32 (i 1).val
  let c16_i32 : BitVec 32 := 16#32
  let v0 : BitVec 32 := Scalar.muli arg1 c16_i32
  let c0_i32_221 : BitVec 32 := 0#32
  let c1_i32_222 : BitVec 32 := 1#32
  let arg9 : BitVec 32 := Scf.iv c0_i32_221 c1_i32_222 k0_t1
  let c8_i32 : BitVec 32 := 8#32
  let v280 : BitVec 32 := Scalar.muli arg9 c8_i32
  let v281 : BitVec 32 := Scalar.addi v280 c0_i32_224
  let v282 : BitVec 32 := Scalar.addi v0 v281
  let c4_i32_225 : BitVec 32 := 4#32
  let v283 : BitVec 32 := Scalar.subi v282 c4_i32_225
  let v284 : BitVec 32 := Scalar.maxsi c0_i32_226 v283
  let v285 : BitVec 32 := Scalar.minsi c120_i32 v284
  let c105_i32 : BitVec 32 := 105#32
  let c0_i32 : BitVec 32 := 0#32
  let c4_i32 : BitVec 32 := 4#32
  let v1 : BitVec 32 := Scalar.subi v0 c4_i32
  let v2 : BitVec 32 := Scalar.maxsi c0_i32 v1
  let v3 : BitVec 32 := Scalar.minsi c105_i32 v2
  let v286 : BitVec 32 := Scalar.subi v285 v3
  let v300 : Index := Scalar.indexCast v286
  let c0_234 : Index := 0#32
  let c0_235 : Index := 0#32
  ![v300.toNat, 0, 0]
def k0_off4 (i : grid0.Coords) (k0_t1 : Fin k0_t1_loop.trips) (c0_i32_224 : BitVec 32) (c0_i32_238 : BitVec 32) : Fin 4 → Nat :=
  let c0_239 : Index := 0#32
  let c7_i32 : BitVec 32 := 7#32
  let arg1 : BitVec 32 := BitVec.ofNat 32 (i 1).val
  let c16_i32 : BitVec 32 := 16#32
  let v0 : BitVec 32 := Scalar.muli arg1 c16_i32
  let c0_i32_221 : BitVec 32 := 0#32
  let c1_i32_222 : BitVec 32 := 1#32
  let arg9 : BitVec 32 := Scf.iv c0_i32_221 c1_i32_222 k0_t1
  let c8_i32 : BitVec 32 := 8#32
  let v280 : BitVec 32 := Scalar.muli arg9 c8_i32
  let v281 : BitVec 32 := Scalar.addi v280 c0_i32_224
  let v282 : BitVec 32 := Scalar.addi v0 v281
  let c120_i32 : BitVec 32 := 120#32
  let c0_i32_226 : BitVec 32 := 0#32
  let c4_i32_225 : BitVec 32 := 4#32
  let v283 : BitVec 32 := Scalar.subi v282 c4_i32_225
  let v284 : BitVec 32 := Scalar.maxsi c0_i32_226 v283
  let v285 : BitVec 32 := Scalar.minsi c120_i32 v284
  let v287 : BitVec 32 := Scalar.subi v282 v285
  let v288 : BitVec 32 := Scalar.subi c7_i32 v287
  let v306 : BitVec 32 := Scalar.addi v288 c0_i32_238
  let v307 : Index := Scalar.indexCast v306
  let c0_240 : Index := 0#32
  let c0_241 : Index := 0#32
  ![0, v307.toNat, 0, 0]
def k0_off5 (i : grid0.Coords) (k0_t1 : Fin k0_t1_loop.trips) (c0_i32_224 : BitVec 32) (c0_i32_254 : BitVec 32) : Fin 4 → Nat :=
  let c1_255 : Index := 1#32
  let c7_i32 : BitVec 32 := 7#32
  let arg1 : BitVec 32 := BitVec.ofNat 32 (i 1).val
  let c16_i32 : BitVec 32 := 16#32
  let v0 : BitVec 32 := Scalar.muli arg1 c16_i32
  let c0_i32_221 : BitVec 32 := 0#32
  let c1_i32_222 : BitVec 32 := 1#32
  let arg9 : BitVec 32 := Scf.iv c0_i32_221 c1_i32_222 k0_t1
  let c8_i32 : BitVec 32 := 8#32
  let v280 : BitVec 32 := Scalar.muli arg9 c8_i32
  let v281 : BitVec 32 := Scalar.addi v280 c0_i32_224
  let v282 : BitVec 32 := Scalar.addi v0 v281
  let c120_i32 : BitVec 32 := 120#32
  let c0_i32_226 : BitVec 32 := 0#32
  let c4_i32_225 : BitVec 32 := 4#32
  let v283 : BitVec 32 := Scalar.subi v282 c4_i32_225
  let v284 : BitVec 32 := Scalar.maxsi c0_i32_226 v283
  let v285 : BitVec 32 := Scalar.minsi c120_i32 v284
  let v287 : BitVec 32 := Scalar.subi v282 v285
  let v288 : BitVec 32 := Scalar.subi c7_i32 v287
  let v327 : BitVec 32 := Scalar.addi v288 c0_i32_254
  let v328 : Index := Scalar.indexCast v327
  let c0_256 : Index := 0#32
  let c0_257 : Index := 0#32
  ![1, v328.toNat, 0, 0]
def k0_off6 (i : grid0.Coords) (k0_t1 : Fin k0_t1_loop.trips) (c0_i32_224 : BitVec 32) (c0_i32_271 : BitVec 32) : Fin 4 → Nat :=
  let c2_272 : Index := 2#32
  let c7_i32 : BitVec 32 := 7#32
  let arg1 : BitVec 32 := BitVec.ofNat 32 (i 1).val
  let c16_i32 : BitVec 32 := 16#32
  let v0 : BitVec 32 := Scalar.muli arg1 c16_i32
  let c0_i32_221 : BitVec 32 := 0#32
  let c1_i32_222 : BitVec 32 := 1#32
  let arg9 : BitVec 32 := Scf.iv c0_i32_221 c1_i32_222 k0_t1
  let c8_i32 : BitVec 32 := 8#32
  let v280 : BitVec 32 := Scalar.muli arg9 c8_i32
  let v281 : BitVec 32 := Scalar.addi v280 c0_i32_224
  let v282 : BitVec 32 := Scalar.addi v0 v281
  let c120_i32 : BitVec 32 := 120#32
  let c0_i32_226 : BitVec 32 := 0#32
  let c4_i32_225 : BitVec 32 := 4#32
  let v283 : BitVec 32 := Scalar.subi v282 c4_i32_225
  let v284 : BitVec 32 := Scalar.maxsi c0_i32_226 v283
  let v285 : BitVec 32 := Scalar.minsi c120_i32 v284
  let v287 : BitVec 32 := Scalar.subi v282 v285
  let v288 : BitVec 32 := Scalar.subi c7_i32 v287
  let v348 : BitVec 32 := Scalar.addi v288 c0_i32_271
  let v349 : Index := Scalar.indexCast v348
  let c0_273 : Index := 0#32
  let c0_274 : Index := 0#32
  ![2, v349.toNat, 0, 0]
def k0_off7 (i : grid0.Coords) (k0_t1 : Fin k0_t1_loop.trips) (c0_i32_224 : BitVec 32) (c0_i32_288 : BitVec 32) : Fin 4 → Nat :=
  let c3_289 : Index := 3#32
  let c7_i32 : BitVec 32 := 7#32
  let arg1 : BitVec 32 := BitVec.ofNat 32 (i 1).val
  let c16_i32 : BitVec 32 := 16#32
  let v0 : BitVec 32 := Scalar.muli arg1 c16_i32
  let c0_i32_221 : BitVec 32 := 0#32
  let c1_i32_222 : BitVec 32 := 1#32
  let arg9 : BitVec 32 := Scf.iv c0_i32_221 c1_i32_222 k0_t1
  let c8_i32 : BitVec 32 := 8#32
  let v280 : BitVec 32 := Scalar.muli arg9 c8_i32
  let v281 : BitVec 32 := Scalar.addi v280 c0_i32_224
  let v282 : BitVec 32 := Scalar.addi v0 v281
  let c120_i32 : BitVec 32 := 120#32
  let c0_i32_226 : BitVec 32 := 0#32
  let c4_i32_225 : BitVec 32 := 4#32
  let v283 : BitVec 32 := Scalar.subi v282 c4_i32_225
  let v284 : BitVec 32 := Scalar.maxsi c0_i32_226 v283
  let v285 : BitVec 32 := Scalar.minsi c120_i32 v284
  let v287 : BitVec 32 := Scalar.subi v282 v285
  let v288 : BitVec 32 := Scalar.subi c7_i32 v287
  let v369 : BitVec 32 := Scalar.addi v288 c0_i32_288
  let v370 : Index := Scalar.indexCast v369
  let c0_290 : Index := 0#32
  let c0_291 : Index := 0#32
  ![3, v370.toNat, 0, 0]
def k0_off8 (i : grid0.Coords) (k0_t1 : Fin k0_t1_loop.trips) (c0_i32_224 : BitVec 32) (c0_i32_305 : BitVec 32) : Fin 4 → Nat :=
  let c4_306 : Index := 4#32
  let c7_i32 : BitVec 32 := 7#32
  let arg1 : BitVec 32 := BitVec.ofNat 32 (i 1).val
  let c16_i32 : BitVec 32 := 16#32
  let v0 : BitVec 32 := Scalar.muli arg1 c16_i32
  let c0_i32_221 : BitVec 32 := 0#32
  let c1_i32_222 : BitVec 32 := 1#32
  let arg9 : BitVec 32 := Scf.iv c0_i32_221 c1_i32_222 k0_t1
  let c8_i32 : BitVec 32 := 8#32
  let v280 : BitVec 32 := Scalar.muli arg9 c8_i32
  let v281 : BitVec 32 := Scalar.addi v280 c0_i32_224
  let v282 : BitVec 32 := Scalar.addi v0 v281
  let c120_i32 : BitVec 32 := 120#32
  let c0_i32_226 : BitVec 32 := 0#32
  let c4_i32_225 : BitVec 32 := 4#32
  let v283 : BitVec 32 := Scalar.subi v282 c4_i32_225
  let v284 : BitVec 32 := Scalar.maxsi c0_i32_226 v283
  let v285 : BitVec 32 := Scalar.minsi c120_i32 v284
  let v287 : BitVec 32 := Scalar.subi v282 v285
  let v288 : BitVec 32 := Scalar.subi c7_i32 v287
  let v390 : BitVec 32 := Scalar.addi v288 c0_i32_305
  let v391 : Index := Scalar.indexCast v390
  let c0_307 : Index := 0#32
  let c0_308 : Index := 0#32
  ![4, v391.toNat, 0, 0]
def k0_off9 (i : grid0.Coords) (k0_t1 : Fin k0_t1_loop.trips) (c0_i32_224 : BitVec 32) (c0_i32_322 : BitVec 32) : Fin 4 → Nat :=
  let c5_323 : Index := 5#32
  let c7_i32 : BitVec 32 := 7#32
  let arg1 : BitVec 32 := BitVec.ofNat 32 (i 1).val
  let c16_i32 : BitVec 32 := 16#32
  let v0 : BitVec 32 := Scalar.muli arg1 c16_i32
  let c0_i32_221 : BitVec 32 := 0#32
  let c1_i32_222 : BitVec 32 := 1#32
  let arg9 : BitVec 32 := Scf.iv c0_i32_221 c1_i32_222 k0_t1
  let c8_i32 : BitVec 32 := 8#32
  let v280 : BitVec 32 := Scalar.muli arg9 c8_i32
  let v281 : BitVec 32 := Scalar.addi v280 c0_i32_224
  let v282 : BitVec 32 := Scalar.addi v0 v281
  let c120_i32 : BitVec 32 := 120#32
  let c0_i32_226 : BitVec 32 := 0#32
  let c4_i32_225 : BitVec 32 := 4#32
  let v283 : BitVec 32 := Scalar.subi v282 c4_i32_225
  let v284 : BitVec 32 := Scalar.maxsi c0_i32_226 v283
  let v285 : BitVec 32 := Scalar.minsi c120_i32 v284
  let v287 : BitVec 32 := Scalar.subi v282 v285
  let v288 : BitVec 32 := Scalar.subi c7_i32 v287
  let v411 : BitVec 32 := Scalar.addi v288 c0_i32_322
  let v412 : Index := Scalar.indexCast v411
  let c0_324 : Index := 0#32
  let c0_325 : Index := 0#32
  ![5, v412.toNat, 0, 0]
def k0_off10 (i : grid0.Coords) (k0_t1 : Fin k0_t1_loop.trips) (c0_i32_224 : BitVec 32) (c0_i32_339 : BitVec 32) : Fin 4 → Nat :=
  let c6_340 : Index := 6#32
  let c7_i32 : BitVec 32 := 7#32
  let arg1 : BitVec 32 := BitVec.ofNat 32 (i 1).val
  let c16_i32 : BitVec 32 := 16#32
  let v0 : BitVec 32 := Scalar.muli arg1 c16_i32
  let c0_i32_221 : BitVec 32 := 0#32
  let c1_i32_222 : BitVec 32 := 1#32
  let arg9 : BitVec 32 := Scf.iv c0_i32_221 c1_i32_222 k0_t1
  let c8_i32 : BitVec 32 := 8#32
  let v280 : BitVec 32 := Scalar.muli arg9 c8_i32
  let v281 : BitVec 32 := Scalar.addi v280 c0_i32_224
  let v282 : BitVec 32 := Scalar.addi v0 v281
  let c120_i32 : BitVec 32 := 120#32
  let c0_i32_226 : BitVec 32 := 0#32
  let c4_i32_225 : BitVec 32 := 4#32
  let v283 : BitVec 32 := Scalar.subi v282 c4_i32_225
  let v284 : BitVec 32 := Scalar.maxsi c0_i32_226 v283
  let v285 : BitVec 32 := Scalar.minsi c120_i32 v284
  let v287 : BitVec 32 := Scalar.subi v282 v285
  let v288 : BitVec 32 := Scalar.subi c7_i32 v287
  let v432 : BitVec 32 := Scalar.addi v288 c0_i32_339
  let v433 : Index := Scalar.indexCast v432
  let c0_341 : Index := 0#32
  let c0_342 : Index := 0#32
  ![6, v433.toNat, 0, 0]
def k0_off11 (i : grid0.Coords) (k0_t1 : Fin k0_t1_loop.trips) (c0_i32_224 : BitVec 32) (c0_i32_356 : BitVec 32) : Fin 4 → Nat :=
  let c7_357 : Index := 7#32
  let c7_i32 : BitVec 32 := 7#32
  let arg1 : BitVec 32 := BitVec.ofNat 32 (i 1).val
  let c16_i32 : BitVec 32 := 16#32
  let v0 : BitVec 32 := Scalar.muli arg1 c16_i32
  let c0_i32_221 : BitVec 32 := 0#32
  let c1_i32_222 : BitVec 32 := 1#32
  let arg9 : BitVec 32 := Scf.iv c0_i32_221 c1_i32_222 k0_t1
  let c8_i32 : BitVec 32 := 8#32
  let v280 : BitVec 32 := Scalar.muli arg9 c8_i32
  let v281 : BitVec 32 := Scalar.addi v280 c0_i32_224
  let v282 : BitVec 32 := Scalar.addi v0 v281
  let c120_i32 : BitVec 32 := 120#32
  let c0_i32_226 : BitVec 32 := 0#32
  let c4_i32_225 : BitVec 32 := 4#32
  let v283 : BitVec 32 := Scalar.subi v282 c4_i32_225
  let v284 : BitVec 32 := Scalar.maxsi c0_i32_226 v283
  let v285 : BitVec 32 := Scalar.minsi c120_i32 v284
  let v287 : BitVec 32 := Scalar.subi v282 v285
  let v288 : BitVec 32 := Scalar.subi c7_i32 v287
  let v453 : BitVec 32 := Scalar.addi v288 c0_i32_356
  let v454 : Index := Scalar.indexCast v453
  let c0_358 : Index := 0#32
  let c0_359 : Index := 0#32
  ![7, v454.toNat, 0, 0]
def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c4_i32 : BitVec 32 := 4#32
  let c0_i32_0 : BitVec 32 := 0#32
  ![arg0.toNat, arg1.toNat, c0_i32.toNat, c4_i32.toNat]

def cc0_transform_1 (i : grid0.Coords) : Fin 4 → Nat :=
  let arg0 : BitVec 32 := BitVec.ofNat 32 (i 0).val
  let arg1 : BitVec 32 := BitVec.ofNat 32 (i 1).val
  let c16_i32 : BitVec 32 := 16#32
  let v0 : BitVec 32 := Scalar.muli arg1 c16_i32
  let c4_i32 : BitVec 32 := 4#32
  let v1 : BitVec 32 := Scalar.subi v0 c4_i32
  let c0_i32 : BitVec 32 := 0#32
  let c105_i32 : BitVec 32 := 105#32
  let v2 : BitVec 32 := Scalar.maxsi c0_i32 v1
  let v3 : BitVec 32 := Scalar.minsi c105_i32 v2
  let c0_i32_0 : BitVec 32 := 0#32
  let c2560_i32 : BitVec 32 := 2560#32
  let c0_i32_1 : BitVec 32 := 0#32
  ![arg0.toNat, v3.toNat, c0_i32_0.toNat, c2560_i32.toNat]

def cc0_transform_2 (i : grid0.Coords) : Fin 4 → Nat :=
  let arg0 : BitVec 32 := BitVec.ofNat 32 (i 0).val
  let arg1 : BitVec 32 := BitVec.ofNat 32 (i 1).val
  let c16_i32 : BitVec 32 := 16#32
  let v0 : BitVec 32 := Scalar.muli arg1 c16_i32
  let c4_i32 : BitVec 32 := 4#32
  let v1 : BitVec 32 := Scalar.subi v0 c4_i32
  let c0_i32 : BitVec 32 := 0#32
  let c105_i32 : BitVec 32 := 105#32
  let v2 : BitVec 32 := Scalar.maxsi c0_i32 v1
  let v3 : BitVec 32 := Scalar.minsi c105_i32 v2
  let c0_i32_0 : BitVec 32 := 0#32
  let c3072_i32 : BitVec 32 := 3072#32
  let c0_i32_1 : BitVec 32 := 0#32
  ![arg0.toNat, v3.toNat, c0_i32_0.toNat, c3072_i32.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x16x64x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x23x64x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x23x64x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S8x14x64x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x16x64x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ReferenceIdeal.lean ====
abbrev S32768x7168 : Shape := ⟨2, ![32768, 7168]⟩
abbrev S8x15x31 : Shape := ⟨3, ![8, 15, 31]⟩
abbrev S32768x512 : Shape := ⟨2, ![32768, 512]⟩
abbrev S4x128x64x8x64 : Shape := ⟨5, ![4, 128, 64, 8, 64]⟩
abbrev S128 : Shape := ⟨1, ![128]⟩
abbrev S_ : Shape := ⟨0, ![]⟩
abbrev S128x1 : Shape := ⟨2, ![128, 1]⟩
abbrev S8 : Shape := ⟨1, ![8]⟩
abbrev S1x8 : Shape := ⟨2, ![1, 8]⟩
abbrev S128x8 : Shape := ⟨2, ![128, 8]⟩
abbrev S64 : Shape := ⟨1, ![64]⟩
abbrev S64x1 : Shape := ⟨2, ![64, 1]⟩
abbrev S16 : Shape := ⟨1, ![16]⟩
abbrev S1x16 : Shape := ⟨2, ![1, 16]⟩
abbrev S64x16 : Shape := ⟨2, ![64, 16]⟩
abbrev S64x16x1 : Shape := ⟨3, ![64, 16, 1]⟩
abbrev S8x15x64x16 : Shape := ⟨4, ![8, 15, 64, 16]⟩
abbrev S128x8x1 : Shape := ⟨3, ![128, 8, 1]⟩
abbrev S8x128x8x64x16 : Shape := ⟨5, ![8, 128, 8, 64, 16]⟩
abbrev S4x128x8x64x8x64 : Shape := ⟨6, ![4, 128, 8, 64, 8, 64]⟩
abbrev S4x128x8x64x16x8x64 : Shape := ⟨7, ![4, 128, 8, 64, 16, 8, 64]⟩
abbrev S4x128x8x64x8x16 : Shape := ⟨6, ![4, 128, 8, 64, 8, 16]⟩
abbrev S128x8x64x8x16 : Shape := ⟨5, ![128, 8, 64, 8, 16]⟩
abbrev S1x128x8x64x8x16 : Shape := ⟨6, ![1, 128, 8, 64, 8, 16]⟩
abbrev S4x128x8x64x128 : Shape := ⟨5, ![4, 128, 8, 64, 128]⟩
abbrev S4x128x8x64 : Shape := ⟨4, ![4, 128, 8, 64]⟩
abbrev S4x128x8x64x1 : Shape := ⟨5, ![4, 128, 8, 64, 1]⟩
abbrev S4x128x64x512 : Shape := ⟨4, ![4, 128, 64, 512]⟩

abbrev nBuf : Space → Nat
  | .hbm => 96
  | .vmem => 0
  | .smem => 0
  | _ => 0

abbrev bufTy : (tb : Table) → Fin (tcTables nBuf tb) → BufTy
  | .hbm, ⟨0, _⟩ => ⟨S32768x7168, .bf16⟩
  | .hbm, ⟨1, _⟩ => ⟨S8x15x31, .f32⟩
  | .hbm, ⟨2, _⟩ => ⟨S32768x7168, .f32⟩
  | .hbm, ⟨3, _⟩ => ⟨S32768x512, .f32⟩
  | .hbm, ⟨4, _⟩ => ⟨S4x128x64x8x64, .f32⟩
  | .hbm, ⟨5, _⟩ => ⟨S32768x512, .f32⟩
  | .hbm, ⟨6, _⟩ => ⟨S4x128x64x8x64, .f32⟩
  | .hbm, ⟨7, _⟩ => ⟨S32768x512, .f32⟩
  | .hbm, ⟨8, _⟩ => ⟨S4x128x64x8x64, .f32⟩
  | .hbm, ⟨9, _⟩ => ⟨S128, .i32⟩
  | .hbm, ⟨10, _⟩ => ⟨S_, .i32⟩
  | .hbm, ⟨11, _⟩ => ⟨S128, .i32⟩
  | .hbm, ⟨12, _⟩ => ⟨S128, .i32⟩
  | .hbm, ⟨13, _⟩ => ⟨S_, .i32⟩
  | .hbm, ⟨14, _⟩ => ⟨S_, .i32⟩
  | .hbm, ⟨15, _⟩ => ⟨S_, .i32⟩
  | .hbm, ⟨16, _⟩ => ⟨S128, .i32⟩
  | .hbm, ⟨17, _⟩ => ⟨S128, .i32⟩
  | .hbm, ⟨18, _⟩ => ⟨S_, .i32⟩
  | .hbm, ⟨19, _⟩ => ⟨S128, .i32⟩
  | .hbm, ⟨20, _⟩ => ⟨S128, .i32⟩
  | .hbm, ⟨21, _⟩ => ⟨S128x1, .i32⟩
  | .hbm, ⟨22, _⟩ => ⟨S8, .i32⟩
  | .hbm, ⟨23, _⟩ => ⟨S1x8, .i32⟩
  | .hbm, ⟨24, _⟩ => ⟨S128x8, .i32⟩
  | .hbm, ⟨25, _⟩ => ⟨S128x8, .i32⟩
  | .hbm, ⟨26, _⟩ => ⟨S128x8, .i32⟩
  | .hbm, ⟨27, _⟩ => ⟨S64, .i32⟩
  | .hbm, ⟨28, _⟩ => ⟨S_, .i32⟩
  | .hbm, ⟨29, _⟩ => ⟨S64, .i32⟩
  | .hbm, ⟨30, _⟩ => ⟨S64, .i32⟩
  | .hbm, ⟨31, _⟩ => ⟨S_, .i32⟩
  | .hbm, ⟨32, _⟩ => ⟨S_, .i32⟩
  | .hbm, ⟨33, _⟩ => ⟨S_, .i32⟩
  | .hbm, ⟨34, _⟩ => ⟨S64, .i32⟩
  | .hbm, ⟨35, _⟩ => ⟨S64, .i32⟩
  | .hbm, ⟨36, _⟩ => ⟨S_, .i32⟩
  | .hbm, ⟨37, _⟩ => ⟨S64, .i32⟩
  | .hbm, ⟨38, _⟩ => ⟨S64, .i32⟩
  | .hbm, ⟨39, _⟩ => ⟨S64x1, .i32⟩
  | .hbm, ⟨40, _⟩ => ⟨S16, .i32⟩
  | .hbm, ⟨41, _⟩ => ⟨S1x16, .i32⟩
  | .hbm, ⟨42, _⟩ => ⟨S64x16, .i32⟩
  | .hbm, ⟨43, _⟩ => ⟨S64x16, .i32⟩
  | .hbm, ⟨44, _⟩ => ⟨S64x16, .i32⟩
  | .hbm, ⟨45, _⟩ => ⟨S128x1, .i32⟩
  | .hbm, ⟨46, _⟩ => ⟨S128x8, .i32⟩
  | .hbm, ⟨47, _⟩ => ⟨S128x8, .i32⟩
  | .hbm, ⟨48, _⟩ => ⟨S_, .i32⟩
  | .hbm, ⟨49, _⟩ => ⟨S128x8, .i32⟩
  | .hbm, ⟨50, _⟩ => ⟨S128x8, .i32⟩
  | .hbm, ⟨51, _⟩ => ⟨S64x1, .i32⟩
  | .hbm, ⟨52, _⟩ => ⟨S64x16, .i32⟩
  | .hbm, ⟨53, _⟩ => ⟨S64x16, .i32⟩
  | .hbm, ⟨54, _⟩ => ⟨S_, .i32⟩
  | .hbm, ⟨55, _⟩ => ⟨S64x16, .i32⟩
  | .hbm, ⟨56, _⟩ => ⟨S64x16, .i32⟩
  | .hbm, ⟨57, _⟩ => ⟨S64x16x1, .i32⟩
  | .hbm, ⟨58, _⟩ => ⟨S8x15x64x16, .f32⟩
  | .hbm, ⟨59, _⟩ => ⟨S128x8x1, .i32⟩
  | .hbm, ⟨60, _⟩ => ⟨S8x128x8x64x16, .f32⟩
  | .hbm, ⟨61, _⟩ => ⟨S128x8x1, .i32⟩
  | .hbm, ⟨62, _⟩ => ⟨S4x128x8x64x8x64, .f32⟩
  | .hbm, ⟨63, _⟩ => ⟨S64x16x1, .i32⟩
  | .hbm, ⟨64, _⟩ => ⟨S4x128x8x64x16x8x64, .f32⟩
  | .hbm, ⟨65, _⟩ => ⟨S128x8x1, .i32⟩
  | .hbm, ⟨66, _⟩ => ⟨S4x128x8x64x8x64, .f32⟩
  | .hbm, ⟨67, _⟩ => ⟨S64x16x1, .i32⟩
  | .hbm, ⟨68, _⟩ => ⟨S4x128x8x64x16x8x64, .f32⟩
  | .hbm, ⟨69, _⟩ => ⟨S4x128x8x64x8x16, .f32⟩
  | .hbm, ⟨70, _⟩ => ⟨S_, .f32⟩
  | .hbm, ⟨71, _⟩ => ⟨S4x128x8x64x8x16, .f32⟩
  | .hbm, ⟨72, _⟩ => ⟨S4x128x8x64x8x16, .f32⟩
  | .hbm, ⟨73, _⟩ => ⟨S128x8x64x8x16, .f32⟩
  | .hbm, ⟨74, _⟩ => ⟨S1x128x8x64x8x16, .f32⟩
  | .hbm, ⟨75, _⟩ => ⟨S4x128x8x64x8x16, .f32⟩
  | .hbm, ⟨76, _⟩ => ⟨S4x128x8x64x8x16, .f32⟩
  | .hbm, ⟨77, _⟩ => ⟨S4x128x8x64x128, .f32⟩
  | .hbm, ⟨78, _⟩ => ⟨S_, .f32⟩
  | .hbm, ⟨79, _⟩ => ⟨S4x128x8x64, .f32⟩
  | .hbm, ⟨80, _⟩ => ⟨S4x128x8x64x1, .f32⟩
  | .hbm, ⟨81, _⟩ => ⟨S4x128x8x64x128, .f32⟩
  | .hbm, ⟨82, _⟩ => ⟨S4x128x8x64x128, .f32⟩
  | .hbm, ⟨83, _⟩ => ⟨S4x128x8x64x128, .f32⟩
  | .hbm, ⟨84, _⟩ => ⟨S_, .f32⟩
  | .hbm, ⟨85, _⟩ => ⟨S4x128x8x64, .f32⟩
  | .hbm, ⟨86, _⟩ => ⟨S4x128x8x64x1, .f32⟩
  | .hbm, ⟨87, _⟩ => ⟨S_, .f32⟩
  | .hbm, ⟨88, _⟩ => ⟨S4x128x8x64x1, .f32⟩
  | .hbm, ⟨89, _⟩ => ⟨S4x128x8x64x1, .f32⟩
  | .hbm, ⟨90, _⟩ => ⟨S4x128x8x64x128, .f32⟩
  | .hbm, ⟨91, _⟩ => ⟨S4x128x8x64x128, .f32⟩
  | .hbm, ⟨92, _⟩ => ⟨S4x128x8x64x8x16, .f32⟩
  | .hbm, ⟨93, _⟩ => ⟨S4x128x64x8x64, .f32⟩
  | .hbm, ⟨94, _⟩ => ⟨S4x128x64x512, .f32⟩
  | .hbm, ⟨95, _⟩ => ⟨S4x128x64x512, .bf16⟩
  | _, _ => ⟨S32768x7168, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_c : Ref sig .tc := ⟨.hbm, 10, rfl⟩
abbrev main_v8 : Ref sig .tc := ⟨.hbm, 11, rfl⟩
abbrev main_v9 : Ref sig .tc := ⟨.hbm, 12, rfl⟩
abbrev main_c_0 : Ref sig .tc := ⟨.hbm, 13, rfl⟩
abbrev main_c_1 : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_c_2 : Ref sig .tc := ⟨.hbm, 28, rfl⟩
abbrev main_v18 : Ref sig .tc := ⟨.hbm, 29, rfl⟩
abbrev main_v19 : Ref sig .tc := ⟨.hbm, 30, rfl⟩
abbrev main_c_3 : Ref sig .tc := ⟨.hbm, 31, rfl⟩
abbrev main_c_4 : Ref sig .tc := ⟨.hbm, 32, rfl⟩
abbrev main_call1_v0 : Ref sig .tc := ⟨.hbm, 33, rfl⟩
abbrev main_call1_v1 : Ref sig .tc := ⟨.hbm, 34, rfl⟩
abbrev main_call1_v2 : Ref sig .tc := ⟨.hbm, 35, rfl⟩
abbrev main_call1_v3 : Ref sig .tc := ⟨.hbm, 36, rfl⟩
abbrev main_call1_v4 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_c_5 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_c_6 : Ref sig .tc := ⟨.hbm, 54, rfl⟩
abbrev main_v35 : Ref sig .tc := ⟨.hbm, 55, rfl⟩
abbrev main_v36 : Ref sig .tc := ⟨.hbm, 56, rfl⟩
abbrev main_call2_v0 : Ref sig .tc := ⟨.hbm, 57, rfl⟩
abbrev main_v37 : Ref sig .tc := ⟨.hbm, 58, rfl⟩
abbrev main_call3_v0 : Ref sig .tc := ⟨.hbm, 59, rfl⟩
abbrev main_v38 : Ref sig .tc := ⟨.hbm, 60, rfl⟩
abbrev main_call4_v0 : Ref sig .tc := ⟨.hbm, 61, rfl⟩
abbrev main_v39 : Ref sig .tc := ⟨.hbm, 62, rfl⟩
abbrev main_call5_v0 : Ref sig .tc := ⟨.hbm, 63, rfl⟩
abbrev main_v40 : Ref sig .tc := ⟨.hbm, 64, rfl⟩
abbrev main_call6_v0 : Ref sig .tc := ⟨.hbm, 65, rfl⟩
abbrev main_v41 : Ref sig .tc := ⟨.hbm, 66, rfl⟩
abbrev main_call7_v0 : Ref sig .tc := ⟨.hbm, 67, rfl⟩
abbrev main_v42 : Ref sig .tc := ⟨.hbm, 68, rfl⟩
abbrev main_v43 : Ref sig .tc := ⟨.hbm, 69, rfl⟩
abbrev main_cst : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_cst_7 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_cst_8 : Ref sig .tc := ⟨.hbm, 84, rfl⟩
abbrev main_v56 : Ref sig .tc := ⟨.hbm, 85, rfl⟩
abbrev main_v57 : Ref sig .tc := ⟨.hbm, 86, rfl⟩
abbrev main_cst_9 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩

abbrev nD : Nat := 1
abbrev τ : Topo := Topo.v7x

variable {F : FTy → Type} [FloatOps F]
-- ==== Kernel2.lean ====
abbrev S32768x1024 : Shape := ⟨2, ![32768, 1024]⟩
abbrev S1024 : Shape := ⟨1, ![1024]⟩
abbrev S1024x7072 : Shape := ⟨2, ![1024, 7072]⟩
abbrev S1024x1952 : Shape := ⟨2, ![1024, 1952]⟩
abbrev S_ : Shape := ⟨0, ![]⟩
abbrev S1024x96 : Shape := ⟨2, ![1024, 96]⟩
abbrev S1024x1536 : Shape := ⟨2, ![1024, 1536]⟩
abbrev S1024x3584 : Shape := ⟨2, ![1024, 3584]⟩
abbrev S1024x7168 : Shape := ⟨2, ![1024, 7168]⟩
abbrev S1x1024 : Shape := ⟨2, ![1, 1024]⟩
abbrev S32768x7168 : Shape := ⟨2, ![32768, 7168]⟩
abbrev S2048x1024 : Shape := ⟨2, ![2048, 1024]⟩
abbrev S1024x1792 : Shape := ⟨2, ![1024, 1792]⟩
abbrev S2048x1792 : Shape := ⟨2, ![2048, 1792]⟩
abbrev S512x1024 : Shape := ⟨2, ![512, 1024]⟩
abbrev S512 : Shape := ⟨1, ![512]⟩
abbrev S512x1 : Shape := ⟨2, ![512, 1]⟩
abbrev S512x1792 : Shape := ⟨2, ![512, 1792]⟩

abbrev nBuf : Space → Nat
  | .hbm => 12
  | .vmem => 8
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x7072, .f32⟩
  | .hbm, ⟨3, _⟩ => ⟨S1024x7072, .bf16⟩
  | .hbm, ⟨4, _⟩ => ⟨S1024x1952, .bf16⟩
  | .hbm, ⟨5, _⟩ => ⟨S_, .bf16⟩
  | .hbm, ⟨6, _⟩ => ⟨S1024x96, .bf16⟩
  | .hbm, ⟨7, _⟩ => ⟨S1024x1536, .bf16⟩
  | .hbm, ⟨8, _⟩ => ⟨S1024x3584, .bf16⟩
  | .hbm, ⟨9, _⟩ => ⟨S1024x7168, .bf16⟩
  | .hbm, ⟨10, _⟩ => ⟨S1x1024, .f32⟩
  | .hbm, ⟨11, _⟩ => ⟨S32768x7168, .bf16⟩
  | .local _ .vmem, ⟨0, _⟩ => ⟨S2048x1024, .f32⟩
  | .local _ .vmem, ⟨1, _⟩ => ⟨S2048x1024, .f32⟩
  | .local _ .vmem, ⟨2, _⟩ => ⟨S1x1024, .f32⟩
  | .local _ .vmem, ⟨3, _⟩ => ⟨S1024x1792, .bf16⟩
  | .local _ .vmem, ⟨4, _⟩ => ⟨S1024x1792, .bf16⟩
  | .local _ .vmem, ⟨5, _⟩ => ⟨S2048x1792, .bf16⟩
  | .local _ .vmem, ⟨6, _⟩ => ⟨S2048x1792, .bf16⟩
  | .local _ .vmem, ⟨7, _⟩ => ⟨S2048x1024, .bf16⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![16, 4], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c0_i32_1 : BitVec 32 := 0#32
  let v3 : BitVec 1 := Scalar.cmpi .sgt arg1 c0_i32_1
  let v4 : BitVec 32 := Scalar.extui v3
  let c0_i32_2 : BitVec 32 := 0#32
  let v5 : BitVec 1 := Scalar.cmpi .ne v4 c0_i32_2
  v5

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1792 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x1792 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference2Ideal.lean ====
abbrev S32768x1024 : Shape := ⟨2, ![32768, 1024]⟩
abbrev S1024 : Shape := ⟨1, ![1024]⟩
abbrev S1024x7072 : Shape := ⟨2, ![1024, 7072]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S32768x7072 : Shape := ⟨2, ![32768, 7072]⟩
abbrev S32768x1536 : Shape := ⟨2, ![32768, 1536]⟩
abbrev S32768x1952 : Shape := ⟨2, ![32768, 1952]⟩
abbrev S32768x3584 : Shape := ⟨2, ![32768, 3584]⟩
abbrev S32768x96 : Shape := ⟨2, ![32768, 96]⟩
abbrev S32768x7168 : Shape := ⟨2, ![32768, 7168]⟩

abbrev nBuf : Space → Nat
  | .hbm => 27
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x7072, .f32⟩
  | .hbm, ⟨3, _⟩ => ⟨S32768x1024, .f32⟩
  | .hbm, ⟨4, _⟩ => ⟨S_, .f32⟩
  | .hbm, ⟨5, _⟩ => ⟨S32768, .f32⟩
  | .hbm, ⟨6, _⟩ => ⟨S32768x1, .f32⟩
  | .hbm, ⟨7, _⟩ => ⟨S_, .f32⟩
  | .hbm, ⟨8, _⟩ => ⟨S32768x1, .f32⟩
  | .hbm, ⟨9, _⟩ => ⟨S32768x1, .f32⟩
  | .hbm, ⟨10, _⟩ => ⟨S_, .f32⟩
  | .hbm, ⟨11, _⟩ => ⟨S32768x1, .f32⟩
  | .hbm, ⟨12, _⟩ => ⟨S32768x1, .f32⟩
  | .hbm, ⟨13, _⟩ => ⟨S32768x1, .f32⟩
  | .hbm, ⟨14, _⟩ => ⟨S32768x1024, .f32⟩
  | .hbm, ⟨15, _⟩ => ⟨S32768x1024, .f32⟩
  | .hbm, ⟨16, _⟩ => ⟨S1x1024, .f32⟩
  | .hbm, ⟨17, _⟩ => ⟨S32768x1024, .f32⟩
  | .hbm, ⟨18, _⟩ => ⟨S32768x1024, .f32⟩
  | .hbm, ⟨19, _⟩ => ⟨S32768x7072, .f32⟩
  | .hbm, ⟨20, _⟩ => ⟨S32768x1536, .f32⟩
  | .hbm, ⟨21, _⟩ => ⟨S32768x1952, .f32⟩
  | .hbm, ⟨22, _⟩ => ⟨S32768x3584, .f32⟩
  | .hbm, ⟨23, _⟩ => ⟨S_, .f32⟩
  | .hbm, ⟨24, _⟩ => ⟨S32768x96, .f32⟩
  | .hbm, ⟨25, _⟩ => ⟨S32768x7168, .f32⟩
  | .hbm, ⟨26, _⟩ => ⟨S32768x7168, .bf16⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_2 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩

abbrev nD : Nat := 1
abbrev τ : Topo := Topo.v7x

variable {F : FTy → Type} [FloatOps F]
-- ==== Kernel3.lean ====
abbrev S32768x1024 : Shape := ⟨2, ![32768, 1024]⟩
abbrev S1024 : Shape := ⟨1, ![1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S1x1024 : Shape := ⟨2, ![1, 1024]⟩
abbrev S1x5632 : Shape := ⟨2, ![1, 5632]⟩
abbrev S2048x1024 : Shape := ⟨2, ![2048, 1024]⟩
abbrev S8x1024 : Shape := ⟨2, ![8, 1024]⟩
abbrev S1024x256 : Shape := ⟨2, ![1024, 256]⟩
abbrev S3x256 : Shape := ⟨2, ![3, 256]⟩
abbrev S1x256 : Shape := ⟨2, ![1, 256]⟩
abbrev S256x1024 : Shape := ⟨2, ![256, 1024]⟩
abbrev S2064x1024 : Shape := ⟨2, ![2064, 1024]⟩
abbrev S8 : Shape := ⟨1, ![8]⟩
abbrev S8x1 : Shape := ⟨2, ![8, 1]⟩
abbrev S520x1024 : Shape := ⟨2, ![520, 1024]⟩
abbrev S520 : Shape := ⟨1, ![520]⟩
abbrev S520x1 : Shape := ⟨2, ![520, 1]⟩
abbrev S528x1024 : Shape := ⟨2, ![528, 1024]⟩
abbrev S528x256 : Shape := ⟨2, ![528, 256]⟩
abbrev S512x1024 : Shape := ⟨2, ![512, 1024]⟩
abbrev S512 : Shape := ⟨1, ![512]⟩
abbrev S512x1 : Shape := ⟨2, ![512, 1]⟩
abbrev S504x1024 : Shape := ⟨2, ![504, 1024]⟩
abbrev S504 : Shape := ⟨1, ![504]⟩
abbrev S504x1 : Shape := ⟨2, ![504, 1]⟩
abbrev S512x256 : Shape := ⟨2, ![512, 256]⟩

abbrev nBuf : Space → Nat
  | .hbm => 13
  | .vmem => 26
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x5632, .f32⟩
  | .hbm, ⟨3, _⟩ => ⟨S3x5632, .f32⟩
  | .hbm, ⟨4, _⟩ => ⟨S5632, .f32⟩
  | .hbm, ⟨5, _⟩ => ⟨S2816x1024, .f32⟩
  | .hbm, ⟨6, _⟩ => ⟨S1024, .f32⟩
  | .hbm, ⟨7, _⟩ => ⟨S1x1024, .f32⟩
  | .hbm, ⟨8, _⟩ => ⟨S1024x5632, .bf16⟩
  | .hbm, ⟨9, _⟩ => ⟨S1x5632, .f32⟩
  | .hbm, ⟨10, _⟩ => ⟨S2816x1024, .bf16⟩
  | .hbm, ⟨11, _⟩ => ⟨S1x1024, .f32⟩
  | .hbm, ⟨12, _⟩ => ⟨S32768x1024, .f32⟩
  | .local _ .vmem, ⟨0, _⟩ => ⟨S2048x1024, .f32⟩
  | .local _ .vmem, ⟨1, _⟩ => ⟨S2048x1024, .f32⟩
  | .local _ .vmem, ⟨2, _⟩ => ⟨S8x1024, .f32⟩
  | .local _ .vmem, ⟨3, _⟩ => ⟨S8x1024, .f32⟩
  | .local _ .vmem, ⟨4, _⟩ => ⟨S8x1024, .f32⟩
  | .local _ .vmem, ⟨5, _⟩ => ⟨S8x1024, .f32⟩
  | .local _ .vmem, ⟨6, _⟩ => ⟨S1x1024, .f32⟩
  | .local _ .vmem, ⟨7, _⟩ => ⟨S1024x256, .bf16⟩
  | .local _ .vmem, ⟨8, _⟩ => ⟨S1024x256, .bf16⟩
  | .local _ .vmem, ⟨9, _⟩ => ⟨S1024x256, .bf16⟩
  | .local _ .vmem, ⟨10, _⟩ => ⟨S1024x256, .bf16⟩
  | .local _ .vmem, ⟨11, _⟩ => ⟨S3x256, .f32⟩
  | .local _ .vmem, ⟨12, _⟩ => ⟨S3x256, .f32⟩
  | .local _ .vmem, ⟨13, _⟩ => ⟨S3x256, .f32⟩
  | .local _ .vmem, ⟨14, _⟩ => ⟨S3x256, .f32⟩
  | .local _ .vmem, ⟨15, _⟩ => ⟨S1x256, .f32⟩
  | .local _ .vmem, ⟨16, _⟩ => ⟨S1x256, .f32⟩
  | .local _ .vmem, ⟨17, _⟩ => ⟨S1x256, .f32⟩
  | .local _ .vmem, ⟨18, _⟩ => ⟨S1x256, .f32⟩
  | .local _ .vmem, ⟨19, _⟩ => ⟨S256x1024, .bf16⟩
  | .local _ .vmem, ⟨20, _⟩ => ⟨S256x1024, .bf16⟩
  | .local _ .vmem, ⟨21, _⟩ => ⟨S1x1024, .f32⟩
  | .local _ .vmem, ⟨22, _⟩ => ⟨S2048x1024, .f32⟩
  | .local _ .vmem, ⟨23, _⟩ => ⟨S2048x1024, .f32⟩
  | .local _ .vmem, ⟨24, _⟩ => ⟨S2064x1024, .bf16⟩
  | .local _ .vmem, ⟨25, _⟩ => ⟨S2048x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg12_0 : Ref sig .tc := ⟨.vmem, 22, rfl⟩
abbrev cc0_stg12_1 : Ref sig .tc := ⟨.vmem, 23, rfl⟩
abbrev cc0_scratch0 : Ref sig .tc := ⟨.vmem, 24, rfl⟩
abbrev cc0_scratch1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem12_0 : DmaSem sig := 22
abbrev cc0_sem12_1 : DmaSem sig := 23

abbrev nD : Nat := 1
abbrev τ : Topo := Topo.v7x

variable {F : FTy → Type} [FloatOps F]

abbrev grid0 : Pipeline.Grid := ⟨2, ![16, 11], ![false, false]⟩

def k0_cond3 (i : grid0.Coords) : BitVec 1 :=
  let arg1 : BitVec 32 := BitVec.ofNat 32 (i 1).val
  let c10_i32_3 : BitVec 32 := 10#32
  let v8 : BitVec 1 := Scalar.cmpi .eq arg1 c10_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c256_i32 : BitVec 32 := 256#32
  let v0 : BitVec 32 := Scalar.muli arg0 c256_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c256_i32 : BitVec 32 := 256#32
  let v1 : BitVec 32 := Scalar.muli v0 c256_i32
  let c4095_i32 : BitVec 32 := 4095#32
  let v2 : BitVec 32 := Scalar.minsi v1 c4095_i32
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg1
  let c0_i32 : BitVec 32 := 0#32
  let c0_i32_0 : BitVec 32 := 0#32
  ![c0_i32.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg1
  let c0_i32 : BitVec 32 := 0#32
  let c0_i32_0 : BitVec 32 := 0#32
  ![c0_i32.toNat, v0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_9 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg1
  let c0_i32 : BitVec 32 := 0#32
  let c0_i32_0 : BitVec 32 := 0#32
  ![c0_i32.toNat, v0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S3x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S3x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S1x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, true]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S2048x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]
-- ==== Reference3Ideal.lean ====
abbrev S32768x1024 : Shape := ⟨2, ![32768, 1024]⟩
abbrev S1024 : Shape := ⟨1, ![1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S4x8192x1024 : Shape := ⟨3, ![4, 8192, 1024]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S4x8192x5632 : Shape := ⟨3, ![4, 8192, 5632]⟩
abbrev S4x8194x5632 : Shape := ⟨3, ![4, 8194, 5632]⟩
abbrev S1x5632 : Shape := ⟨2, ![1, 5632]⟩
abbrev S1x1x5632 : Shape := ⟨3, ![1, 1, 5632]⟩
abbrev S4x8192x2816 : Shape := ⟨3, ![4, 8192, 2816]⟩

abbrev nBuf : Space → Nat
  | .hbm => 82
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x5632, .f32⟩
  | .hbm, ⟨3, _⟩ => ⟨S3x5632, .f32⟩
  | .hbm, ⟨4, _⟩ => ⟨S5632, .f32⟩
  | .hbm, ⟨5, _⟩ => ⟨S2816x1024, .f32⟩
  | .hbm, ⟨6, _⟩ => ⟨S1024, .f32⟩
  | .hbm, ⟨7, _⟩ => ⟨S4x8192x1024, .f32⟩
  | .hbm, ⟨8, _⟩ => ⟨S4x8192x1024, .f32⟩
  | .hbm, ⟨9, _⟩ => ⟨S_, .f32⟩
  | .hbm, ⟨10, _⟩ => ⟨S4x8192, .f32⟩
  | .hbm, ⟨11, _⟩ => ⟨S4x8192x1, .f32⟩
  | .hbm, ⟨12, _⟩ => ⟨S_, .f32⟩
  | .hbm, ⟨13, _⟩ => ⟨S4x8192x1, .f32⟩
  | .hbm, ⟨14, _⟩ => ⟨S4x8192x1, .f32⟩
  | .hbm, ⟨15, _⟩ => ⟨S_, .f32⟩
  | .hbm, ⟨16, _⟩ => ⟨S4x8192x1, .f32⟩
  | .hbm, ⟨17, _⟩ => ⟨S4x8192x1, .f32⟩
  | .hbm, ⟨18, _⟩ => ⟨S4x8192x1, .f32⟩
  | .hbm, ⟨19, _⟩ => ⟨S4x8192x1024, .f32⟩
  | .hbm, ⟨20, _⟩ => ⟨S4x8192x1024, .f32⟩
  | .hbm, ⟨21, _⟩ => ⟨S1x1x1024, .f32⟩
  | .hbm, ⟨22, _⟩ => ⟨S4x8192x1024, .f32⟩
  | .hbm, ⟨23, _⟩ => ⟨S4x8192x1024, .f32⟩
  | .hbm, ⟨24, _⟩ => ⟨S4x8192x5632, .f32⟩
  | .hbm, ⟨25, _⟩ => ⟨S_, .i32⟩
  | .hbm, ⟨26, _⟩ => ⟨S_, .f32⟩
  | .hbm, ⟨27, _⟩ => ⟨S4x8194x5632, .f32⟩
  | .hbm, ⟨28, _⟩ => ⟨S4x8192x5632, .f32⟩
  | .hbm, ⟨29, _⟩ => ⟨S1x5632, .f32⟩
  | .hbm, ⟨30, _⟩ => ⟨S5632, .f32⟩
  | .hbm, ⟨31, _⟩ => ⟨S1x1x5632, .f32⟩
  | .hbm, ⟨32, _⟩ => ⟨S4x8192x5632, .f32⟩
  | .hbm, ⟨33, _⟩ => ⟨S4x8192x5632, .f32⟩
  | .hbm, ⟨34, _⟩ => ⟨S4x8192x5632, .f32⟩
  | .hbm, ⟨35, _⟩ => ⟨S1x5632, .f32⟩
  | .hbm, ⟨36, _⟩ => ⟨S5632, .f32⟩
  | .hbm, ⟨37, _⟩ => ⟨S1x1x5632, .f32⟩
  | .hbm, ⟨38, _⟩ => ⟨S4x8192x5632, .f32⟩
  | .hbm, ⟨39, _⟩ => ⟨S4x8192x5632, .f32⟩
  | .hbm, ⟨40, _⟩ => ⟨S4x8192x5632, .f32⟩
  | .hbm, ⟨41, _⟩ => ⟨S4x8192x5632, .f32⟩
  | .hbm, ⟨42, _⟩ => ⟨S1x5632, .f32⟩
  | .hbm, ⟨43, _⟩ => ⟨S5632, .f32⟩
  | .hbm, ⟨44, _⟩ => ⟨S1x1x5632, .f32⟩
  | .hbm, ⟨45, _⟩ => ⟨S4x8192x5632, .f32⟩
  | .hbm, ⟨46, _⟩ => ⟨S4x8192x5632, .f32⟩
  | .hbm, ⟨47, _⟩ => ⟨S4x8192x5632, .f32⟩
  | .hbm, ⟨48, _⟩ => ⟨S1x1x5632, .f32⟩
  | .hbm, ⟨49, _⟩ => ⟨S4x8192x5632, .f32⟩
  | .hbm, ⟨50, _⟩ => ⟨S4x8192x5632, .f32⟩
  | .hbm, ⟨51, _⟩ => ⟨S4x8192x2816, .f32⟩
  | .hbm, ⟨52, _⟩ => ⟨S4x8192x2816, .f32⟩
  | .hbm, ⟨53, _⟩ => ⟨S4x8192x2816, .f32⟩
  | .hbm, ⟨54, _⟩ => ⟨S4x8192x2816, .f32⟩
  | .hbm, ⟨55, _⟩ => ⟨S_, .f32⟩
  | .hbm, ⟨56, _⟩ => ⟨S4x8192x2816, .f32⟩
  | .hbm, ⟨57, _⟩ => ⟨S4x8192x2816, .f32⟩
  | .hbm, ⟨58, _⟩ => ⟨S_, .f32⟩
  | .hbm, ⟨59, _⟩ => ⟨S4x8192x2816, .f32⟩
  | .hbm, ⟨60, _⟩ => ⟨S4x8192x2816, .f32⟩
  | .hbm, ⟨61, _⟩ => ⟨S4x8192x2816, .f32⟩
  | .hbm, ⟨62, _⟩ => ⟨S4x8192x2816, .f32⟩
  | .hbm, ⟨63, _⟩ => ⟨S4x8192x1024, .f32⟩
  | .hbm, ⟨64, _⟩ => ⟨S4x8192x1024, .f32⟩
  | .hbm, ⟨65, _⟩ => ⟨S4x8192x1024, .f32⟩
  | .hbm, ⟨66, _⟩ => ⟨S_, .f32⟩
  | .hbm, ⟨67, _⟩ => ⟨S4x8192, .f32⟩
  | .hbm, ⟨68, _⟩ => ⟨S4x8192x1, .f32⟩
  | .hbm, ⟨69, _⟩ => ⟨S_, .f32⟩
  | .hbm, ⟨70, _⟩ => ⟨S4x8192x1, .f32⟩
  | .hbm, ⟨71, _⟩ => ⟨S4x8192x1, .f32⟩
  | .hbm, ⟨72, _⟩ => ⟨S_, .f32⟩
  | .hbm, ⟨73, _⟩ => ⟨S4x8192x1, .f32⟩
  | .hbm, ⟨74, _⟩ => ⟨S4x8192x1, .f32⟩
  | .hbm, ⟨75, _⟩ => ⟨S4x8192x1, .f32⟩
  | .hbm, ⟨76, _⟩ => ⟨S4x8192x1024, .f32⟩
  | .hbm, ⟨77, _⟩ => ⟨S4x8192x1024, .f32⟩
  | .hbm, ⟨78, _⟩ => ⟨S1x1x1024, .f32⟩
  | .hbm, ⟨79, _⟩ => ⟨S4x8192x1024, .f32⟩
  | .hbm, ⟨80, _⟩ => ⟨S4x8192x1024, .f32⟩
  | .hbm, ⟨81, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_c : Ref sig .tc := ⟨.hbm, 25, rfl⟩
abbrev main_call0_v0 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_cst_2 : Ref sig .tc := ⟨.hbm, 55, rfl⟩
abbrev main_v43 : Ref sig .tc := ⟨.hbm, 56, rfl⟩
abbrev main_v44 : Ref sig .tc := ⟨.hbm, 57, rfl⟩
abbrev main_cst_3 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_cst_4 : Ref sig .tc := ⟨.hbm, 66, rfl⟩
abbrev main_v52 : Ref sig .tc := ⟨.hbm, 67, rfl⟩
abbrev main_v53 : Ref sig .tc := ⟨.hbm, 68, rfl⟩
abbrev main_cst_5 : Ref sig .tc := ⟨.hbm, 69, rfl⟩
abbrev main_v54 : Ref sig .tc := ⟨.hbm, 70, rfl⟩
abbrev main_v55 : Ref sig .tc := ⟨.hbm, 71, rfl⟩
abbrev main_cst_6 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩

abbrev nD : Nat := 1
abbrev τ : Topo := Topo.v7x

variable {F : FTy → Type} [FloatOps F]
-- ==== Kernel4.lean ====
abbrev S32768x1024 : Shape := ⟨2, ![32768, 1024]⟩
abbrev S32768x7168 : Shape := ⟨2, ![32768, 7168]⟩
abbrev S32768x512 : Shape := ⟨2, ![32768, 512]⟩
abbrev S4x8192x512 : Shape := ⟨3, ![4, 8192, 512]⟩
abbrev S3x512x1024 : Shape := ⟨3, ![3, 512, 1024]⟩
abbrev S1024x1024 : Shape := ⟨2, ![1024, 1024]⟩
abbrev S512 : Shape := ⟨1, ![512]⟩
abbrev S_ : Shape := ⟨0, ![]⟩
abbrev S1x512 : Shape := ⟨2, ![1, 512]⟩
abbrev S512x1 : Shape := ⟨2, ![512, 1]⟩
abbrev S512x512 : Shape := ⟨2, ![512, 512]⟩
abbrev S512x1024 : Shape := ⟨2, ![512, 1024]⟩
abbrev S1x512x1024 : Shape := ⟨3, ![1, 512, 1024]⟩

abbrev nBuf : Space → Nat
  | .hbm => 34
  | .vmem => 29
  | .smem => 0
  | _ => 0

abbrev bufTy : (tb : Table) → Fin (tcTables nBuf tb) → BufTy
  | .hbm, ⟨0, _⟩ => ⟨S32768x1024, .f32⟩
  | .hbm, ⟨1, _⟩ => ⟨S32768x7168, .bf16⟩
  | .hbm, ⟨2, _⟩ => ⟨S32768x512, .bf16⟩
  | .hbm, ⟨3, _⟩ => ⟨S4x8192x512, .bf16⟩
  | .hbm, ⟨4, _⟩ => ⟨S4x8192x512, .bf16⟩
  | .hbm, ⟨5, _⟩ => ⟨S4x8192x512, .bf16⟩
  | .hbm, ⟨6, _⟩ => ⟨S4x8192x512, .bf16⟩
  | .hbm, ⟨7, _⟩ => ⟨S4x8192x512, .bf16⟩
  | .hbm, ⟨8, _⟩ => ⟨S32768x512, .bf16⟩
  | .hbm, ⟨9, _⟩ => ⟨S3x512x1024, .f32⟩
  | .hbm, ⟨10, _⟩ => ⟨S1024x1024, .f32⟩
  | .hbm, ⟨11, _⟩ => ⟨S512, .f32⟩
  | .hbm, ⟨12, _⟩ => ⟨S512, .f32⟩
  | .hbm, ⟨13, _⟩ => ⟨S512, .i32⟩
  | .hbm, ⟨14, _⟩ => ⟨S_, .i32⟩
  | .hbm, ⟨15, _⟩ => ⟨S512, .i32⟩
  | .hbm, ⟨16, _⟩ => ⟨S512, .i32⟩
  | .hbm, ⟨17, _⟩ => ⟨S3x512x1024, .bf16⟩
  | .hbm, ⟨18, _⟩ => ⟨S1024x1024, .bf16⟩
  | .hbm, ⟨19, _⟩ => ⟨S1x512, .f32⟩
  | .hbm, ⟨20, _⟩ => ⟨S1x512, .f32⟩
  | .hbm, ⟨21, _⟩ => ⟨S512x1, .i32⟩
  | .hbm, ⟨22, _⟩ => ⟨S1x512, .i32⟩
  | .hbm, ⟨23, _⟩ => ⟨S512x512, .i32⟩
  | .hbm, ⟨24, _⟩ => ⟨S512x512, .i32⟩
  | .hbm, ⟨25, _⟩ => ⟨S512x512, .i1⟩
  | .hbm, ⟨26, _⟩ => ⟨S512x512, .bf16⟩
  | .hbm, ⟨27, _⟩ => ⟨S32768x512, .bf16⟩
  | .hbm, ⟨28, _⟩ => ⟨S32768x512, .bf16⟩
  | .hbm, ⟨29, _⟩ => ⟨S32768x512, .bf16⟩
  | .hbm, ⟨30, _⟩ => ⟨S32768x512, .bf16⟩
  | .hbm, ⟨31, _⟩ => ⟨S32768x512, .bf16⟩
  | .hbm, ⟨32, _⟩ => ⟨S32768x512, .bf16⟩
  | .hbm, ⟨33, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | .local _ .vmem, ⟨9, _⟩ => ⟨S512x512, .bf16⟩
  | .local _ .vmem, ⟨10, _⟩ => ⟨S512x512, .bf16⟩
  | .local _ .vmem, ⟨11, _⟩ => ⟨S512x512, .bf16⟩
  | .local _ .vmem, ⟨12, _⟩ => ⟨S512x512, .bf16⟩
  | .local _ .vmem, ⟨13, _⟩ => ⟨S512x512, .bf16⟩
  | .local _ .vmem, ⟨14, _⟩ => ⟨S512x512, .bf16⟩
  | .local _ .vmem, ⟨15, _⟩ => ⟨S512x512, .bf16⟩
  | .local _ .vmem, ⟨16, _⟩ => ⟨S512x1024, .bf16⟩
  | .local _ .vmem, ⟨17, _⟩ => ⟨S512x1024, .bf16⟩
  | .local _ .vmem, ⟨18, _⟩ => ⟨S512x1024, .bf16⟩
  | .local _ .vmem, ⟨19, _⟩ => ⟨S512x1024, .bf16⟩
  | .local _ .vmem, ⟨20, _⟩ => ⟨S512x1024, .bf16⟩
  | .local _ .vmem, ⟨21, _⟩ => ⟨S512x1024, .bf16⟩
  | .local _ .vmem, ⟨22, _⟩ => ⟨S3x512x1024, .bf16⟩
  | .local _ .vmem, ⟨23, _⟩ => ⟨S1024x1024, .bf16⟩
  | .local _ .vmem, ⟨24, _⟩ => ⟨S1x512, .f32⟩
  | .local _ .vmem, ⟨25, _⟩ => ⟨S1x512, .f32⟩
  | .local _ .vmem, ⟨26, _⟩ => ⟨S512x512, .bf16⟩
  | .local _ .vmem, ⟨27, _⟩ => ⟨S512x1024, .f32⟩
  | .local _ .vmem, ⟨28, _⟩ => ⟨S512x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_c : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg12_0 : Ref sig .tc := ⟨.vmem, 23, rfl⟩
abbrev cc0_stg13_0 : Ref sig .tc := ⟨.vmem, 24, rfl⟩
abbrev cc0_stg14_0 : Ref sig .tc := ⟨.vmem, 25, rfl⟩
abbrev cc0_stg15_0 : Ref sig .tc := ⟨.vmem, 26, rfl⟩
abbrev cc0_stg16_0 : Ref sig .tc := ⟨.vmem, 27, rfl⟩
abbrev cc0_stg16_1 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem12_0 : DmaSem sig := 23
abbrev cc0_sem13_0 : DmaSem sig := 24
abbrev cc0_sem14_0 : DmaSem sig := 25
abbrev cc0_sem15_0 : DmaSem sig := 26
abbrev cc0_sem16_0 : DmaSem sig := 27
abbrev cc0_sem16_1 : DmaSem sig := 28

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_9 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_10 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S3x512x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1024x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x512 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S512x512 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 2 → Memref sig .tc .vmem S512x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== Reference4Ideal.lean ====
abbrev S32768x1024 : Shape := ⟨2, ![32768, 1024]⟩
abbrev S32768x7168 : Shape := ⟨2, ![32768, 7168]⟩
abbrev S32768x512 : Shape := ⟨2, ![32768, 512]⟩
abbrev S4x8192x512 : Shape := ⟨3, ![4, 8192, 512]⟩
abbrev S3x512x1024 : Shape := ⟨3, ![3, 512, 1024]⟩
abbrev S1024x1024 : Shape := ⟨2, ![1024, 1024]⟩
abbrev S512 : Shape := ⟨1, ![512]⟩
abbrev S32768x8x64 : Shape := ⟨3, ![32768, 8, 64]⟩
abbrev S_ : Shape := ⟨0, ![]⟩
abbrev S32768x8 : Shape := ⟨2, ![32768, 8]⟩
abbrev S32768x8x1 : Shape := ⟨3, ![32768, 8, 1]⟩
abbrev S1x512 : Shape := ⟨2, ![1, 512]⟩
abbrev S32768x3072 : Shape := ⟨2, ![32768, 3072]⟩
abbrev S32768x3x1024 : Shape := ⟨3, ![32768, 3, 1024]⟩
abbrev S32768x1x1024 : Shape := ⟨3, ![32768, 1, 1024]⟩
abbrev S1x512x1024 : Shape := ⟨3, ![1, 512, 1024]⟩
abbrev S512x1024 : Shape := ⟨2, ![512, 1024]⟩

abbrev nBuf : Space → Nat
  | .hbm => 93
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S32768x7168, .bf16⟩
  | .hbm, ⟨2, _⟩ => ⟨S32768x512, .bf16⟩
  | .hbm, ⟨3, _⟩ => ⟨S4x8192x512, .bf16⟩
  | .hbm, ⟨4, _⟩ => ⟨S4x8192x512, .bf16⟩
  | .hbm, ⟨5, _⟩ => ⟨S4x8192x512, .bf16⟩
  | .hbm, ⟨6, _⟩ => ⟨S4x8192x512, .bf16⟩
  | .hbm, ⟨7, _⟩ => ⟨S4x8192x512, .bf16⟩
  | .hbm, ⟨8, _⟩ => ⟨S32768x512, .bf16⟩
  | .hbm, ⟨9, _⟩ => ⟨S3x512x1024, .f32⟩
  | .hbm, ⟨10, _⟩ => ⟨S1024x1024, .f32⟩
  | .hbm, ⟨11, _⟩ => ⟨S512, .f32⟩
  | .hbm, ⟨12, _⟩ => ⟨S512, .f32⟩
  | .hbm, ⟨13, _⟩ => ⟨S4x8192x512, .f32⟩
  | .hbm, ⟨14, _⟩ => ⟨S32768x512, .f32⟩
  | .hbm, ⟨15, _⟩ => ⟨S4x8192x512, .f32⟩
  | .hbm, ⟨16, _⟩ => ⟨S32768x512, .f32⟩
  | .hbm, ⟨17, _⟩ => ⟨S32768x512, .f32⟩
  | .hbm, ⟨18, _⟩ => ⟨S32768x8x64, .f32⟩
  | .hbm, ⟨19, _⟩ => ⟨S_, .f32⟩
  | .hbm, ⟨20, _⟩ => ⟨S32768x8, .f32⟩
  | .hbm, ⟨21, _⟩ => ⟨S32768x8x1, .f32⟩
  | .hbm, ⟨22, _⟩ => ⟨S_, .f32⟩
  | .hbm, ⟨23, _⟩ => ⟨S32768x8x1, .f32⟩
  | .hbm, ⟨24, _⟩ => ⟨S32768x8x1, .f32⟩
  | .hbm, ⟨25, _⟩ => ⟨S32768x8x64, .f32⟩
  | .hbm, ⟨26, _⟩ => ⟨S32768x8x64, .f32⟩
  | .hbm, ⟨27, _⟩ => ⟨S32768x8x64, .f32⟩
  | .hbm, ⟨28, _⟩ => ⟨S_, .f32⟩
  | .hbm, ⟨29, _⟩ => ⟨S32768x8, .f32⟩
  | .hbm, ⟨30, _⟩ => ⟨S32768x8x1, .f32⟩
  | .hbm, ⟨31, _⟩ => ⟨S_, .f32⟩
  | .hbm, ⟨32, _⟩ => ⟨S32768x8x1, .f32⟩
  | .hbm, ⟨33, _⟩ => ⟨S32768x8x1, .f32⟩
  | .hbm, ⟨34, _⟩ => ⟨S32768x8x64, .f32⟩
  | .hbm, ⟨35, _⟩ => ⟨S32768x8x64, .f32⟩
  | .hbm, ⟨36, _⟩ => ⟨S_, .f32⟩
  | .hbm, ⟨37, _⟩ => ⟨S32768x8x1, .f32⟩
  | .hbm, ⟨38, _⟩ => ⟨S32768x8x1, .f32⟩
  | .hbm, ⟨39, _⟩ => ⟨S32768x8x1, .f32⟩
  | .hbm, ⟨40, _⟩ => ⟨S32768x8x64, .f32⟩
  | .hbm, ⟨41, _⟩ => ⟨S32768x8x64, .f32⟩
  | .hbm, ⟨42, _⟩ => ⟨S32768x512, .f32⟩
  | .hbm, ⟨43, _⟩ => ⟨S1x512, .f32⟩
  | .hbm, ⟨44, _⟩ => ⟨S32768x512, .f32⟩
  | .hbm, ⟨45, _⟩ => ⟨S32768x512, .f32⟩
  | .hbm, ⟨46, _⟩ => ⟨S1x512, .f32⟩
  | .hbm, ⟨47, _⟩ => ⟨S32768x512, .f32⟩
  | .hbm, ⟨48, _⟩ => ⟨S32768x512, .f32⟩
  | .hbm, ⟨49, _⟩ => ⟨S4x8192x512, .f32⟩
  | .hbm, ⟨50, _⟩ => ⟨S32768x512, .f32⟩
  | .hbm, ⟨51, _⟩ => ⟨S4x8192x512, .f32⟩
  | .hbm, ⟨52, _⟩ => ⟨S32768x512, .f32⟩
  | .hbm, ⟨53, _⟩ => ⟨S32768x512, .f32⟩
  | .hbm, ⟨54, _⟩ => ⟨S32768x512, .f32⟩
  | .hbm, ⟨55, _⟩ => ⟨S4x8192x512, .f32⟩
  | .hbm, ⟨56, _⟩ => ⟨S32768x512, .f32⟩
  | .hbm, ⟨57, _⟩ => ⟨S32768x512, .f32⟩
  | .hbm, ⟨58, _⟩ => ⟨S32768x3072, .bf16⟩
  | .hbm, ⟨59, _⟩ => ⟨S32768x3072, .f32⟩
  | .hbm, ⟨60, _⟩ => ⟨S32768x3072, .f32⟩
  | .hbm, ⟨61, _⟩ => ⟨S32768x3072, .f32⟩
  | .hbm, ⟨62, _⟩ => ⟨S_, .f32⟩
  | .hbm, ⟨63, _⟩ => ⟨S32768x3072, .f32⟩
  | .hbm, ⟨64, _⟩ => ⟨S32768x3072, .f32⟩
  | .hbm, ⟨65, _⟩ => ⟨S_, .f32⟩
  | .hbm, ⟨66, _⟩ => ⟨S32768x3072, .f32⟩
  | .hbm, ⟨67, _⟩ => ⟨S32768x3072, .f32⟩
  | .hbm, ⟨68, _⟩ => ⟨S32768x3x1024, .f32⟩
  | .hbm, ⟨69, _⟩ => ⟨S32768x1x1024, .f32⟩
  | .hbm, ⟨70, _⟩ => ⟨S32768x1024, .f32⟩
  | .hbm, ⟨71, _⟩ => ⟨S32768x512, .f32⟩
  | .hbm, ⟨72, _⟩ => ⟨S1x512x1024, .f32⟩
  | .hbm, ⟨73, _⟩ => ⟨S512x1024, .f32⟩
  | .hbm, ⟨74, _⟩ => ⟨S32768x1024, .f32⟩
  | .hbm, ⟨75, _⟩ => ⟨S32768x1024, .f32⟩
  | .hbm, ⟨76, _⟩ => ⟨S32768x1x1024, .f32⟩
  | .hbm, ⟨77, _⟩ => ⟨S32768x1024, .f32⟩
  | .hbm, ⟨78, _⟩ => ⟨S1x512x1024, .f32⟩
  | .hbm, ⟨79, _⟩ => ⟨S512x1024, .f32⟩
  | .hbm, ⟨80, _⟩ => ⟨S32768x1024, .f32⟩
  | .hbm, ⟨81, _⟩ => ⟨S32768x1024, .f32⟩
  | .hbm, ⟨82, _⟩ => ⟨S32768x1024, .f32⟩
  | .hbm, ⟨83, _⟩ => ⟨S32768x1x1024, .f32⟩
  | .hbm, ⟨84, _⟩ => ⟨S32768x1024, .f32⟩
  | .hbm, ⟨85, _⟩ => ⟨S32768x512, .f32⟩
  | .hbm, ⟨86, _⟩ => ⟨S1x512x1024, .f32⟩
  | .hbm, ⟨87, _⟩ => ⟨S512x1024, .f32⟩
  | .hbm, ⟨88, _⟩ => ⟨S32768x1024, .f32⟩
  | .hbm, ⟨89, _⟩ => ⟨S32768x1024, .f32⟩
  | .hbm, ⟨90, _⟩ => ⟨S32768x1024, .f32⟩
  | .hbm, ⟨91, _⟩ => ⟨S32768x1024, .f32⟩
  | .hbm, ⟨92, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_cst : Ref sig .tc := ⟨.hbm, 19, rfl⟩
abbrev main_v6 : Ref sig .tc := ⟨.hbm, 20, rfl⟩
abbrev main_v7 : Ref sig .tc := ⟨.hbm, 21, rfl⟩
abbrev main_cst_0 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_cst_1 : Ref sig .tc := ⟨.hbm, 28, rfl⟩
abbrev main_v13 : Ref sig .tc := ⟨.hbm, 29, rfl⟩
abbrev main_v14 : Ref sig .tc := ⟨.hbm, 30, rfl⟩
abbrev main_cst_2 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_cst_3 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_cst_4 : Ref sig .tc := ⟨.hbm, 62, rfl⟩
abbrev main_v44 : Ref sig .tc := ⟨.hbm, 63, rfl⟩
abbrev main_v45 : Ref sig .tc := ⟨.hbm, 64, rfl⟩
abbrev main_cst_5 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩

abbrev nD : Nat := 1
abbrev τ : Topo := Topo.v7x

variable {F : FTy → Type} [FloatOps F]
-- ==== Kernel5.lean ====
abbrev S32768x7168 : Shape := ⟨2, ![32768, 7168]⟩
abbrev S4x256x1024 : Shape := ⟨3, ![4, 256, 1024]⟩
abbrev S1024 : Shape := ⟨1, ![1024]⟩
abbrev S1024x1024 : Shape := ⟨2, ![1024, 1024]⟩
abbrev S1x1024 : Shape := ⟨2, ![1, 1024]⟩
abbrev S1x256x1024 : Shape := ⟨3, ![1, 256, 1024]⟩
abbrev S256x1024 : Shape := ⟨2, ![256, 1024]⟩
abbrev S256 : Shape := ⟨1, ![256]⟩
abbrev S256x1 : Shape := ⟨2, ![256, 1]⟩
abbrev S4x8192x7168 : Shape := ⟨3, ![4, 8192, 7168]⟩
abbrev S4x8192x512 : Shape := ⟨3, ![4, 8192, 512]⟩
abbrev S1x1024x512 : Shape := ⟨3, ![1, 1024, 512]⟩
abbrev S1x1024x128 : Shape := ⟨3, ![1, 1024, 128]⟩
abbrev S1024x128 : Shape := ⟨2, ![1024, 128]⟩
abbrev S1x256x128 : Shape := ⟨3, ![1, 256, 128]⟩
abbrev S256x128 : Shape := ⟨2, ![256, 128]⟩
abbrev S1024x256 : Shape := ⟨2, ![1024, 256]⟩
abbrev S1024x1 : Shape := ⟨2, ![1024, 1]⟩
abbrev S1024x512 : Shape := ⟨2, ![1024, 512]⟩

abbrev nBuf : Space → Nat
  | .hbm => 9
  | .vmem => 12
  | .smem => 0
  | _ => 0

abbrev bufTy : (tb : Table) → Fin (tcTables nBuf tb) → BufTy
  | .hbm, ⟨0, _⟩ => ⟨S32768x7168, .bf16⟩
  | .hbm, ⟨1, _⟩ => ⟨S4x256x1024, .f32⟩
  | .hbm, ⟨2, _⟩ => ⟨S1024, .f32⟩
  | .hbm, ⟨3, _⟩ => ⟨S1024x1024, .f32⟩
  | .hbm, ⟨4, _⟩ => ⟨S1x1024, .f32⟩
  | .hbm, ⟨5, _⟩ => ⟨S1024x1024, .bf16⟩
  | .hbm, ⟨6, _⟩ => ⟨S4x256x1024, .bf16⟩
  | .hbm, ⟨7, _⟩ => ⟨S4x8192x7168, .bf16⟩
  | .hbm, ⟨8, _⟩ => ⟨S4x8192x512, .bf16⟩
  | .local _ .vmem, ⟨0, _⟩ => ⟨S1x256x1024, .f32⟩
  | .local _ .vmem, ⟨1, _⟩ => ⟨S1x256x1024, .f32⟩
  | .local _ .vmem, ⟨2, _⟩ => ⟨S1x1024, .f32⟩
  | .local _ .vmem, ⟨3, _⟩ => ⟨S1024x1024, .bf16⟩
  | .local _ .vmem, ⟨4, _⟩ => ⟨S1x256x1024, .bf16⟩
  | .local _ .vmem, ⟨5, _⟩ => ⟨S1x256x1024, .bf16⟩
  | .local _ .vmem, ⟨6, _⟩ => ⟨S1x1024x512, .bf16⟩
  | .local _ .vmem, ⟨7, _⟩ => ⟨S1x1024x512, .bf16⟩
  | .local _ .vmem, ⟨8, _⟩ => ⟨S1x256x1024, .bf16⟩
  | .local _ .vmem, ⟨9, _⟩ => ⟨S1x256x1024, .bf16⟩
  | .local _ .vmem, ⟨10, _⟩ => ⟨S1x1024x512, .bf16⟩
  | .local _ .vmem, ⟨11, _⟩ => ⟨S1x1024x512, .bf16⟩
  | _, _ => ⟨S32768x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨2, ![4, 8], ![false, false]⟩

def cc1_transform_0 (i : grid1.Coords) : Fin 3 → Nat :=
  let arg0 : BitVec 32 := BitVec.ofNat 32 (i 0).val
  let arg1 : BitVec 32 := BitVec.ofNat 32 (i 1).val
  let c7_i32 : BitVec 32 := 7#32
  let c0_i32 : BitVec 32 := 0#32
  ![arg0.toNat, arg1.toNat, c7_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x1024x512 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x256x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x1024x512 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]
-- ==== Reference5Ideal.lean ====
abbrev S32768x7168 : Shape := ⟨2, ![32768, 7168]⟩
abbrev S4x256x1024 : Shape := ⟨3, ![4, 256, 1024]⟩
abbrev S1024 : Shape := ⟨1, ![1024]⟩
abbrev S1024x1024 : Shape := ⟨2, ![1024, 1024]⟩
abbrev S_ : Shape := ⟨0, ![]⟩
abbrev S4x256 : Shape := ⟨2, ![4, 256]⟩
abbrev S4x256x1 : Shape := ⟨3, ![4, 256, 1]⟩
abbrev S1x1x1024 : Shape := ⟨3, ![1, 1, 1024]⟩
abbrev S32768x512 : Shape := ⟨2, ![32768, 512]⟩
abbrev S4x8192x4x128 : Shape := ⟨4, ![4, 8192, 4, 128]⟩
abbrev S4x256x512 : Shape := ⟨3, ![4, 256, 512]⟩
abbrev S4x256x4x128 : Shape := ⟨4, ![4, 256, 4, 128]⟩
abbrev S4x4x8192x256 : Shape := ⟨4, ![4, 4, 8192, 256]⟩
abbrev S4x4x8192 : Shape := ⟨3, ![4, 4, 8192]⟩
abbrev S4x4x8192x1 : Shape := ⟨4, ![4, 4, 8192, 1]⟩
abbrev S4x8192x4 : Shape := ⟨3, ![4, 8192, 4]⟩
abbrev S4x8192x4x1 : Shape := ⟨4, ![4, 8192, 4, 1]⟩
abbrev S4x4x128x8192 : Shape := ⟨4, ![4, 4, 128, 8192]⟩
abbrev S4x8192x512 : Shape := ⟨3, ![4, 8192, 512]⟩

abbrev nBuf : Space → Nat
  | .hbm => 48
  | .vmem => 0
  | .smem => 0
  | _ => 0

abbrev bufTy : (tb : Table) → Fin (tcTables nBuf tb) → BufTy
  | .hbm, ⟨0, _⟩ => ⟨S32768x7168, .bf16⟩
  | .hbm, ⟨1, _⟩ => ⟨S4x256x1024, .f32⟩
  | .hbm, ⟨2, _⟩ => ⟨S1024, .f32⟩
  | .hbm, ⟨3, _⟩ => ⟨S1024x1024, .f32⟩
  | .hbm, ⟨4, _⟩ => ⟨S4x256x1024, .f32⟩
  | .hbm, ⟨5, _⟩ => ⟨S_, .f32⟩
  | .hbm, ⟨6, _⟩ => ⟨S4x256, .f32⟩
  | .hbm, ⟨7, _⟩ => ⟨S4x256x1, .f32⟩
  | .hbm, ⟨8, _⟩ => ⟨S_, .f32⟩
  | .hbm, ⟨9, _⟩ => ⟨S4x256x1, .f32⟩
  | .hbm, ⟨10, _⟩ => ⟨S4x256x1, .f32⟩
  | .hbm, ⟨11, _⟩ => ⟨S_, .f32⟩
  | .hbm, ⟨12, _⟩ => ⟨S4x256x1, .f32⟩
  | .hbm, ⟨13, _⟩ => ⟨S4x256x1, .f32⟩
  | .hbm, ⟨14, _⟩ => ⟨S4x256x1, .f32⟩
  | .hbm, ⟨15, _⟩ => ⟨S4x256x1024, .f32⟩
  | .hbm, ⟨16, _⟩ => ⟨S4x256x1024, .f32⟩
  | .hbm, ⟨17, _⟩ => ⟨S1x1x1024, .f32⟩
  | .hbm, ⟨18, _⟩ => ⟨S4x256x1024, .f32⟩
  | .hbm, ⟨19, _⟩ => ⟨S4x256x1024, .f32⟩
  | .hbm, ⟨20, _⟩ => ⟨S4x256x1024, .f32⟩
  | .hbm, ⟨21, _⟩ => ⟨S32768x512, .bf16⟩
  | .hbm, ⟨22, _⟩ => ⟨S32768x512, .f32⟩
  | .hbm, ⟨23, _⟩ => ⟨S4x8192x4x128, .f32⟩
  | .hbm, ⟨24, _⟩ => ⟨S4x256x512, .f32⟩
  | .hbm, ⟨25, _⟩ => ⟨S4x256x4x128, .f32⟩
  | .hbm, ⟨26, _⟩ => ⟨S4x256x512, .f32⟩
  | .hbm, ⟨27, _⟩ => ⟨S4x256x4x128, .f32⟩
  | .hbm, ⟨28, _⟩ => ⟨S4x4x8192x256, .f32⟩
  | .hbm, ⟨29, _⟩ => ⟨S_, .f32⟩
  | .hbm, ⟨30, _⟩ => ⟨S4x4x8192x256, .f32⟩
  | .hbm, ⟨31, _⟩ => ⟨S4x4x8192x256, .f32⟩
  | .hbm, ⟨32, _⟩ => ⟨S_, .f32⟩
  | .hbm, ⟨33, _⟩ => ⟨S4x4x8192, .f32⟩
  | .hbm, ⟨34, _⟩ => ⟨S4x4x8192x1, .f32⟩
  | .hbm, ⟨35, _⟩ => ⟨S4x4x8192x256, .f32⟩
  | .hbm, ⟨36, _⟩ => ⟨S4x4x8192x256, .f32⟩
  | .hbm, ⟨37, _⟩ => ⟨S4x4x8192x256, .f32⟩
  | .hbm, ⟨38, _⟩ => ⟨S_, .f32⟩
  | .hbm, ⟨39, _⟩ => ⟨S4x4x8192, .f32⟩
  | .hbm, ⟨40, _⟩ => ⟨S4x8192x4, .f32⟩
  | .hbm, ⟨41, _⟩ => ⟨S4x8192x4x1, .f32⟩
  | .hbm, ⟨42, _⟩ => ⟨S4x4x128x8192, .f32⟩
  | .hbm, ⟨43, _⟩ => ⟨S4x8192x4x128, .f32⟩
  | .hbm, ⟨44, _⟩ => ⟨S4x8192x4x128, .f32⟩
  | .hbm, ⟨45, _⟩ => ⟨S4x8192x4x128, .f32⟩
  | .hbm, ⟨46, _⟩ => ⟨S4x8192x512, .f32⟩
  | .hbm, ⟨47, _⟩ => ⟨S4x8192x512, .bf16⟩
  | _, _ => ⟨S32768x7168, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst_2 : Ref sig .tc := ⟨.hbm, 29, rfl⟩
abbrev main_v22 : Ref sig .tc := ⟨.hbm, 30, rfl⟩
abbrev main_v23 : Ref sig .tc := ⟨.hbm, 31, rfl⟩
abbrev main_cst_3 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_cst_4 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩

abbrev nD : Nat := 1
abbrev τ : Topo := Topo.v7x

variable {F : FTy → Type} [FloatOps F]
-- ==== Kernel6.lean ====
abbrev S16384x1024 : Shape := ⟨2, ![16384, 1024]⟩
abbrev S1024 : Shape := ⟨1, ![1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S1x1024 : Shape := ⟨2, ![1, 1024]⟩
abbrev S1x5632 : Shape := ⟨2, ![1, 5632]⟩
abbrev S2048x1024 : Shape := ⟨2, ![2048, 1024]⟩
abbrev S8x1024 : Shape := ⟨2, ![8, 1024]⟩
abbrev S1024x256 : Shape := ⟨2, ![1024, 256]⟩
abbrev S3x256 : Shape := ⟨2, ![3, 256]⟩
abbrev S1x256 : Shape := ⟨2, ![1, 256]⟩
abbrev S256x1024 : Shape := ⟨2, ![256, 1024]⟩
abbrev S2064x1024 : Shape := ⟨2, ![2064, 1024]⟩
abbrev S8 : Shape := ⟨1, ![8]⟩
abbrev S8x1 : Shape := ⟨2, ![8, 1]⟩
abbrev S520x1024 : Shape := ⟨2, ![520, 1024]⟩
abbrev S520 : Shape := ⟨1, ![520]⟩
abbrev S520x1 : Shape := ⟨2, ![520, 1]⟩
abbrev S528x1024 : Shape := ⟨2, ![528, 1024]⟩
abbrev S528x256 : Shape := ⟨2, ![528, 256]⟩
abbrev S512x1024 : Shape := ⟨2, ![512, 1024]⟩
abbrev S512 : Shape := ⟨1, ![512]⟩
abbrev S512x1 : Shape := ⟨2, ![512, 1]⟩
abbrev S504x1024 : Shape := ⟨2, ![504, 1024]⟩
abbrev S504 : Shape := ⟨1, ![504]⟩
abbrev S504x1 : Shape := ⟨2, ![504, 1]⟩
abbrev S512x256 : Shape := ⟨2, ![512, 256]⟩

abbrev nBuf : Space → Nat
  | .hbm => 13
  | .vmem => 26
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x5632, .f32⟩
  | .hbm, ⟨3, _⟩ => ⟨S3x5632, .f32⟩
  | .hbm, ⟨4, _⟩ => ⟨S5632, .f32⟩
  | .hbm, ⟨5, _⟩ => ⟨S2816x1024, .f32⟩
  | .hbm, ⟨6, _⟩ => ⟨S1024, .f32⟩
  | .hbm, ⟨7, _⟩ => ⟨S1x1024, .f32⟩
  | .hbm, ⟨8, _⟩ => ⟨S1024x5632, .bf16⟩
  | .hbm, ⟨9, _⟩ => ⟨S1x5632, .f32⟩
  | .hbm, ⟨10, _⟩ => ⟨S2816x1024, .bf16⟩
  | .hbm, ⟨11, _⟩ => ⟨S1x1024, .f32⟩
  | .hbm, ⟨12, _⟩ => ⟨S16384x1024, .f32⟩
  | .local _ .vmem, ⟨0, _⟩ => ⟨S2048x1024, .f32⟩
  | .local _ .vmem, ⟨1, _⟩ => ⟨S2048x1024, .f32⟩
  | .local _ .vmem, ⟨2, _⟩ => ⟨S8x1024, .f32⟩
  | .local _ .vmem, ⟨3, _⟩ => ⟨S8x1024, .f32⟩
  | .local _ .vmem, ⟨4, _⟩ => ⟨S8x1024, .f32⟩
  | .local _ .vmem, ⟨5, _⟩ => ⟨S8x1024, .f32⟩
  | .local _ .vmem, ⟨6, _⟩ => ⟨S1x1024, .f32⟩
  | .local _ .vmem, ⟨7, _⟩ => ⟨S1024x256, .bf16⟩
  | .local _ .vmem, ⟨8, _⟩ => ⟨S1024x256, .bf16⟩
  | .local _ .vmem, ⟨9, _⟩ => ⟨S1024x256, .bf16⟩
  | .local _ .vmem, ⟨10, _⟩ => ⟨S1024x256, .bf16⟩
  | .local _ .vmem, ⟨11, _⟩ => ⟨S3x256, .f32⟩
  | .local _ .vmem, ⟨12, _⟩ => ⟨S3x256, .f32⟩
  | .local _ .vmem, ⟨13, _⟩ => ⟨S3x256, .f32⟩
  | .local _ .vmem, ⟨14, _⟩ => ⟨S3x256, .f32⟩
  | .local _ .vmem, ⟨15, _⟩ => ⟨S1x256, .f32⟩
  | .local _ .vmem, ⟨16, _⟩ => ⟨S1x256, .f32⟩
  | .local _ .vmem, ⟨17, _⟩ => ⟨S1x256, .f32⟩
  | .local _ .vmem, ⟨18, _⟩ => ⟨S1x256, .f32⟩
  | .local _ .vmem, ⟨19, _⟩ => ⟨S256x1024, .bf16⟩
  | .local _ .vmem, ⟨20, _⟩ => ⟨S256x1024, .bf16⟩
  | .local _ .vmem, ⟨21, _⟩ => ⟨S1x1024, .f32⟩
  | .local _ .vmem, ⟨22, _⟩ => ⟨S2048x1024, .f32⟩
  | .local _ .vmem, ⟨23, _⟩ => ⟨S2048x1024, .f32⟩
  | .local _ .vmem, ⟨24, _⟩ => ⟨S2064x1024, .bf16⟩
  | .local _ .vmem, ⟨25, _⟩ => ⟨S2048x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg12_0 : Ref sig .tc := ⟨.vmem, 22, rfl⟩
abbrev cc0_stg12_1 : Ref sig .tc := ⟨.vmem, 23, rfl⟩
abbrev cc0_scratch0 : Ref sig .tc := ⟨.vmem, 24, rfl⟩
abbrev cc0_scratch1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem12_0 : DmaSem sig := 22
abbrev cc0_sem12_1 : DmaSem sig := 23

abbrev nD : Nat := 1
abbrev τ : Topo := Topo.v7x

variable {F : FTy → Type} [FloatOps F]

abbrev grid0 : Pipeline.Grid := ⟨2, ![8, 11], ![false, false]⟩

def k0_cond3 (i : grid0.Coords) : BitVec 1 :=
  let arg1 : BitVec 32 := BitVec.ofNat 32 (i 1).val
  let c10_i32_3 : BitVec 32 := 10#32
  let v8 : BitVec 1 := Scalar.cmpi .eq arg1 c10_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c256_i32 : BitVec 32 := 256#32
  let v0 : BitVec 32 := Scalar.muli arg0 c256_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c256_i32 : BitVec 32 := 256#32
  let v1 : BitVec 32 := Scalar.muli v0 c256_i32
  let c2047_i32 : BitVec 32 := 2047#32
  let v2 : BitVec 32 := Scalar.minsi v1 c2047_i32
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg1
  let c0_i32 : BitVec 32 := 0#32
  let c0_i32_0 : BitVec 32 := 0#32
  ![c0_i32.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg1
  let c0_i32 : BitVec 32 := 0#32
  let c0_i32_0 : BitVec 32 := 0#32
  ![c0_i32.toNat, v0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_9 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg1
  let c0_i32 : BitVec 32 := 0#32
  let c0_i32_0 : BitVec 32 := 0#32
  ![c0_i32.toNat, v0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S3x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S3x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S1x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, true]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S2048x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]
-- ==== Reference6Ideal.lean ====
abbrev S16384x1024 : Shape := ⟨2, ![16384, 1024]⟩
abbrev S1024 : Shape := ⟨1, ![1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S8x2048x1024 : Shape := ⟨3, ![8, 2048, 1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S8x2048x5632 : Shape := ⟨3, ![8, 2048, 5632]⟩
abbrev S8x2050x5632 : Shape := ⟨3, ![8, 2050, 5632]⟩
abbrev S1x5632 : Shape := ⟨2, ![1, 5632]⟩
abbrev S1x1x5632 : Shape := ⟨3, ![1, 1, 5632]⟩
abbrev S8x2048x2816 : Shape := ⟨3, ![8, 2048, 2816]⟩

abbrev nBuf : Space → Nat
  | .hbm => 82
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x5632, .f32⟩
  | .hbm, ⟨3, _⟩ => ⟨S3x5632, .f32⟩
  | .hbm, ⟨4, _⟩ => ⟨S5632, .f32⟩
  | .hbm, ⟨5, _⟩ => ⟨S2816x1024, .f32⟩
  | .hbm, ⟨6, _⟩ => ⟨S1024, .f32⟩
  | .hbm, ⟨7, _⟩ => ⟨S8x2048x1024, .f32⟩
  | .hbm, ⟨8, _⟩ => ⟨S8x2048x1024, .f32⟩
  | .hbm, ⟨9, _⟩ => ⟨S_, .f32⟩
  | .hbm, ⟨10, _⟩ => ⟨S8x2048, .f32⟩
  | .hbm, ⟨11, _⟩ => ⟨S8x2048x1, .f32⟩
  | .hbm, ⟨12, _⟩ => ⟨S_, .f32⟩
  | .hbm, ⟨13, _⟩ => ⟨S8x2048x1, .f32⟩
  | .hbm, ⟨14, _⟩ => ⟨S8x2048x1, .f32⟩
  | .hbm, ⟨15, _⟩ => ⟨S_, .f32⟩
  | .hbm, ⟨16, _⟩ => ⟨S8x2048x1, .f32⟩
  | .hbm, ⟨17, _⟩ => ⟨S8x2048x1, .f32⟩
  | .hbm, ⟨18, _⟩ => ⟨S8x2048x1, .f32⟩
  | .hbm, ⟨19, _⟩ => ⟨S8x2048x1024, .f32⟩
  | .hbm, ⟨20, _⟩ => ⟨S8x2048x1024, .f32⟩
  | .hbm, ⟨21, _⟩ => ⟨S1x1x1024, .f32⟩
  | .hbm, ⟨22, _⟩ => ⟨S8x2048x1024, .f32⟩
  | .hbm, ⟨23, _⟩ => ⟨S8x2048x1024, .f32⟩
  | .hbm, ⟨24, _⟩ => ⟨S8x2048x5632, .f32⟩
  | .hbm, ⟨25, _⟩ => ⟨S_, .i32⟩
  | .hbm, ⟨26, _⟩ => ⟨S_, .f32⟩
  | .hbm, ⟨27, _⟩ => ⟨S8x2050x5632, .f32⟩
  | .hbm, ⟨28, _⟩ => ⟨S8x2048x5632, .f32⟩
  | .hbm, ⟨29, _⟩ => ⟨S1x5632, .f32⟩
  | .hbm, ⟨30, _⟩ => ⟨S5632, .f32⟩
  | .hbm, ⟨31, _⟩ => ⟨S1x1x5632, .f32⟩
  | .hbm, ⟨32, _⟩ => ⟨S8x2048x5632, .f32⟩
  | .hbm, ⟨33, _⟩ => ⟨S8x2048x5632, .f32⟩
  | .hbm, ⟨34, _⟩ => ⟨S8x2048x5632, .f32⟩
  | .hbm, ⟨35, _⟩ => ⟨S1x5632, .f32⟩
  | .hbm, ⟨36, _⟩ => ⟨S5632, .f32⟩
  | .hbm, ⟨37, _⟩ => ⟨S1x1x5632, .f32⟩
  | .hbm, ⟨38, _⟩ => ⟨S8x2048x5632, .f32⟩
  | .hbm, ⟨39, _⟩ => ⟨S8x2048x5632, .f32⟩
  | .hbm, ⟨40, _⟩ => ⟨S8x2048x5632, .f32⟩
  | .hbm, ⟨41, _⟩ => ⟨S8x2048x5632, .f32⟩
  | .hbm, ⟨42, _⟩ => ⟨S1x5632, .f32⟩
  | .hbm, ⟨43, _⟩ => ⟨S5632, .f32⟩
  | .hbm, ⟨44, _⟩ => ⟨S1x1x5632, .f32⟩
  | .hbm, ⟨45, _⟩ => ⟨S8x2048x5632, .f32⟩
  | .hbm, ⟨46, _⟩ => ⟨S8x2048x5632, .f32⟩
  | .hbm, ⟨47, _⟩ => ⟨S8x2048x5632, .f32⟩
  | .hbm, ⟨48, _⟩ => ⟨S1x1x5632, .f32⟩
  | .hbm, ⟨49, _⟩ => ⟨S8x2048x5632, .f32⟩
  | .hbm, ⟨50, _⟩ => ⟨S8x2048x5632, .f32⟩
  | .hbm, ⟨51, _⟩ => ⟨S8x2048x2816, .f32⟩
  | .hbm, ⟨52, _⟩ => ⟨S8x2048x2816, .f32⟩
  | .hbm, ⟨53, _⟩ => ⟨S8x2048x2816, .f32⟩
  | .hbm, ⟨54, _⟩ => ⟨S8x2048x2816, .f32⟩
  | .hbm, ⟨55, _⟩ => ⟨S_, .f32⟩
  | .hbm, ⟨56, _⟩ => ⟨S8x2048x2816, .f32⟩
  | .hbm, ⟨57, _⟩ => ⟨S8x2048x2816, .f32⟩
  | .hbm, ⟨58, _⟩ => ⟨S_, .f32⟩
  | .hbm, ⟨59, _⟩ => ⟨S8x2048x2816, .f32⟩
  | .hbm, ⟨60, _⟩ => ⟨S8x2048x2816, .f32⟩
  | .hbm, ⟨61, _⟩ => ⟨S8x2048x2816, .f32⟩
  | .hbm, ⟨62, _⟩ => ⟨S8x2048x2816, .f32⟩
  | .hbm, ⟨63, _⟩ => ⟨S8x2048x1024, .f32⟩
  | .hbm, ⟨64, _⟩ => ⟨S8x2048x1024, .f32⟩
  | .hbm, ⟨65, _⟩ => ⟨S8x2048x1024, .f32⟩
  | .hbm, ⟨66, _⟩ => ⟨S_, .f32⟩
  | .hbm, ⟨67, _⟩ => ⟨S8x2048, .f32⟩
  | .hbm, ⟨68, _⟩ => ⟨S8x2048x1, .f32⟩
  | .hbm, ⟨69, _⟩ => ⟨S_, .f32⟩
  | .hbm, ⟨70, _⟩ => ⟨S8x2048x1, .f32⟩
  | .hbm, ⟨71, _⟩ => ⟨S8x2048x1, .f32⟩
  | .hbm, ⟨72, _⟩ => ⟨S_, .f32⟩
  | .hbm, ⟨73, _⟩ => ⟨S8x2048x1, .f32⟩
  | .hbm, ⟨74, _⟩ => ⟨S8x2048x1, .f32⟩
  | .hbm, ⟨75, _⟩ => ⟨S8x2048x1, .f32⟩
  | .hbm, ⟨76, _⟩ => ⟨S8x2048x1024, .f32⟩
  | .hbm, ⟨77, _⟩ => ⟨S8x2048x1024, .f32⟩
  | .hbm, ⟨78, _⟩ => ⟨S1x1x1024, .f32⟩
  | .hbm, ⟨79, _⟩ => ⟨S8x2048x1024, .f32⟩
  | .hbm, ⟨80, _⟩ => ⟨S8x2048x1024, .f32⟩
  | .hbm, ⟨81, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_c : Ref sig .tc := ⟨.hbm, 25, rfl⟩
abbrev main_call0_v0 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_cst_2 : Ref sig .tc := ⟨.hbm, 55, rfl⟩
abbrev main_v43 : Ref sig .tc := ⟨.hbm, 56, rfl⟩
abbrev main_v44 : Ref sig .tc := ⟨.hbm, 57, rfl⟩
abbrev main_cst_3 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_cst_4 : Ref sig .tc := ⟨.hbm, 66, rfl⟩
abbrev main_v52 : Ref sig .tc := ⟨.hbm, 67, rfl⟩
abbrev main_v53 : Ref sig .tc := ⟨.hbm, 68, rfl⟩
abbrev main_cst_5 : Ref sig .tc := ⟨.hbm, 69, rfl⟩
abbrev main_v54 : Ref sig .tc := ⟨.hbm, 70, rfl⟩
abbrev main_v55 : Ref sig .tc := ⟨.hbm, 71, rfl⟩
abbrev main_cst_6 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩

abbrev nD : Nat := 1
abbrev τ : Topo := Topo.v7x

variable {F : FTy → Type} [FloatOps F]
-- ==== Proof.Row.lean ====
/-
  One row of the kernel's output as one term: the eight heads of a row in four pairs of adjacent ones, the eight rows of a
  trip being this term at their own reads.
-/
module

public import proofs.«01_k».proof.Proof.Gen.KernelIdeal.Loops

@[expose] public section

set_option maxRecDepth 16384

noncomputable section

namespace Cert.KernelIdeal.Row

open Cert.KernelIdeal Cert.KernelIdeal.Gen Idealize.ShloMosaic Idealize.ShloMosaic.TcCoe Idealize.SL.Sem

variable {F : FTy → Type} [FloatOps F]

/-- The queries of a row, scaled and masked. -/
def query (mask : FVec F S64x512 .bf16) (x : Vec F S1x1x64x512 .bf16) : FVec F S64x512 .bf16 :=
  mulf (mulf (shapeCast S64x512 x shapeCasts_S1x1x64x512_S64x512) (broadcast S64x512 (Scalar.ofBits .bf16 0x3E00#16))) mask

/-- The keys of a band of rows, one under the other. -/
def keys (x : Vec F S1x8x64x512 .bf16) : FVec F S512x512 .bf16 :=
  shapeCast S512x512 (shapeCast S8x64x512 x shapeCasts_S1x8x64x512_S8x64x512) shapeCasts_S8x64x512_S512x512

/-- The masked values of a band of rows, one under the other. -/
def values (x : Vec F S8x64x512 .bf16) : FVec F S512x512 .bf16 := shapeCast S512x512 x shapeCasts_S8x64x512_S512x512

/-- The bias of a band of rows: four pieces of two rows side by side. -/
def bias (b : Fin 4 → Vec F S1x1x64x128 .f32) : FVec F S64x512 .f32 :=
  concatenate S64x512 1 [⟨S64x128, shapeCast S64x128 (b 0) shapeCasts_S1x1x64x128_S64x128⟩,
    ⟨S64x128, shapeCast S64x128 (b 1) shapeCasts_S1x1x64x128_S64x128⟩,
    ⟨S64x128, shapeCast S64x128 (b 2) shapeCasts_S1x1x64x128_S64x128⟩,
    ⟨S64x128, shapeCast S64x128 (b 3) shapeCasts_S1x1x64x128_S64x128⟩]
    concatenates_S64x128_S64x128_S64x128_S64x128_S64x512_d1

/-- One head's scores from its lanes at offset `o`. -/
def scores (o : ℕ) (hq : S64x512.Slices ![0, o] S64x128) (hk : S512x512.Slices ![0, o] S512x128)
    (q : FVec F S64x512 .bf16) (k : FVec F S512x512 .bf16) (b : FVec F S64x512 .f32) : FVec F S64x512 .f32 :=
  addf (matmul dot_S64x128_S512x128_S64x512_1_1_0_0_n_n none (extractStridedSlice S64x128 ![0, o] q hq)
    (extractStridedSlice S512x128 ![0, o] k hk) (constant S64x512 .f32 0x00000000#32)) b

/-- The scores' exponentials, each row's greatest taken off first. -/
def weights (s : FVec F S64x512 .f32) : FVec F S64x512 .f32 :=
  exp (subf s (broadcastTo S64x512 (shapeCast S64x1
    (multiReduction .maximumf [1] S64 s 0xFF800000#32 reduces_S64x512_S64 (.inl rfl) rfl) shapeCasts_S64_S64x1)
    broadcasts_S64x1_S64x512))

/-- The reciprocal of each row's sum. -/
def recip (p : FVec F S64x512 .f32) : FVec F S64x1 .f32 :=
  divf (broadcast S64x1 (Scalar.ofBits .f32 0x3F800000#32)) (shapeCast S64x1
    (multiReduction .add [1] S64 p 0x00000000#32 reduces_S64x512_S64 (.inl rfl) rfl) shapeCasts_S64_S64x1)

/-- One head's attention over the lanes at offset `o`. -/
def half (o : ℕ) (hk : S512x512.Slices ![0, o] S512x128) (s : FVec F S64x512 .f32) (v : FVec F S512x512 .bf16) :
    FVec F S64x128 .f32 :=
  mulf (matmul dot_S64x512_S512x128_S64x128_1_0_0_1_n_n none (truncf .bf16 (weights s) bitsLt_bf16_f32)
    (extractStridedSlice S512x128 ![0, o] v hk) (constant S64x128 .f32 0x00000000#32))
    (broadcastTo S64x128 (recip (weights s)) broadcasts_S64x1_S64x128)

/-- Two adjacent heads: the even one over the lanes of the first mask, the odd one over those of the second. -/
def pair (o : ℕ) (hq : S64x512.Slices ![0, o] S64x128) (hk : S512x512.Slices ![0, o] S512x128)
    (q q' : FVec F S64x512 .bf16) (k v v' : FVec F S512x512 .bf16) (b b' : FVec F S64x512 .f32) : FVec F S64x128 .f32 :=
  addf (half o hk (scores o hq hk q k b) v) (half o hk (scores o hq hk q' k b') v')

/-- The row: its four pairs side by side. -/
def row (mask mask' : FVec F S64x512 .bf16) (xq : Vec F S1x1x64x512 .bf16) (xk : Vec F S1x8x64x512 .bf16)
    (xv xv' : Vec F S8x64x512 .bf16) (b : Fin 8 → Fin 4 → Vec F S1x1x64x128 .f32) : FVec F S1x1x64x512 .bf16 :=
  shapeCast S1x1x64x512 (truncf .bf16 (concatenate S64x512 1
    [⟨S64x128, pair 0 slices_S64x512_o0_0_S64x128 slices_S512x512_o0_0_S512x128 (query mask xq) (query mask' xq) (keys xk)
      (values xv) (values xv') (bias (b 0)) (bias (b 1))⟩,
     ⟨S64x128, pair 128 slices_S64x512_o0_128_S64x128 slices_S512x512_o0_128_S512x128 (query mask xq) (query mask' xq) (keys xk)
      (values xv) (values xv') (bias (b 2)) (bias (b 3))⟩,
     ⟨S64x128, pair 256 slices_S64x512_o0_256_S64x128 slices_S512x512_o0_256_S512x128 (query mask xq) (query mask' xq) (keys xk)
      (values xv) (values xv') (bias (b 4)) (bias (b 5))⟩,
     ⟨S64x128, pair 384 slices_S64x512_o0_384_S64x128 slices_S512x512_o0_384_S512x128 (query mask xq) (query mask' xq) (keys xk)
      (values xv) (values xv') (bias (b 6)) (bias (b 7))⟩]
    concatenates_S64x128_S64x128_S64x128_S64x128_S64x512_d1) bitsLt_bf16_f32) shapeCasts_S64x512_S1x1x64x512

/-- Where head `h`'s bias piece `j` starts. -/
def biasOff (i : grid0.Coords) (k : Fin k0_t1_loop.trips) (u : BitVec 32) (h : Fin 8) (j : BitVec 32) : Fin 4 → ℕ :=
  match h with
  | 0 => k0_off4 i k u j
  | 1 => k0_off5 i k u j
  | 2 => k0_off6 i k u j
  | 3 => k0_off7 i k u j
  | 4 => k0_off8 i k u j
  | 5 => k0_off9 i k u j
  | 6 => k0_off10 i k u j
  | 7 => k0_off11 i k u j

theorem biasOff_inb (i : grid0.Coords) (k : Fin k0_t1_loop.trips) (u h : Fin 8) (j : Fin 4) (a : Fin 4) :
    biasOff i k (BitVec.ofNat 32 u.val) h (BitVec.ofNat 32 (2 * j.val)) a + S1x1x64x128.size a ≤ S8x14x64x128.size a := by
  match h with
  | 0 => exact k0_off4_inb i k u j a
  | 1 => exact k0_off5_inb i k u j a
  | 2 => exact k0_off6_inb i k u j a
  | 3 => exact k0_off7_inb i k u j a
  | 4 => exact k0_off8_inb i k u j a
  | 5 => exact k0_off9_inb i k u j a
  | 6 => exact k0_off10_inb i k u j a
  | 7 => exact k0_off11_inb i k u j a

section Trip

variable (i : grid0.Coords) (arg2 : Memref sig .tc .vmem S1x16x64x512 .bf16) (arg3 : Memref sig .tc .vmem S1x23x64x512 .bf16)
  (arg5 : Memref sig .tc .vmem S8x14x64x128 .f32) (arg7 arg8 : Memref sig .tc .vmem S23x64x512 .bf16)
  (mask mask' : FVec F S64x512 .bf16) (X2 : BufTy.Contents (Elt F) arg2.view.ty) (X3 : BufTy.Contents (Elt F) arg3.view.ty)
  (X5 : BufTy.Contents (Elt F) arg5.view.ty) (X7 : BufTy.Contents (Elt F) arg7.view.ty)
  (X8 : BufTy.Contents (Elt F) arg8.view.ty) (k : Fin k0_t1_loop.trips)

/-- Row `u` of trip `k`, from what it reads. -/
def rowAt (u : Fin 8) : FVec F S1x1x64x512 .bf16 :=
  row mask mask'
    (View.readAt (Elt F) arg2.view
      (Rect.unit (s := S1x16x64x512) (k0_off1 k (BitVec.ofNat 32 u.val)) S1x1x64x512.size (k0_off1_inb k u)).toLoadRect X2)
    (View.readAt (Elt F) arg3.view
      (Rect.unit (s := S1x23x64x512) (k0_off2 i k (BitVec.ofNat 32 u.val)) S1x8x64x512.size (k0_off2_inb i k u)).toLoadRect X3)
    (View.readAt (Elt F) arg7.view
      (Rect.unit (s := S23x64x512) (k0_off3 i k (BitVec.ofNat 32 u.val)) S8x64x512.size (k0_off3_inb i k u)).toLoadRect X7)
    (View.readAt (Elt F) arg8.view
      (Rect.unit (s := S23x64x512) (k0_off3 i k (BitVec.ofNat 32 u.val)) S8x64x512.size (k0_off3_inb i k u)).toLoadRect X8)
    fun h j => View.readAt (Elt F) arg5.view
      (Rect.unit (s := S8x14x64x128) (biasOff i k (BitVec.ofNat 32 u.val) h (BitVec.ofNat 32 (2 * j.val))) S1x1x64x128.size
        (biasOff_inb i k u h j)).toLoadRect X5

end Trip

end Cert.KernelIdeal.Row

end
end
-- ==== Proof.Trip.lean ====
/-
  What one trip of the kernel's loop stores: eight rows, each the same term at its own reads.
-/
module

public import proofs.«01_k».proof.Proof.Row
public import Idealize.ShloMosaic.PureOps.Ideal

@[expose] public section

set_option maxRecDepth 16384
set_option maxHeartbeats 4000000

noncomputable section

namespace Cert.KernelIdeal.Row

open Cert.KernelIdeal Cert.KernelIdeal.Gen Idealize.ShloMosaic Idealize.ShloMosaic.TcCoe Idealize.SL.Sem

/-- A trip's stores: its eight rows, the last first. -/
theorem trip_pieces (𝒱 : Variants) (c : Dev nD) (bd : Option 𝒱.V) (i : grid0.Coords) (arg2 : Memref sig .tc .vmem S1x16x64x512 .bf16) (harg2 : arg2.IsWhole) (arg3 : Memref sig .tc .vmem S1x23x64x512 .bf16) (harg3 : arg3.IsWhole) (arg4 : Memref sig .tc .vmem S1x23x64x512 .bf16) (harg4 : arg4.IsWhole) (arg5 : Memref sig .tc .vmem S8x14x64x128 .f32) (harg5 : arg5.IsWhole) (arg6 : Memref sig .tc .vmem S1x16x64x512 .bf16) (harg6 : arg6.IsWhole) (arg7 : Memref sig .tc .vmem S23x64x512 .bf16) (harg7 : arg7.IsWhole) (arg8 : Memref sig .tc .vmem S23x64x512 .bf16) (harg8 : arg8.IsWhole) (v0 : BitVec 32) (v3 : BitVec 32) (v26 : FVec Ideal S64x512 .bf16) (v48 : FVec Ideal S64x512 .bf16) (X_arg2 : BufTy.Contents (Elt Ideal) arg2.view.ty) (X_arg3 : BufTy.Contents (Elt Ideal) arg3.view.ty) (X_arg5 : BufTy.Contents (Elt Ideal) arg5.view.ty) (X_arg7 : BufTy.Contents (Elt Ideal) arg7.view.ty) (X_arg8 : BufTy.Contents (Elt Ideal) arg8.view.ty) (k : Fin k0_t1_loop.trips) : tripL_k0_t1 (F := Ideal) 𝒱 c bd i arg2 harg2 arg3 harg3 arg4 harg4 arg5 harg5 arg6 harg6 arg7 harg7 arg8 harg8 v0 v3 v26 v48 X_arg2 X_arg3 X_arg5 X_arg7 X_arg8 k = (List.finRange 8).reverse.map fun u => (⟨Rect.unit (s := S1x16x64x512) (k0_off1 k (BitVec.ofNat 32 u.val)) S1x1x64x512.size (k0_off1_inb k u), rowAt i arg2 arg3 arg5 arg7 arg8 v26 v48 X_arg2 X_arg3 X_arg5 X_arg7 X_arg8 k u⟩ : View.Piece (Elt Ideal) S1x16x64x512 .bf16) := by
  unfold tripL_k0_t1 trip_k0_t1
  dsimp only
  rfl
end Cert.KernelIdeal.Row

end
end
-- ==== Proof.Math.lean ====
/-
  Softmax attention over extended reals: the weights' scale moved out of the sum, and positions whose score is
  minus infinity left out.
-/
module

public import Idealize.ShloMosaic.PureOps.Ideal

@[expose] public section

noncomputable section

namespace Cert.Attn

open Idealize.ShloMosaic

/-- The exponential is never negative. -/
theorem exp_nonneg (x : EReal) : 0 ≤ Ideal.exp x := by
  induction x with
  | bot => exact le_refl 0
  | top => exact le_top
  | coe r => exact EReal.coe_nonneg.2 (Real.exp_pos r).le

theorem exp_bot : Ideal.exp ⊥ = 0 := rfl

theorem bot_sub (x : EReal) : (⊥ : EReal) - x = ⊥ := by
  rw [sub_eq_add_neg, EReal.bot_add]

/-- A factor that is neither negative nor infinite goes into a finite sum. -/
theorem sum_mul_of_nonneg {ι : Type} (s : Finset ι) (f : ι → EReal) (c : EReal) (h0 : 0 ≤ c) (ht : c ≠ ⊤) :
    (∑ n ∈ s, f n) * c = ∑ n ∈ s, f n * c := by
  classical
  induction s using Finset.induction_on with
  | empty => simp
  | insert a s ha ih =>
    rw [Finset.sum_insert ha, Finset.sum_insert ha, ← ih, mul_comm, EReal.left_distrib_of_nonneg_of_ne_top h0 ht,
      mul_comm c, mul_comm c]

/-- The reciprocal of a number that is not negative. -/
theorem div_one_cases (x : EReal) (hx : 0 ≤ x) : x = 0 ∨ (0 ≤ Ideal.div 1 x ∧ Ideal.div 1 x ≠ ⊤) := by
  rcases eq_or_lt_of_le hx with h | h
  · exact Or.inl h.symm
  · right
    induction x with
    | bot => simp at hx
    | top => simp [Ideal.div]
    | coe r =>
      have hr : 0 < r := by exact_mod_cast h
      rw [Ideal.div_coe hr.ne', one_mul]
      exact ⟨by exact_mod_cast (by positivity), EReal.coe_ne_top _⟩

/-- Weights that are not negative: dividing the weighted sum by their sum is weighting by the quotients. -/
theorem sum_mul_inv {ι : Type} [Fintype ι] (e v : ι → EReal) (he : ∀ n, 0 ≤ e n) :
    (∑ n, e n * v n) * Ideal.div 1 (∑ n, e n) = ∑ n, e n * Ideal.div 1 (∑ n, e n) * v n := by
  rcases div_one_cases (∑ n, e n) (Finset.sum_nonneg fun n _ => he n) with h | ⟨h0, ht⟩
  · have hz : ∀ n, e n = 0 := fun n => (Finset.sum_eq_zero_iff_of_nonneg fun n _ => he n).1 h n (Finset.mem_univ n)
    simp [hz]
  · rw [sum_mul_of_nonneg _ _ _ h0 ht]
    exact Finset.sum_congr rfl fun n _ => by rw [mul_assoc, mul_comm (v n), mul_assoc]

/-- Softmax attention: the values weighted by the exponentials of the scores over their sum, the scores' greatest taken
    off first. -/
def attend {ι : Type} [Fintype ι] (s v : ι → EReal) : EReal :=
  ∑ n, Ideal.exp (s n - Finset.univ.fold max ⊥ s) * Ideal.div 1 (∑ k, Ideal.exp (s k - Finset.univ.fold max ⊥ s)) * v n

/-- The greatest of a family most of whose members are minus infinity. -/
theorem fold_max_of_injective {ι κ : Type} [Fintype ι] [Fintype κ] (g : ι → κ) (S : κ → EReal)
    (hS : ∀ k, k ∉ Set.range g → S k = ⊥) :
    Finset.univ.fold max ⊥ S = Finset.univ.fold max ⊥ fun n => S (g n) := by
  change Finset.univ.sup S = Finset.univ.sup fun n => S (g n)
  apply le_antisymm
  · refine Finset.sup_le fun k _ => ?_
    by_cases hk : k ∈ Set.range g
    · obtain ⟨n, rfl⟩ := hk
      exact Finset.le_sup (f := fun n => S (g n)) (Finset.mem_univ n)
    · rw [hS k hk]; exact bot_le
  · exact Finset.sup_le fun n _ => Finset.le_sup (f := S) (Finset.mem_univ (g n))

/-- Attention over a wide row most of whose scores are minus infinity is attention over the rest. -/
theorem attend_masked {ι κ : Type} [Fintype ι] [Fintype κ] (g : ι → κ) (hg : Function.Injective g) (S V : κ → EReal)
    (hS : ∀ k, k ∉ Set.range g → S k = ⊥) :
    (∑ k, Ideal.exp (S k - Finset.univ.fold max ⊥ S) * V k) *
        Ideal.div 1 (∑ k, Ideal.exp (S k - Finset.univ.fold max ⊥ S)) =
      attend (fun n => S (g n)) fun n => V (g n) := by
  rw [fold_max_of_injective g S hS]
  unfold attend
  generalize Finset.univ.fold max ⊥ (fun n => S (g n)) = M
  rw [← Fintype.sum_of_injective g hg (fun n => Ideal.exp (S (g n) - M) * V (g n)) (fun k => Ideal.exp (S k - M) * V k)
      (fun k hk => by rw [hS k hk, bot_sub, exp_bot, zero_mul]) fun n => rfl,
    ← Fintype.sum_of_injective g hg (fun n => Ideal.exp (S (g n) - M)) (fun k => Ideal.exp (S k - M))
      (fun k hk => by rw [hS k hk, bot_sub, exp_bot]) fun n => rfl]
  exact sum_mul_inv (fun n => Ideal.exp (S (g n) - M)) (fun n => V (g n)) fun n => exp_nonneg _

/-- A weighted sum of zeros, whatever it is multiplied by. -/
theorem sum_mul_zero {κ : Type} [Fintype κ] (e V : κ → EReal) (c : EReal) : (∑ k, e k * (V k * 0)) * c = 0 := by
  simp

/-- The scale of the queries moved out of the dot product. -/
theorem sum_scale {ι : Type} [Fintype ι] (q k : ι → EReal) (c : EReal) (h0 : 0 ≤ c) (ht : c ≠ ⊤) :
    ∑ n, q n * c * k n = (∑ n, q n * k n) * c := by
  rw [sum_mul_of_nonneg _ _ _ h0 ht]
  exact Finset.sum_congr rfl fun n _ => by rw [mul_assoc, mul_comm c, mul_assoc]

end Cert.Attn
end
end
-- ==== Proof.Spec.lean ====
/-
  Neighbourhood attention as a closed form of its two argument arrays.
-/
module

public import proofs.«01_k».proof.Proof.Math

@[expose] public section

noncomputable section

namespace Cert.Attn

open Idealize.ShloMosaic

/-- The tokens by row and column, zero outside. -/
def tokAt (z : (⟨2, ![32768, 7168]⟩ : Shape).Idx → EReal) (r c : ℕ) : EReal :=
  if h : r < 32768 ∧ c < 7168 then z fun a => match a with
    | ⟨0, _⟩ => ⟨r, h.1⟩
    | ⟨1, _⟩ => ⟨c, h.2⟩
  else 0

theorem tokAt_eq (z : (⟨2, ![32768, 7168]⟩ : Shape).Idx → EReal) (i : (⟨2, ![32768, 7168]⟩ : Shape).Idx) (r c : ℕ)
    (hr : (i 0).val = r) (hc : (i 1).val = c) : z i = tokAt z r c := by
  have h0 : r < 32768 := hr ▸ (i 0).isLt
  have h1 : c < 7168 := hc ▸ (i 1).isLt
  rw [tokAt, dif_pos ⟨h0, h1⟩]
  congr 1
  funext a
  match a with
  | ⟨0, _⟩ => exact Fin.ext hr
  | ⟨1, _⟩ => exact Fin.ext hc

/-- The relative position weights by head, row offset and column offset, zero outside. -/
def posAt (w : (⟨3, ![8, 15, 31]⟩ : Shape).Idx → EReal) (h r c : ℕ) : EReal :=
  if hh : h < 8 ∧ r < 15 ∧ c < 31 then w fun a => match a with
    | ⟨0, _⟩ => ⟨h, hh.1⟩
    | ⟨1, _⟩ => ⟨r, hh.2.1⟩
    | ⟨2, _⟩ => ⟨c, hh.2.2⟩
  else 0

theorem posAt_eq (w : (⟨3, ![8, 15, 31]⟩ : Shape).Idx → EReal) (i : (⟨3, ![8, 15, 31]⟩ : Shape).Idx) (h r c : ℕ)
    (hh : (i 0).val = h) (hr : (i 1).val = r) (hc : (i 2).val = c) : w i = posAt w h r c := by
  have h0 : h < 8 := hh ▸ (i 0).isLt
  have h1 : r < 15 := hr ▸ (i 1).isLt
  have h2 : c < 31 := hc ▸ (i 2).isLt
  rw [posAt, dif_pos ⟨h0, h1, h2⟩]
  congr 1
  funext a
  match a with
  | ⟨0, _⟩ => exact Fin.ext hh
  | ⟨1, _⟩ => exact Fin.ext hr
  | ⟨2, _⟩ => exact Fin.ext hc

/-- The first row of the window round row `i`. -/
def rowStart (i : ℕ) : ℕ := min (i - 4) 120

/-- The first column of the window round column `x`. -/
def colStart (x : ℕ) : ℕ := min (x - 8) 48

/-- The token at row `i` and column `x` of image `b`. -/
def tok (b i x : ℕ) : ℕ := (b * 128 + i) * 64 + x

/-- The scale of the dot products. -/
def eighth : EReal := ((1 / 8 : ℝ) : EReal)

theorem eighth_nonneg : 0 ≤ eighth := by unfold eighth; exact_mod_cast (by norm_num)
theorem eighth_ne_top : eighth ≠ ⊤ := EReal.coe_ne_top _

/-- The score of the token at row `i` and column `x` against the one at row `r` and column `c`, for head `h`. -/
def score (z : ℕ → ℕ → EReal) (w : ℕ → ℕ → ℕ → EReal) (b i x h r c : ℕ) : EReal :=
  (∑ d : Fin 64, z (tok b i x) (2048 + 64 * h + d) * z (tok b r c) (2560 + 64 * h + d)) * eighth
    + w h (r + 7 - i) (c + 15 - x)

/-- Neighbourhood attention: channel `d` of head `h` at row `i` and column `x` of image `b`; the window's position `n` is
    its row `n / 16` and its column `n % 16`. -/
def out (z : ℕ → ℕ → EReal) (w : ℕ → ℕ → ℕ → EReal) (b i x h d : ℕ) : EReal :=
  attend (fun n : Fin 128 => score z w b i x h (rowStart i + n / 16) (colStart x + n % 16))
    fun n : Fin 128 => z (tok b (rowStart i + n / 16) (colStart x + n % 16)) (3072 + 64 * h + d)

end Cert.Attn
end
end
-- ==== Proof.Offsets.lean ====
/-
  Where the kernel's loads and stores start, as numbers.
-/
module

public import proofs.«01_k».proof.Proof.Row
public import proofs.«01_k».proof.Proof.Spec

@[expose] public section

set_option maxRecDepth 16384

namespace Cert.KernelIdeal.Row

open Cert.KernelIdeal Cert.KernelIdeal.Gen Cert.Attn Idealize.ShloMosaic Idealize.ShloMosaic.TcCoe Idealize.SL.Sem

/-- The grid point of row block `n`. -/
def pt (n : Fin 8) : grid0.Coords := fun a => match a with
  | ⟨0, _⟩ => (0 : Fin 4)
  | ⟨1, _⟩ => n

/-- The first row of a row block's keys. -/
def bandStart (n : ℕ) : ℕ := min (16 * n - 4) 105

theorem off1_eq : ∀ (k : Fin 2) (u : Fin 8), k0_off1 k (BitVec.ofNat 32 u.val) = ![0, 8 * k.val + u.val, 0, 0] := by
  decide +kernel

theorem off2_pt : ∀ (n : Fin 8) (k : Fin 2) (u : Fin 8), k0_off2 (pt n) k (BitVec.ofNat 32 u.val) =
    ![0, rowStart (16 * n.val + (8 * k.val + u.val)) - bandStart n.val, 0, 0] := by decide +kernel

theorem off3_pt : ∀ (n : Fin 8) (k : Fin 2) (u : Fin 8), k0_off3 (pt n) k (BitVec.ofNat 32 u.val) =
    ![rowStart (16 * n.val + (8 * k.val + u.val)) - bandStart n.val, 0, 0] := by decide +kernel

theorem biasOff_pt : ∀ (n : Fin 8) (k : Fin 2) (u h : Fin 8) (j : Fin 4),
    biasOff (pt n) k (BitVec.ofNat 32 u.val) h (BitVec.ofNat 32 (2 * j.val)) =
    ![h.val, rowStart (16 * n.val + (8 * k.val + u.val)) + 7 - (16 * n.val + (8 * k.val + u.val)) + 2 * j.val, 0, 0] := by
  decide +kernel

theorem off2_eq (i : grid0.Coords) (k : Fin 2) (u : Fin 8) : k0_off2 i k (BitVec.ofNat 32 u.val) =
    ![0, rowStart (16 * (i 1).val + (8 * k.val + u.val)) - bandStart (i 1).val, 0, 0] := off2_pt (i 1) k u

theorem off3_eq (i : grid0.Coords) (k : Fin 2) (u : Fin 8) : k0_off3 i k (BitVec.ofNat 32 u.val) =
    ![rowStart (16 * (i 1).val + (8 * k.val + u.val)) - bandStart (i 1).val, 0, 0] := off3_pt (i 1) k u

theorem biasOff_eq (i : grid0.Coords) (k : Fin 2) (u h : Fin 8) (j : Fin 4) :
    biasOff i k (BitVec.ofNat 32 u.val) h (BitVec.ofNat 32 (2 * j.val)) =
    ![h.val, rowStart (16 * (i 1).val + (8 * k.val + u.val)) + 7 - (16 * (i 1).val + (8 * k.val + u.val)) + 2 * j.val, 0, 0] :=
  biasOff_pt (i 1) k u h j

end Cert.KernelIdeal.Row
end
-- ==== Proof.Slabs.lean ====
/-
  The kernel's two scratch arrays: the values of a block's band of rows, each under one of the lane masks.
-/
module

public import Idealize.ShloMosaic.Lib.Pointwise
public import Idealize.ShloMosaic.Lib.WholeRead
public import proofs.«01_k».proof.Proof.Gen.KernelIdeal.Value
public import Idealize.ShloMosaic.Lib.Pipeline.ValueKit

@[expose] public section

set_option maxRecDepth 16384
set_option maxHeartbeats 800000

noncomputable section

namespace Cert.KernelIdeal.Row

open Cert.KernelIdeal Cert.KernelIdeal.Gen Idealize.ShloMosaic Idealize.ShloMosaic.TcCoe Idealize.SL.Sem

theorem slab_inb : ∀ (j : Fin 23) (a : Fin 3), (![j.val, 0, 0] : Fin 3 → ℕ) a + S1x64x512.size a ≤ S23x64x512.size a := by
  decide

theorem slab_src_inb : ∀ (j : Fin 23) (a : Fin 4),
    (![0, j.val, 0, 0] : Fin 4 → ℕ) a + S1x1x64x512.size a ≤ S1x23x64x512.size a := by decide

/-- One row of the values, masked. -/
def slab (mask : FVec Ideal S64x512 .bf16) (x : Vec Ideal S1x1x64x512 .bf16) : FVec Ideal S1x64x512 .bf16 :=
  shapeCast S1x64x512 (mulf (shapeCast S64x512 x shapeCasts_S1x1x64x512_S64x512) mask) shapeCasts_S64x512_S1x64x512

theorem slab_apply (mask : FVec Ideal S64x512 .bf16) (x : Vec Ideal S1x1x64x512 .bf16) (r : Fin 64) (p : Fin 512) :
    slab mask x (ix3 0 r p) = x (ix4 0 0 r p) * mask (ix2 r p) := by
  pointwise [slab]

/-- The rows of the masked values, the last first. -/
def slabs (mask : FVec Ideal S64x512 .bf16) (arg4 : Memref sig .tc .vmem S1x23x64x512 .bf16) (harg4 : arg4.IsWhole)
    (x2 : Vec Ideal S1x23x64x512 .bf16) : List (View.Piece (Elt Ideal) S23x64x512 .bf16) :=
  (List.finRange 23).reverse.map fun j =>
    ⟨Rect.unit (s := S23x64x512) ![j.val, 0, 0] S1x64x512.size (slab_inb j), slab mask (View.readAt (Elt Ideal) arg4.view
      (Rect.unit (s := S1x23x64x512) ![0, j.val, 0, 0] S1x1x64x512.size (slab_src_inb j)).toLoadRect (harg4.unread x2))⟩

theorem slabs_first (c : Dev nD) (arg4 : Memref sig .tc .vmem S1x23x64x512 .bf16) (harg4 : arg4.IsWhole)
    (x2 : Vec Ideal S1x23x64x512 .bf16) :
    kernelRun0_A.sl.HS0_23 c arg4 harg4 x2 = slabs k0_pay416 arg4 harg4 x2 := by
  rfl

theorem slabs_second (c : Dev nD) (arg4 : Memref sig .tc .vmem S1x23x64x512 .bf16) (harg4 : arg4.IsWhole)
    (x2 : Vec Ideal S1x23x64x512 .bf16) :
    kernelRun0_A.sl.HS1_23 c arg4 harg4 x2 = slabs kernelRun0_A.sl.r arg4 harg4 x2 := by
  rfl

/-- The values of a band of rows, masked. -/
def band (mask : FVec Ideal S64x512 .bf16) (x2 : Vec Ideal S1x23x64x512 .bf16) : Vec Ideal S23x64x512 .bf16 :=
  fun y => x2 (ix4 0 (y 0) (y 1) (y 2)) * mask (ix2 (y 1) (y 2))

/-- Where a load of a unit rectangle reads. -/
theorem unit_idx {s : Shape} (off size : Fin s.rank → ℕ) (inb : ∀ a, off a + size a ≤ s.size a)
    (y : (Rect.unit (s := s) off size inb).toLoadRect.shape.Idx) (j : s.Idx) (h : ∀ a, (j a).val = off a + (y a).val) :
    (Rect.unit (s := s) off size inb).toLoadRect.idx y = j := by
  funext a
  refine Fin.ext ?_
  show off a + 1 * (y a).val = _
  rw [h, one_mul]

theorem slabs_read (mask : FVec Ideal S64x512 .bf16) (arg4 : Memref sig .tc .vmem S1x23x64x512 .bf16) (harg4 : arg4.IsWhole)
    (x2 : Vec Ideal S1x23x64x512 .bf16) (arg7 : Memref sig .tc .vmem S23x64x512 .bf16)
    (f : BufTy.Contents (Elt Ideal) arg7.view.ty) (y : S23x64x512.Idx) :
    View.read (Elt Ideal) arg7.view (arg7.view.writes (Elt Ideal) f (slabs mask arg4 harg4 x2)) y = band mask x2 y := by
  refine View.read_writes_apply_of_pieces arg7.view f (band mask x2) _ ?_ y ?_
  · intro p hp x
    obtain ⟨j, -, rfl⟩ := List.mem_map.1 hp
    have hx : x = ix3 (0 : Fin 1) (x 1) (x 2) := funext fun a => by
      match a with
      | ⟨0, _⟩ => exact Fin.ext (Nat.lt_one_iff.1 (x 0).isLt)
      | ⟨1, _⟩ => rfl
      | ⟨2, _⟩ => rfl
    have he : (Rect.unit (s := S23x64x512) ![j.val, 0, 0] S1x64x512.size (slab_inb j)).emb x = ix3 j (x 1) (x 2) :=
      unit_idx _ _ _ _ _ fun a => by
        match a with
        | ⟨0, _⟩ => exact (Nat.add_eq_left.2 (Nat.lt_one_iff.1 (x 0).isLt)).symm
        | ⟨1, _⟩ => exact (Nat.zero_add _).symm
        | ⟨2, _⟩ => exact (Nat.zero_add _).symm
    show slab mask _ x = band mask x2 _
    rw [he, hx]
    refine (slab_apply mask _ (x 1) (x 2)).trans ?_
    rw [Memref.IsWhole.readAt_unread]
    refine congrArg (fun t => x2 t * mask (ix2 (x 1) (x 2))) (unit_idx _ _ _ _ _ fun a => ?_)
    match a with
    | ⟨0, _⟩ => rfl
    | ⟨1, _⟩ => rfl
    | ⟨2, _⟩ => exact (Nat.zero_add _).symm
    | ⟨3, _⟩ => exact (Nat.zero_add _).symm
  · refine ⟨_, List.mem_map.2 ⟨y 0, List.mem_reverse.2 (List.mem_finRange _), rfl⟩, ?_⟩
    rw [Rect.mem_set_unit]
    intro a
    match a with
    | ⟨0, _⟩ => exact ⟨le_refl _, Nat.lt_succ_self _⟩
    | ⟨1, _⟩ => exact ⟨Nat.zero_le _, by simpa using (y 1).isLt⟩
    | ⟨2, _⟩ => exact ⟨Nat.zero_le _, by simpa using (y 2).isLt⟩

end Cert.KernelIdeal.Row

end
end
-- ==== Proof.Out.lean ====
/-
  The kernel's block: what its loop leaves in the output window, each row from the windows' blocks.
-/
module

public import proofs.«01_k».proof.Proof.Trip
public import proofs.«01_k».proof.Proof.Offsets
public import proofs.«01_k».proof.Proof.Slabs
public import Idealize.ShloMosaic.Lib.WholeRead
public import proofs.«01_k».proof.Proof.Gen.KernelIdeal.Value
public import Idealize.ShloMosaic.Lib.Pipeline.ValueKit

@[expose] public section

set_option maxRecDepth 16384
set_option maxHeartbeats 800000

noncomputable section

namespace Cert.KernelIdeal.Row

open Cert.KernelIdeal Cert.KernelIdeal.Gen Cert.Attn Idealize.ShloMosaic Idealize.ShloMosaic.TcCoe Idealize.SL.Sem

theorem rowStart_band (n : Fin 8) (m : Fin 16) : rowStart (16 * n + m) - bandStart n + 8 ≤ 23 := by
  have := n.isLt; have := m.isLt; unfold rowStart bandStart; omega

theorem rowStart_bias (n : Fin 8) (m : Fin 16) : rowStart (16 * n + m) + 7 - (16 * n + m) + 8 ≤ 15 := by
  have := n.isLt; have := m.isLt; unfold rowStart; omega

/-- Row `m` of block `n`, from the block's queries, keys, values and the bias table. -/
def blockRow (mask mask' : FVec Ideal S64x512 .bf16) (x0 : Vec Ideal S1x16x64x512 .bf16) (x1 x2 : Vec Ideal S1x23x64x512 .bf16)
    (x3 : Vec Ideal S8x14x64x128 .f32) (n : Fin 8) (m : Fin 16) : FVec Ideal S1x1x64x512 .bf16 :=
  row mask mask' (fun y => x0 (ix4 0 m (y 2) (y 3)))
    (fun y => x1 (ix4 0 ⟨rowStart (16 * n + m) - bandStart n + (y 1).val,
      by have := rowStart_band n m; have h : (y 1).val < 8 := (y 1).isLt; omega⟩ (y 2) (y 3)))
    (fun y => band mask x2 (ix3 ⟨rowStart (16 * n + m) - bandStart n + (y 0).val,
      by have := rowStart_band n m; have h : (y 0).val < 8 := (y 0).isLt; omega⟩ (y 1) (y 2)))
    (fun y => band mask' x2 (ix3 ⟨rowStart (16 * n + m) - bandStart n + (y 0).val,
      by have := rowStart_band n m; have h : (y 0).val < 8 := (y 0).isLt; omega⟩ (y 1) (y 2)))
    (fun h j y => x3 (ix4 h ⟨rowStart (16 * n + m) + 7 - (16 * n + m) + 2 * j.val,
      by have := rowStart_bias n m; omega⟩ (y 2) (y 3)))

section Trip

variable (i : grid0.Coords) (arg2 : Memref sig .tc .vmem S1x16x64x512 .bf16) (harg2 : arg2.IsWhole)
  (arg3 : Memref sig .tc .vmem S1x23x64x512 .bf16) (harg3 : arg3.IsWhole)
  (arg5 : Memref sig .tc .vmem S8x14x64x128 .f32) (harg5 : arg5.IsWhole) (arg7 arg8 : Memref sig .tc .vmem S23x64x512 .bf16)
  (mask mask' : FVec Ideal S64x512 .bf16) (x0 : Vec Ideal S1x16x64x512 .bf16) (x1 x2 : Vec Ideal S1x23x64x512 .bf16)
  (x3 : Vec Ideal S8x14x64x128 .f32) (X7 : BufTy.Contents (Elt Ideal) arg7.view.ty)
  (X8 : BufTy.Contents (Elt Ideal) arg8.view.ty) (k : Fin k0_t1_loop.trips) (u : Fin 8)

theorem row_of_trip (h7 : ∀ y, View.read (Elt Ideal) arg7.view X7 y = band mask x2 y)
    (h8 : ∀ y, View.read (Elt Ideal) arg8.view X8 y = band mask' x2 y) (n : Fin 8) (hn : n.val = (i 1).val) (m : Fin 16)
    (hm : m.val = 8 * k.val + u.val) :
    rowAt i arg2 arg3 arg5 arg7 arg8 mask mask' (harg2.unread x0) (harg3.unread x1) (harg5.unread x3) X7 X8 k u =
      blockRow mask mask' x0 x1 x2 x3 n m := by
  have o1 := off1_eq k u
  have o2 := off2_eq i k u
  have o3 := off3_eq i k u
  have ob := biasOff_eq i k u
  rw [← hm] at o1
  rw [← hm, ← hn] at o2 o3
  simp only [← hm, ← hn] at ob
  unfold rowAt blockRow
  congr 1
  · funext y
    rw [Memref.IsWhole.readAt_unread]
    refine congrArg x0 (unit_idx _ _ _ _ _ fun a => ?_)
    refine Eq.trans ?_ (congrArg (· + (y a).val) (congrFun (o1) a).symm)
    match a with
    | ⟨0, _⟩ => exact (Nat.lt_one_iff.1 (y 0).isLt).symm ▸ rfl
    | ⟨1, _⟩ => exact (Nat.add_eq_left.2 (Nat.lt_one_iff.1 (y 1).isLt)).symm
    | ⟨2, _⟩ => exact (Nat.zero_add _).symm
    | ⟨3, _⟩ => exact (Nat.zero_add _).symm
  · funext y
    rw [Memref.IsWhole.readAt_unread]
    refine congrArg x1 (unit_idx _ _ _ _ _ fun a => ?_)
    refine Eq.trans ?_ (congrArg (· + (y a).val) (congrFun (o2) a).symm)
    match a with
    | ⟨0, _⟩ => exact (Nat.lt_one_iff.1 (y 0).isLt).symm ▸ rfl
    | ⟨1, _⟩ => rfl
    | ⟨2, _⟩ => exact (Nat.zero_add _).symm
    | ⟨3, _⟩ => exact (Nat.zero_add _).symm
  · funext y
    rw [View.readAt_apply, h7]
    refine congrArg (band mask x2) (unit_idx _ _ _ _ _ fun a => ?_)
    refine Eq.trans ?_ (congrArg (· + (y a).val) (congrFun (o3) a).symm)
    match a with
    | ⟨0, _⟩ => rfl
    | ⟨1, _⟩ => exact (Nat.zero_add _).symm
    | ⟨2, _⟩ => exact (Nat.zero_add _).symm
  · funext y
    rw [View.readAt_apply, h8]
    refine congrArg (band mask' x2) (unit_idx _ _ _ _ _ fun a => ?_)
    refine Eq.trans ?_ (congrArg (· + (y a).val) (congrFun (o3) a).symm)
    match a with
    | ⟨0, _⟩ => rfl
    | ⟨1, _⟩ => exact (Nat.zero_add _).symm
    | ⟨2, _⟩ => exact (Nat.zero_add _).symm
  · funext h j y
    rw [Memref.IsWhole.readAt_unread]
    refine congrArg x3 (unit_idx _ _ _ _ _ fun a => ?_)
    refine Eq.trans ?_ (congrArg (· + (y a).val) (congrFun (ob h j) a).symm)
    match a with
    | ⟨0, _⟩ => exact (Nat.add_eq_left.2 (Nat.lt_one_iff.1 (y 0).isLt)).symm
    | ⟨1, _⟩ => exact (Nat.add_eq_left.2 (Nat.lt_one_iff.1 (y 1).isLt)).symm
    | ⟨2, _⟩ => exact (Nat.zero_add _).symm
    | ⟨3, _⟩ => exact (Nat.zero_add _).symm

end Trip

/-- The block the kernel leaves in its output window. -/
def block (x0 : Vec Ideal S1x16x64x512 .bf16) (x1 x2 : Vec Ideal S1x23x64x512 .bf16) (x3 : Vec Ideal S8x14x64x128 .f32)
    (n : Fin 8) : Vec Ideal S1x16x64x512 .bf16 :=
  fun y => blockRow k0_pay416 kernelRun0_A.sl.r x0 x1 x2 x3 n (y 1) (ix4 0 0 (y 2) (y 3))

/-- The two trips of the loop. -/
def trip0 : Fin k0_t1_loop.trips := (0 : Fin 2)
def trip1 : Fin k0_t1_loop.trips := (1 : Fin 2)

theorem out_eq (c : Dev nD) (i : grid0.Coords) (arg2 : Memref sig .tc .vmem S1x16x64x512 .bf16) (harg2 : arg2.IsWhole) (arg3 : Memref sig .tc .vmem S1x23x64x512 .bf16) (harg3 : arg3.IsWhole) (arg4 : Memref sig .tc .vmem S1x23x64x512 .bf16) (harg4 : arg4.IsWhole) (arg5 : Memref sig .tc .vmem S8x14x64x128 .f32) (harg5 : arg5.IsWhole) (arg6 : Memref sig .tc .vmem S1x16x64x512 .bf16) (harg6 : arg6.IsWhole) (arg7 : Memref sig .tc .vmem S23x64x512 .bf16) (harg7 : arg7.IsWhole) (arg8 : Memref sig .tc .vmem S23x64x512 .bf16) (harg8 : arg8.IsWhole)
    (x0 : Vec Ideal S1x16x64x512 .bf16) (x1 : Vec Ideal S1x23x64x512 .bf16) (x2 : Vec Ideal S1x23x64x512 .bf16) (x3 : Vec Ideal S8x14x64x128 .f32) : out0_A_4 c i arg2 harg2 arg3 harg3 arg4 harg4 arg5 harg5 arg6 harg6 arg7 harg7 arg8 harg8 x0 x1 x2 x3 =
      block x0 x1 x2 x3 (i 1) := by
  have h7 := slabs_read k0_pay416 arg4 harg4 x2 arg7 arg7.view.junk
  have h8 := slabs_read kernelRun0_A.sl.r arg4 harg4 x2 arg8 arg8.view.junk
  funext y
  unfold out0_A_4 kernelRun0_A
  dsimp only
  rw [slabs_first, slabs_second, show Scf.trips (0#32) (Scalar.addi 0#32 2#32) 1#32 = trip1.val + 1 from by decide,
    pb_k0_t1_succ, show trip1.val = trip0.val + 1 from by decide, pb_k0_t1_succ,
    trip_pieces, trip_pieces]
  refine View.read_writes_apply_of_pieces VO0_4 _ (block x0 x1 x2 x3 (i 1)) _ ?_ y ?_
  · intro p hp x
    have hp' : ∃ (k : Fin k0_t1_loop.trips) (u : Fin 8), p = ⟨Rect.unit (s := S1x16x64x512) (k0_off1 k (BitVec.ofNat 32 u.val))
        S1x1x64x512.size (k0_off1_inb k u), rowAt i arg2 arg3 arg5 arg7 arg8 k0_pay416 kernelRun0_A.sl.r (harg2.unread x0)
        (harg3.unread x1) (harg5.unread x3) (arg7.view.writes (Elt Ideal) arg7.view.junk (slabs k0_pay416 arg4 harg4 x2))
        (arg8.view.writes (Elt Ideal) arg8.view.junk (slabs kernelRun0_A.sl.r arg4 harg4 x2)) k u⟩ := by
      rcases List.mem_append.1 hp with h | h
      · obtain ⟨u, -, e⟩ := List.mem_map.1 h
        exact ⟨trip1, u, e.symm⟩
      · rcases List.mem_append.1 h with h | h
        · obtain ⟨u, -, e⟩ := List.mem_map.1 h
          exact ⟨trip0, u, e.symm⟩
        · exact absurd h List.not_mem_nil
    obtain ⟨k, u, rfl⟩ := hp'
    have hk : k.val < 2 := k.isLt
    have hu := u.isLt
    have o1 := off1_eq k u
    have he : (Rect.unit (s := S1x16x64x512) (k0_off1 k (BitVec.ofNat 32 u.val)) S1x1x64x512.size (k0_off1_inb k u)).emb x =
        ix4 (0 : Fin 1) (⟨8 * k.val + u.val, by omega⟩ : Fin 16) (x 2) (x 3) := unit_idx _ _ _ _ _ fun a => by
      refine Eq.trans ?_ (congrArg (· + (x a).val) (congrFun o1 a).symm)
      match a with
      | ⟨0, _⟩ => exact (Nat.lt_one_iff.1 (x 0).isLt).symm ▸ rfl
      | ⟨1, _⟩ => exact (Nat.add_eq_left.2 (Nat.lt_one_iff.1 (x 1).isLt)).symm
      | ⟨2, _⟩ => exact (Nat.zero_add _).symm
      | ⟨3, _⟩ => exact (Nat.zero_add _).symm
    have hx : x = ix4 (0 : Fin 1) (0 : Fin 1) (x 2) (x 3) := funext fun a => by
      match a with
      | ⟨0, _⟩ => exact Fin.ext (Nat.lt_one_iff.1 (x 0).isLt)
      | ⟨1, _⟩ => exact Fin.ext (Nat.lt_one_iff.1 (x 1).isLt)
      | ⟨2, _⟩ => rfl
      | ⟨3, _⟩ => rfl
    rw [he]
    show rowAt i arg2 arg3 arg5 arg7 arg8 k0_pay416 kernelRun0_A.sl.r (harg2.unread x0)
        (harg3.unread x1) (harg5.unread x3) (arg7.view.writes (Elt Ideal) arg7.view.junk (slabs k0_pay416 arg4 harg4 x2))
        (arg8.view.writes (Elt Ideal) arg8.view.junk (slabs kernelRun0_A.sl.r arg4 harg4 x2)) k u x = _
    rw [row_of_trip i arg2 harg2 arg3 harg3 arg5 harg5 arg7 arg8 _ _ x0 x1 x2 x3 _ _ k u h7 h8 (i 1) rfl
      ⟨8 * k.val + u.val, by omega⟩ rfl]
    exact congrArg _ hx
  · have hy : (y 1).val < 16 := (y 1).isLt
    have key : ∀ (k : Fin k0_t1_loop.trips) (u : Fin 8), (y 1).val = 8 * k.val + u.val →
        y ∈ (Rect.unit (s := S1x16x64x512) (k0_off1 k (BitVec.ofNat 32 u.val)) S1x1x64x512.size (k0_off1_inb k u)).set := by
      intro k u h
      have o1 := off1_eq k u
      rw [Rect.mem_set_unit]
      intro a
      rw [o1]
      match a with
      | ⟨0, _⟩ => exact ⟨Nat.zero_le _, (y 0).isLt⟩
      | ⟨1, _⟩ => exact ⟨le_of_eq h.symm, Nat.lt_succ_of_le (le_of_eq h)⟩
      | ⟨2, _⟩ => exact ⟨Nat.zero_le _, by simpa using (y 2).isLt⟩
      | ⟨3, _⟩ => exact ⟨Nat.zero_le _, by simpa using (y 3).isLt⟩
    by_cases h : (y 1).val < 8
    · exact ⟨_, List.mem_append_right _ (List.mem_append_left _ (List.mem_map.2
        ⟨⟨(y 1).val, h⟩, List.mem_reverse.2 (List.mem_finRange _), rfl⟩)), key trip0 ⟨(y 1).val, h⟩ (Nat.zero_add _).symm⟩
    · exact ⟨_, List.mem_append_left _ (List.mem_map.2
        ⟨⟨(y 1).val - 8, by omega⟩, List.mem_reverse.2 (List.mem_finRange _), rfl⟩), key trip1 ⟨(y 1).val - 8, by omega⟩
          (show (y 1).val = 8 * 1 + ((y 1).val - 8) by omega)⟩

end Cert.KernelIdeal.Row

end
end
-- ==== Proof.Table.lean ====
/-
  The bias table the host builds: the relative position weights inside each column's window, minus infinity outside.
-/
module

public import proofs.«01_k».proof.Proof.Spec
public import proofs.«01_k».proof.Proof.Gen.KernelIdeal.Value
public import Idealize.ShloMosaic.Lib.Pointwise
public import Idealize.ShloMosaic.Lib.Claim
public import Idealize.ShloMosaic.Lib.Pipeline.ValueKit

@[expose] public section

set_option maxRecDepth 16384
set_option maxHeartbeats 1600000

noncomputable section

namespace Cert.KernelIdeal.Table

open Cert.KernelIdeal Cert.KernelIdeal.Gen Cert.Attn Idealize.ShloMosaic Idealize.ShloMosaic.TcCoe Idealize.SL.Sem

/-- The first column of each column's window. -/
def starts : IVec S64x1 32 :=
  minsi (broadcastInDim S64x1 ![] bcast_S_S64x1 (constantI S_ 32 48#32))
    (maxsi (broadcastInDim S64x1 ![] bcast_S_S64x1 (constantI S_ 32 0#32))
      (subi (broadcastInDim S64x1 ![0] bcast_S64_S64x1_0 (iotaInDim S64 32 0))
        (broadcastInDim S64x1 ![] bcast_S_S64x1 (constantI S_ 32 8#32))))

/-- The columns along the second axis. -/
def columns : IVec S64x64 32 :=
  broadcastInDim S64x64 ![0, 1] bcast_S1x64_S64x64_0_1 (broadcastInDim S1x64 ![1] bcast_S64_S1x64_1 (iotaInDim S64 32 0))

/-- Which columns are inside the window. -/
def inside : IVec S64x64 1 :=
  andi (cmpi .sge columns (broadcastInDim S64x64 ![0, 1] bcast_S64x1_S64x64_0_1 starts))
    (cmpi .slt columns (broadcastInDim S64x64 ![0, 1] bcast_S64x1_S64x64_0_1
      (addi starts (broadcastInDim S64x1 ![] bcast_S_S64x1 (constantI S_ 32 16#32)))))

/-- The column offsets, clipped to the weights' range. -/
def offsets : IVec S64x64 32 :=
  minsi (broadcastInDim S64x64 ![] bcast_S_S64x64 (constantI S_ 32 30#32))
    (maxsi (broadcastInDim S64x64 ![] bcast_S_S64x64 (constantI S_ 32 0#32))
      (addi (subi columns (broadcastInDim S64x64 ![0, 1] bcast_S64x1_S64x64_0_1
        (broadcastInDim S64x1 ![0] bcast_S64_S64x1_0 (iotaInDim S64 32 0))))
        (broadcastInDim S64x64 ![] bcast_S_S64x64 (constantI S_ 32 15#32))))

/-- One where the offset is the row's and the column is inside, as bits. -/
def picks : IVec S31x4096 1 :=
  andi (cmpi .eq (broadcastInDim S31x4096 ![0, 1] bcast_S1x4096_S31x4096_0_1
      (broadcastInDim S1x4096 ![1] bcast_S4096_S1x4096_1 (shapeCast S4096 offsets shapeCasts_S64x64_S4096)))
    (broadcastInDim S31x4096 ![0, 1] bcast_S31x1_S31x4096_0_1
      (broadcastInDim S31x1 ![0] bcast_S31_S31x1_0 (iotaInDim S31 32 0))))
    (broadcastInDim S31x4096 ![0, 1] bcast_S1x4096_S31x4096_0_1
      (broadcastInDim S1x4096 ![1] bcast_S4096_S1x4096_1 (shapeCast S4096 inside shapeCasts_S64x64_S4096)))

/-- Zero inside the window, minus infinity outside. -/
def outside : FVec Ideal S4096 .f32 :=
  select (shapeCast S4096 inside shapeCasts_S64x64_S4096)
    (broadcastInDim S4096 ![] bcast_S_S4096 (constant S_ .f32 0x00000000#32))
    (broadcastInDim S4096 ![] bcast_S_S4096 (constant S_ .f32 0xFF800000#32))

/-- The weights over rows, columns and columns. -/
def plane (w : FVec Ideal S8x15x31 .f32) : FVec Ideal S8x15x64x64 .f32 :=
  shapeCast S8x15x64x64 (addf
    (Host.dotGeneral dot_S8x15x31_S31x4096_S8x15x4096_2_0_01_1_n_n (some .fp32) w (uitofp .f32 picks))
    (broadcastInDim S8x15x4096 ![0, 1, 2] bcast_S1x1x4096_S8x15x4096_0_1_2
      (broadcastInDim S1x1x4096 ![2] bcast_S4096_S1x1x4096_2 outside))) shapeCasts_S8x15x4096_S8x15x64x64

/-- The table: two rows of it side by side. -/
def table (w : FVec Ideal S8x15x31 .f32) : FVec Ideal S8x14x64x128 .f32 :=
  concatenate S8x14x64x128 3
    [⟨S8x14x64x64, extractStridedSlice S8x14x64x64 ![0, 0, 0, 0] (plane w) slices_S8x15x64x64_S8x14x64x64_0_0_0_0⟩,
     ⟨S8x14x64x64, extractStridedSlice S8x14x64x64 ![0, 1, 0, 0] (plane w) slices_S8x15x64x64_S8x14x64x64_0_1_0_0⟩]
    concatenates_S8x14x64x64_S8x14x64x64_S8x14x64x128_d3

theorem entry_table (m : (ℓ : Loc nD τ sig) → Buf (Elt Ideal) ℓ) (c : Dev nD) :
    V m c main_v43 = table (m ((c : Thread nD τ).loc main_arg1)) := by
  simp only [V, hostOps0, hostOps0_1, hostOps0_2, hostOps0_3, hostOps0_4, hostOps0_5, hostOps0_6, List.flatten_cons, List.flatten_nil,
    List.append_nil, List.cons_append, List.nil_append, StableHlo.after_cons, StableHlo.after_nil]
  after_results_simp
  after_results_loop
  rfl

theorem entry_tokens (m : (ℓ : Loc nD τ sig) → Buf (Elt Ideal) ℓ) (c : Dev nD) :
    V m c main_v44 = shapeCast S4x128x64x7168 (m ((c : Thread nD τ).loc main_arg0)) shapeCasts_S32768x7168_S4x128x64x7168 := by
  simp only [V, hostOps0, hostOps0_1, hostOps0_2, hostOps0_3, hostOps0_4, hostOps0_5, hostOps0_6, List.flatten_cons, List.flatten_nil,
    List.append_nil, List.cons_append, List.nil_append, StableHlo.after_cons, StableHlo.after_nil]
  after_results_simp
  try rfl

end Cert.KernelIdeal.Table

end
end
-- ==== Proof.RowApply.lean ====
/-
  The kernel's row, element by element.
-/
module

public import proofs.«01_k».proof.Proof.Row
public import Idealize.ShloMosaic.Lib.Pointwise

@[expose] public section

set_option maxRecDepth 16384

noncomputable section

namespace Cert.KernelIdeal.Row

open Cert.KernelIdeal Cert.KernelIdeal.Gen Idealize.ShloMosaic Idealize.ShloMosaic.TcCoe Idealize.SL.Sem

theorem ofBits_eighth : Ideal.ofBits .bf16 0x3E00#16 = ((1 / 8 : ℝ) : EReal) := by
  simp [Ideal.ofBits, Ideal.ieee]
  rw [← EReal.coe_mul]
  congr 1
  norm_num

theorem ofBits_bot : Ideal.ofBits .f32 0xFF800000#32 = ⊥ := by
  simp [Ideal.ofBits, Ideal.ieee]

/-- The piece a position of four pieces side by side falls in. -/
theorem ladder {α : Type} (f : Fin 4 → Fin 128 → α) (j : Fin 4) (m : Fin 128) :
    (if h : 128 * j.val + m.val < 128 then f 0 ⟨128 * j.val + m.val, h⟩
      else if h : 128 * j.val + m.val - 128 < 128 then f 1 ⟨128 * j.val + m.val - 128, h⟩
      else if h : 128 * j.val + m.val - 128 - 128 < 128 then f 2 ⟨128 * j.val + m.val - 128 - 128, h⟩
      else f 3 ⟨128 * j.val + m.val - 128 - 128 - 128, by omega⟩) = f j m := by
  obtain ⟨j, hj⟩ := j
  obtain ⟨m, hm⟩ := m
  have e : ∀ (i : Fin 4) (n : ℕ) (hn : n < 128), i.val = j → n = m → f i ⟨n, hn⟩ = f ⟨j, hj⟩ ⟨m, hm⟩ := by
    rintro ⟨i, hi⟩ n hn rfl rfl; rfl
  split
  · exact e _ _ _ (by simp at *; omega) (by simp at *; omega)
  · split
    · exact e _ _ _ (by simp at *; omega) (by simp at *; omega)
    · split
      · exact e _ _ _ (by simp at *; omega) (by simp at *; omega)
      · exact e _ _ _ (by simp at *; omega) (by simp at *; omega)

theorem query_apply (mask : FVec Ideal S64x512 .bf16) (x : Vec Ideal S1x1x64x512 .bf16) (r : Fin 64) (p : Fin 512) :
    query mask x (ix2 r p) = x (ix4 0 0 r p) * ((1 / 8 : ℝ) : EReal) * mask (ix2 r p) := by
  pointwise [query]
  rw [ofBits_eighth]

theorem keys_apply (x : Vec Ideal S1x8x64x512 .bf16) (n p : Fin 512) :
    keys x (ix2 n p) = x (ix4 0 ⟨n / 64, by omega⟩ ⟨n % 64, by omega⟩ p) := by
  pointwise [keys]

theorem values_apply (x : Vec Ideal S8x64x512 .bf16) (n p : Fin 512) :
    values x (ix2 n p) = x (ix3 ⟨n / 64, by omega⟩ ⟨n % 64, by omega⟩ p) := by
  pointwise [values]

theorem bias_apply (b : Fin 4 → Vec Ideal S1x1x64x128 .f32) (r : Fin 64) (j : Fin 4) (m : Fin 128) :
    bias b (ix2 r ⟨128 * j + m, by omega⟩) = b j (ix4 0 0 r m) := by
  pointwise [bias]
  rw [ladder (fun j m => b j (ix4 0 0 r m)) j m]

theorem scores_apply (o : ℕ) (ho : o + 128 ≤ 512) (hq : S64x512.Slices ![0, o] S64x128) (hk : S512x512.Slices ![0, o] S512x128)
    (q : FVec Ideal S64x512 .bf16) (k : FVec Ideal S512x512 .bf16) (b : FVec Ideal S64x512 .f32) (r : Fin 64) (n : Fin 512) :
    scores o hq hk q k b (ix2 r n) =
      (∑ l : Fin 128, q (ix2 r ⟨o + l, by omega⟩) * k (ix2 n ⟨o + l, by omega⟩)) + b (ix2 r n) := by
  pointwise [scores]

theorem weights_apply (s : FVec Ideal S64x512 .f32) (r : Fin 64) (n : Fin 512) :
    weights s (ix2 r n) = Ideal.exp (s (ix2 r n) - Finset.univ.fold max ⊥ fun k : Fin 512 => s (ix2 r k)) := by
  pointwise [weights]
  rw [ofBits_bot]

theorem recip_apply (p : FVec Ideal S64x512 .f32) (r : Fin 64) :
    recip p (ix2 r 0) = Ideal.div 1 (∑ k : Fin 512, p (ix2 r k)) := by
  pointwise [recip]

theorem half_apply (o : ℕ) (ho : o + 128 ≤ 512) (hk : S512x512.Slices ![0, o] S512x128) (s : FVec Ideal S64x512 .f32)
    (v : FVec Ideal S512x512 .bf16) (r : Fin 64) (l : Fin 128) :
    half o hk s v (ix2 r l) =
      (∑ n : Fin 512, weights s (ix2 r n) * v (ix2 n ⟨o + l, by omega⟩)) * recip (weights s) (ix2 r 0) := by
  pointwise [half]

/-- A line's scores over its band for the lanes of pair `g`. -/
def lineScore (q : FVec Ideal S64x512 .bf16) (k : FVec Ideal S512x512 .bf16) (b : FVec Ideal S64x512 .f32) (g : Fin 4)
    (r : Fin 64) (n : Fin 512) : EReal :=
  (∑ l : Fin 128, q (ix2 r ⟨128 * g + l, by omega⟩) * k (ix2 n ⟨128 * g + l, by omega⟩)) + b (ix2 r n)

/-- The values weighted by the scores' exponentials, times the reciprocal of the exponentials' sum. -/
def lineOut (s v : Fin 512 → EReal) : EReal :=
  (∑ n, Ideal.exp (s n - Finset.univ.fold max ⊥ s) * v n) *
    Ideal.div 1 (∑ n, Ideal.exp (s n - Finset.univ.fold max ⊥ s))

theorem pair_apply (g : Fin 4) (o : ℕ) (ho : o = 128 * g.val) (hq : S64x512.Slices ![0, o] S64x128)
    (hk : S512x512.Slices ![0, o] S512x128)
    (q q' : FVec Ideal S64x512 .bf16) (k v v' : FVec Ideal S512x512 .bf16) (b b' : FVec Ideal S64x512 .f32) (r : Fin 64)
    (l : Fin 128) :
    pair o hq hk q q' k v v' b b' (ix2 r l) =
      lineOut (lineScore q k b g r) (fun n => v (ix2 n ⟨128 * g + l, by omega⟩)) +
        lineOut (lineScore q' k b' g r) (fun n => v' (ix2 n ⟨128 * g + l, by omega⟩)) := by
  subst ho
  have h : ∀ (q : FVec Ideal S64x512 .bf16) (v : FVec Ideal S512x512 .bf16) (b : FVec Ideal S64x512 .f32),
      half (128 * g.val) hk (scores (128 * g.val) hq hk q k b) v (ix2 r l) =
        lineOut (lineScore q k b g r) (fun n => v (ix2 n ⟨128 * g + l, by omega⟩)) := fun q v b => by
    rw [half_apply _ (by omega), recip_apply]
    simp only [weights_apply, scores_apply _ (show 128 * g.val + 128 ≤ 512 by omega)]
    rfl
  show half _ _ _ _ _ + half _ _ _ _ _ = _
  rw [h, h]

/-- The row's four pairs. -/
def pairs (mask mask' : FVec Ideal S64x512 .bf16) (xq : Vec Ideal S1x1x64x512 .bf16) (xk : Vec Ideal S1x8x64x512 .bf16)
    (xv xv' : Vec Ideal S8x64x512 .bf16) (b : Fin 8 → Fin 4 → Vec Ideal S1x1x64x128 .f32) (r : Fin 64) (i : Fin 4)
    (m : Fin 128) : EReal :=
  match i with
    | 0 => pair 0 slices_S64x512_o0_0_S64x128 slices_S512x512_o0_0_S512x128 (query mask xq) (query mask' xq) (keys xk)
      (values xv) (values xv') (bias (b 0)) (bias (b 1)) (ix2 r m)
    | 1 => pair 128 slices_S64x512_o0_128_S64x128 slices_S512x512_o0_128_S512x128 (query mask xq) (query mask' xq) (keys xk)
      (values xv) (values xv') (bias (b 2)) (bias (b 3)) (ix2 r m)
    | 2 => pair 256 slices_S64x512_o0_256_S64x128 slices_S512x512_o0_256_S512x128 (query mask xq) (query mask' xq) (keys xk)
      (values xv) (values xv') (bias (b 4)) (bias (b 5)) (ix2 r m)
    | 3 => pair 384 slices_S64x512_o0_384_S64x128 slices_S512x512_o0_384_S512x128 (query mask xq) (query mask' xq) (keys xk)
      (values xv) (values xv') (bias (b 6)) (bias (b 7)) (ix2 r m)

theorem row_apply (mask mask' : FVec Ideal S64x512 .bf16) (xq : Vec Ideal S1x1x64x512 .bf16) (xk : Vec Ideal S1x8x64x512 .bf16)
    (xv xv' : Vec Ideal S8x64x512 .bf16) (b : Fin 8 → Fin 4 → Vec Ideal S1x1x64x128 .f32) (r : Fin 64) (g : Fin 4)
    (l : Fin 128) :
    row mask mask' xq xk xv xv' b (ix4 0 0 r ⟨128 * g + l, by omega⟩) =
      lineOut (lineScore (query mask xq) (keys xk) (bias (b ⟨2 * g, by omega⟩)) g r)
          (fun n => values xv (ix2 n ⟨128 * g + l, by omega⟩)) +
        lineOut (lineScore (query mask' xq) (keys xk) (bias (b ⟨2 * g + 1, by omega⟩)) g r)
          (fun n => values xv' (ix2 n ⟨128 * g + l, by omega⟩)) := by
  have e : ∀ (o : ℕ) (hq : S64x512.Slices ![0, o] S64x128) (hk : S512x512.Slices ![0, o] S512x128) (i j : Fin 8) (l : Fin 128),
      o = 128 * g.val → i.val = 2 * g.val → j.val = 2 * g.val + 1 →
      pair o hq hk (query mask xq) (query mask' xq) (keys xk) (values xv) (values xv') (bias (b i)) (bias (b j)) (ix2 r l) =
        lineOut (lineScore (query mask xq) (keys xk) (bias (b ⟨2 * g, by omega⟩)) g r)
          (fun n => values xv (ix2 n ⟨128 * g + l, by omega⟩)) +
        lineOut (lineScore (query mask' xq) (keys xk) (bias (b ⟨2 * g + 1, by omega⟩)) g r)
          (fun n => values xv' (ix2 n ⟨128 * g + l, by omega⟩)) := fun o hq hk i j l ho hi hj => by
    rw [pair_apply g o ho, show i = ⟨2 * g, by omega⟩ from Fin.ext hi, show j = ⟨2 * g + 1, by omega⟩ from Fin.ext hj]
  have hf : ∀ i : Fin 4, i = g → pairs mask mask' xq xk xv xv' b r i l = _ := fun i hi => by
    have hv := congrArg Fin.val hi
    match i with
    | 0 => exact e 0 _ _ 0 1 l (by rw [← hv]; rfl) (by rw [← hv]; rfl) (by rw [← hv]; rfl)
    | 1 => exact e 128 _ _ 2 3 l (by rw [← hv]; rfl) (by rw [← hv]; rfl) (by rw [← hv]; rfl)
    | 2 => exact e 256 _ _ 4 5 l (by rw [← hv]; rfl) (by rw [← hv]; rfl) (by rw [← hv]; rfl)
    | 3 => exact e 384 _ _ 6 7 l (by rw [← hv]; rfl) (by rw [← hv]; rfl) (by rw [← hv]; rfl)
  pointwise [row]
  exact (ladder (pairs mask mask' xq xk xv xv' b r) g l).trans (hf g rfl)

end Cert.KernelIdeal.Row

end
end
-- ==== Proof.TableApply.lean ====
/-
  The bias table, element by element.
-/
module

public import proofs.«01_k».proof.Proof.Spec
public import proofs.«01_k».proof.Proof.Table
public import proofs.«01_k».proof.Proof.RowApply
public import Idealize.ShloMosaic.Lib.Pointwise
public import Idealize.ShloMosaic.Lib.Claim
public import Idealize.ShloMosaic.Lib.Pipeline.ValueKit

@[expose] public section

set_option maxRecDepth 16384
set_option maxHeartbeats 400000

noncomputable section

namespace Cert.KernelIdeal.Table

open Cert.KernelIdeal Cert.KernelIdeal.Gen Cert.Attn Idealize.ShloMosaic Idealize.ShloMosaic.TcCoe Idealize.SL.Sem

theorem inside_words : ∀ x y : Fin 64, IntOp.andi
      (IntOp.cmpi .sge (BitVec.ofNat 32 y.val)
        (IntOp.minsi (48#32) (IntOp.maxsi (0#32) (IntOp.subi (BitVec.ofNat 32 x.val) 8#32))))
      (IntOp.cmpi .slt (BitVec.ofNat 32 y.val)
        (IntOp.addi (IntOp.minsi (48#32) (IntOp.maxsi (0#32) (IntOp.subi (BitVec.ofNat 32 x.val) 8#32))) 16#32)) =
    if colStart x ≤ y.val ∧ y.val < colStart x + 16 then 1#1 else 0#1 := by
  decide +kernel

theorem inside_apply (x y : Fin 64) :
    inside (ix2 x y) = if colStart x ≤ y.val ∧ y.val < colStart x + 16 then 1#1 else 0#1 := by
  pointwise [inside, columns, starts]
  exact inside_words x y

theorem offsets_words : ∀ x y : Fin 64,
    IntOp.minsi (30#32) (IntOp.maxsi (0#32) (IntOp.addi (IntOp.subi (BitVec.ofNat 32 y.val) (BitVec.ofNat 32 x.val)) 15#32)) =
    BitVec.ofNat 32 (min (y.val + 15 - x.val) 30) := by
  decide +kernel

theorem offsets_apply (x y : Fin 64) : offsets (ix2 x y) = BitVec.ofNat 32 (min (y.val + 15 - x.val) 30) := by
  pointwise [offsets, columns]
  exact offsets_words x y

theorem pick_words : ∀ (n d : Fin 31) (b : BitVec 1),
    IntOp.andi (IntOp.cmpi .eq (BitVec.ofNat 32 n.val) (BitVec.ofNat 32 d.val)) b = if d = n then b else 0#1 := by
  decide +kernel

theorem picks_apply (d : Fin 31) (x y : Fin 64) : picks (ix2 d ⟨x * 64 + y, by omega⟩) =
    if d = (⟨min (y.val + 15 - x.val) 30, by omega⟩ : Fin 31) then inside (ix2 x y) else 0#1 := by
  pointwise [picks]
  rw [offsets_apply]
  exact pick_words ⟨min (y.val + 15 - x.val) 30, by omega⟩ d _

theorem bit_one : (FloatOps.uitofp .f32 (1#1) : Ideal .f32) = (1 : EReal) := by
  show (((1#1 : BitVec 1).toNat : ℝ) : EReal) = 1
  norm_num

theorem bit_zero : (FloatOps.uitofp .f32 (0#1) : Ideal .f32) = (0 : EReal) := by
  show (((0#1 : BitVec 1).toNat : ℝ) : EReal) = 0
  norm_num

theorem plane_apply (w : FVec Ideal S8x15x31 .f32) (h : Fin 8) (r : Fin 15) (x y : Fin 64) :
    plane w (ix4 h r x y) = if colStart x ≤ y.val ∧ y.val < colStart x + 16 then posAt w h r (y + 15 - x) else ⊥ := by
  pointwise [plane, outside]
  simp only [picks_apply]
  rw [inside_apply]
  by_cases hc : colStart x ≤ y.val ∧ y.val < colStart x + 16
  · rw [if_pos hc, if_pos hc]
    show _ + (0 : EReal) = _
    rw [add_zero, Finset.sum_eq_single (⟨min (y.val + 15 - x.val) 30, by omega⟩ : Fin 31)]
    · rw [if_pos rfl, bit_one]
      refine (mul_one _).trans (posAt_eq w _ _ _ _ rfl rfl ?_)
      show min (y.val + 15 - x.val) 30 = _
      have := hc.2
      have := x.isLt
      unfold colStart at this
      unfold colStart at hc
      omega
    · intro d _ hd
      rw [if_neg hd, bit_zero]
      exact mul_zero _
    · exact fun h => absurd (Finset.mem_univ _) h
  · rw [if_neg hc, if_neg hc]
    show _ + Ideal.ofBits .f32 0xFF800000#32 = ⊥
    rw [Row.ofBits_bot]
    exact EReal.add_bot _

theorem table_apply (w : FVec Ideal S8x15x31 .f32) (h : Fin 8) (r : Fin 14) (x : Fin 64) (l : Fin 128) :
    table w (ix4 h r x l) = if colStart x ≤ l.val % 64 ∧ l.val % 64 < colStart x + 16 then
      posAt w h (r + l / 64) (l % 64 + 15 - x) else ⊥ := by
  have hl := l.isLt
  pointwise [table]
  by_cases h1 : l.val < 64
  · rw [dif_pos h1, plane_apply]
    simp only [show r.val + l.val / 64 = r.val by omega, show l.val % 64 = l.val by omega]
  · rw [dif_neg h1, plane_apply]
    simp only [show r.val + l.val / 64 = 1 + r.val by omega, show l.val % 64 = l.val - 64 by omega]

end Cert.KernelIdeal.Table

end
end
-- ==== Proof.Masks.lean ====
/-
  The kernel's two lane masks: the first and the second half of every 128 lanes.
-/
module

public import proofs.«01_k».proof.Proof.Gen.KernelIdeal.Value
public import Idealize.ShloMosaic.Lib.Pointwise
public import Idealize.ShloMosaic.PureOps.Ideal

@[expose] public section

set_option maxRecDepth 16384
set_option maxHeartbeats 400000

noncomputable section

namespace Cert.KernelIdeal.Row

open Cert.KernelIdeal Cert.KernelIdeal.Gen Idealize.ShloMosaic Idealize.ShloMosaic.TcCoe Idealize.SL.Sem

/-- The divisor of the lane numbers. -/
def width : BitVec 32 := Scalar.select (Scalar.cmpi .eq 128#32 0#32) 1#32 128#32

/-- Whether lane `p` is in the first half of its 128, as the kernel computes it. -/
def laneBit (p : ℕ) : BitVec 1 :=
  IntOp.cmpi .slt
    (Scalar.select
      (IntOp.andi
        (IntOp.xori (IntOp.cmpi .slt (IntOp.remsi .vector (BitVec.ofNat 32 p) width) 0#32) (Scalar.cmpi .slt width 0#32))
        (IntOp.cmpi .ne (IntOp.remsi .vector (BitVec.ofNat 32 p) width) 0#32))
      (IntOp.addi (IntOp.remsi .vector (BitVec.ofNat 32 p) width) width)
      (IntOp.remsi .vector (BitVec.ofNat 32 p) width))
    64#32

theorem laneBit_eq : ∀ p : Fin 512, laneBit p.val = if p.val % 128 / 64 = 0 then 1#1 else 0#1 := by
  decide +kernel

theorem mask_first (r : Fin 64) (p : Fin 512) :
    (k0_pay416 (F := Ideal)) (ix2 r p) = if p.val % 128 / 64 = 0 then (1 : EReal) else 0 := by
  pointwise [k0_pay416]
  show Scalar.select (laneBit p) (1 : EReal) 0 = _
  rw [laneBit_eq]
  split_ifs <;> rfl

theorem mask_second (r : Fin 64) (p : Fin 512) :
    (kernelRun0_A.sl.r (F := Ideal)) (ix2 r p) = if p.val % 128 / 64 = 1 then (1 : EReal) else 0 := by
  pointwise [kernelRun0_A.sl.r, k0_pay420, k0_pay417, k0_pay418, k0_pay419]
  show Scalar.select (laneBit p) (0 : EReal) 1 = _
  rw [laneBit_eq]
  have h : p.val % 128 / 64 = 1 ↔ ¬ p.val % 128 / 64 = 0 := by omega
  by_cases h0 : p.val % 128 / 64 = 0
  · rw [if_pos h0, if_neg (by omega)]; rfl
  · rw [if_neg h0, if_pos (by omega)]; rfl

end Cert.KernelIdeal.Row

end
end
-- ==== Proof.BlockValue.lean ====
/-
  The kernel's block as neighbourhood attention, given what its windows hold.
-/
module

public import proofs.«01_k».proof.Proof.Out
public import proofs.«01_k».proof.Proof.RowApply
public import Idealize.ShloMosaic.Lib.Pointwise

@[expose] public section

set_option maxRecDepth 16384
set_option maxHeartbeats 400000

noncomputable section

namespace Cert.KernelIdeal.Row

open Cert.KernelIdeal Cert.KernelIdeal.Gen Cert.Attn Idealize.ShloMosaic Idealize.ShloMosaic.TcCoe Idealize.SL.Sem

/-- Sum over 128 lanes of which only the half `e` counts. -/
theorem sum_half (e : Fin 2) (f : Fin 128 → EReal) (hf : ∀ p : Fin 128, p.val / 64 ≠ e.val → f p = 0) :
    ∑ p, f p = ∑ d : Fin 64, f ⟨64 * e + d, by omega⟩ := by
  have h : ∑ p, f p = ∑ d : Fin 64, f ⟨d, by omega⟩ + ∑ d : Fin 64, f ⟨64 + d, by omega⟩ :=
    Fin.sum_univ_add (a := 64) (b := 64) f
  rw [h]
  match e with
  | 0 =>
    rw [Finset.sum_eq_zero (s := Finset.univ) (f := fun d : Fin 64 => f ⟨64 + d, by omega⟩)
      fun d _ => hf _ (by show (64 + d.val) / 64 ≠ 0; omega), add_zero]
    exact Finset.sum_congr rfl fun d _ => congrArg f (Fin.ext (by show d.val = 64 * 0 + d.val; omega))
  | 1 =>
    rw [Finset.sum_eq_zero (s := Finset.univ) (f := fun d : Fin 64 => f ⟨d, by omega⟩)
      fun d _ => hf _ (by show d.val / 64 ≠ 1; omega), zero_add]
    exact Finset.sum_congr rfl fun d _ => congrArg f (Fin.ext (by show 64 + d.val = 64 * 1 + d.val; omega))

section Block

variable (z : ℕ → ℕ → EReal) (w : ℕ → ℕ → ℕ → EReal) (b : ℕ) (n : Fin 8)
  (x0 : Vec Ideal S1x16x64x512 .bf16) (x1 x2 : Vec Ideal S1x23x64x512 .bf16) (x3 : Vec Ideal S8x14x64x128 .f32)

/-- What the windows hold at block `n` of image `b`. -/
structure Holds : Prop where
  q : ∀ (m : Fin 16) (r : Fin 64) (p : Fin 512), x0 (ix4 0 m r p) = z (tok b (16 * n + m) r) (2048 + p)
  k : ∀ (j : Fin 23) (r : Fin 64) (p : Fin 512), x1 (ix4 0 j r p) = z (tok b (bandStart n + j) r) (2560 + p)
  v : ∀ (j : Fin 23) (r : Fin 64) (p : Fin 512), x2 (ix4 0 j r p) = z (tok b (bandStart n + j) r) (3072 + p)
  t : ∀ (h : Fin 8) (r : Fin 14) (x : Fin 64) (l : Fin 128), x3 (ix4 h r x l) =
    if colStart x ≤ l.val % 64 ∧ l.val % 64 < colStart x + 16 then w h (r + l / 64) (l % 64 + 15 - x) else ⊥

variable {z w b n x0 x1 x2 x3}

theorem band_start (n : Fin 8) (m : Fin 16) (j : ℕ) :
    bandStart n + (rowStart (16 * n + m) - bandStart n + j) = rowStart (16 * n + m) + j := by
  have := n.isLt; have := m.isLt; unfold rowStart bandStart; omega

theorem bias_row (n : Fin 8) (m : Fin 16) (i j : ℕ) :
    rowStart (16 * n + m) + 7 - (16 * n + m) + i + j = rowStart (16 * n + m) + (i + j) + 7 - (16 * n + m) := by
  have := n.isLt; have := m.isLt; unfold rowStart; omega

/-- The scores of a line over its whole band: minus infinity outside the window's columns. -/
theorem line_score (H : Holds z w b n x0 x1 x2 x3) (e : Fin 2) (mask : FVec Ideal S64x512 .bf16)
    (hm : ∀ r p, mask (ix2 r p) = if p.val % 128 / 64 = e.val then (1 : EReal) else 0) (m : Fin 16) (g : Fin 4) (x : Fin 64)
    (N : Fin 512) :
    lineScore (query mask (fun y => x0 (ix4 0 m (y 2) (y 3))))
      (keys (fun y => x1 (ix4 0 ⟨rowStart (16 * n + m) - bandStart n + (y 1).val,
        by have := rowStart_band n m; have h : (y 1).val < 8 := (y 1).isLt; omega⟩ (y 2) (y 3))))
      (bias (fun j y => x3 (ix4 ⟨2 * g + e, by omega⟩ ⟨rowStart (16 * n + m) + 7 - (16 * n + m) + 2 * j.val,
        by have := rowStart_bias n m; omega⟩ (y 2) (y 3)))) g x N =
      if colStart x ≤ N.val % 64 ∧ N.val % 64 < colStart x + 16 then
        score z w b (16 * n + m) x (2 * g + e) (rowStart (16 * n + m) + N / 64) (N % 64)
      else ⊥ := by
  have hb := bias_apply (fun j y => x3 (ix4 ⟨2 * g + e, by omega⟩ ⟨rowStart (16 * n + m) + 7 - (16 * n + m) + 2 * j.val,
        by have := rowStart_bias n m; omega⟩ (y 2) (y 3))) x ⟨N / 128, by omega⟩ ⟨N % 128, by omega⟩
  have hN : (⟨128 * (N.val / 128) + N.val % 128, by omega⟩ : Fin 512) = N := Fin.ext (by show 128 * (N.val / 128) + N.val % 128 = _; omega)
  dsimp only at hb
  rw [hN] at hb
  unfold lineScore
  rw [hb]
  refine (congrArg (_ + ·) (H.t _ _ x _)).trans ?_
  show _ + (if colStart x ≤ N.val % 128 % 64 ∧ N.val % 128 % 64 < colStart x + 16 then
    w (2 * g + e) (rowStart (16 * n + m) + 7 - (16 * n + m) + 2 * (N.val / 128) + N.val % 128 / 64) (N.val % 128 % 64 + 15 - x)
    else ⊥) = _
  have ec : N.val % 128 % 64 = N.val % 64 := by omega
  rw [ec]
  by_cases hc : colStart x ≤ N.val % 64 ∧ N.val % 64 < colStart x + 16
  · rw [if_pos hc, if_pos hc]
    unfold score
    have er : rowStart (16 * n + m) + 7 - (16 * n + m) + 2 * (N.val / 128) + N.val % 128 / 64 =
        rowStart (16 * n + m) + N.val / 64 + 7 - (16 * n + m) := by
      rw [bias_row]; congr 3; omega
    refine congrArg₂ (· + ·) ?_ (congrArg₂ (w (2 * g + e)) er rfl)
    rw [← sum_scale _ _ _ eighth_nonneg eighth_ne_top, sum_half e]
    · refine Finset.sum_congr rfl fun d _ => ?_
      rw [query_apply, keys_apply, hm, if_pos (by show (128 * g.val + (64 * e.val + d.val)) % 128 / 64 = e.val; omega), mul_one]
      refine congrArg₂ (· * ·) (congrArg (· * _) ((H.q m x _).trans (congrArg (z _) ?_)))
        ((H.k _ _ _).trans (congrArg₂ z (congrArg (fun t => tok b t _) (band_start n m _)) ?_))
      · show 2048 + (128 * g.val + (64 * e.val + d.val)) = _; ring
      · show 2560 + (128 * g.val + (64 * e.val + d.val)) = _; ring
    · intro p hp
      rw [query_apply, hm, if_neg (by show ¬ (128 * g.val + p.val) % 128 / 64 = e.val; omega), mul_zero, zero_mul]
  · rw [if_neg hc, if_neg hc]
    exact EReal.add_bot _

/-- The place in the band of the window's position `k`. -/
def place (x : Fin 64) (k : Fin 128) : Fin 512 :=
  ⟨k / 16 * 64 + (colStart x + k % 16), by have := x.isLt; unfold colStart; omega⟩

theorem place_div (x : Fin 64) (k : Fin 128) : (place x k).val / 64 = k / 16 := by
  show (k.val / 16 * 64 + (colStart x + k.val % 16)) / 64 = _
  have := x.isLt; unfold colStart; omega

theorem place_mod (x : Fin 64) (k : Fin 128) : (place x k).val % 64 = colStart x + k % 16 := by
  show (k.val / 16 * 64 + (colStart x + k.val % 16)) % 64 = _
  have := x.isLt; unfold colStart; omega

theorem place_injective (x : Fin 64) : Function.Injective (place x) := fun k k' h => by
  have h1 := congrArg (fun t : Fin 512 => t.val / 64) h
  have h2 := congrArg (fun t : Fin 512 => t.val % 64) h
  simp only [place_div, place_mod] at h1 h2
  exact Fin.ext (by omega)

theorem place_surjective (x : Fin 64) (N : Fin 512) (h : colStart x ≤ N.val % 64 ∧ N.val % 64 < colStart x + 16) :
    N ∈ Set.range (place x) :=
  ⟨⟨N / 64 * 16 + (N % 64 - colStart x), by omega⟩, Fin.ext (by
    show (N.val / 64 * 16 + (N.val % 64 - colStart x)) / 16 * 64 + (colStart x + (N.val / 64 * 16 + (N.val % 64 - colStart x)) % 16) = N.val
    omega)⟩

/-- One half of a pair: the head's attention in its own lanes, zero in the other head's. -/
theorem line_out (H : Holds z w b n x0 x1 x2 x3) (e : Fin 2) (mask : FVec Ideal S64x512 .bf16)
    (hm : ∀ r p, mask (ix2 r p) = if p.val % 128 / 64 = e.val then (1 : EReal) else 0) (m : Fin 16) (g : Fin 4) (x : Fin 64)
    (l : Fin 128) :
    lineOut (lineScore (query mask (fun y => x0 (ix4 0 m (y 2) (y 3))))
      (keys (fun y => x1 (ix4 0 ⟨rowStart (16 * n + m) - bandStart n + (y 1).val,
        by have := rowStart_band n m; have h : (y 1).val < 8 := (y 1).isLt; omega⟩ (y 2) (y 3))))
      (bias (fun j y => x3 (ix4 ⟨2 * g + e, by omega⟩ ⟨rowStart (16 * n + m) + 7 - (16 * n + m) + 2 * j.val,
        by have := rowStart_bias n m; omega⟩ (y 2) (y 3)))) g x)
      (fun N => values (fun y => band mask x2 (ix3 ⟨rowStart (16 * n + m) - bandStart n + (y 0).val,
        by have := rowStart_band n m; have h : (y 0).val < 8 := (y 0).isLt; omega⟩ (y 1) (y 2))) (ix2 N ⟨128 * g + l, by omega⟩)) =
      if l.val / 64 = e.val then out z w b (16 * n + m) x (2 * g + e) (l % 64) else 0 := by
  have hv : ∀ N : Fin 512, values (fun y => band mask x2 (ix3 ⟨rowStart (16 * n + m) - bandStart n + (y 0).val,
        by have := rowStart_band n m; have h : (y 0).val < 8 := (y 0).isLt; omega⟩ (y 1) (y 2))) (ix2 N ⟨128 * g + l, by omega⟩) =
      z (tok b (rowStart (16 * n + m) + N / 64) (N % 64)) (3072 + (128 * g + l)) * if l.val / 64 = e.val then (1 : EReal) else 0 := by
    intro N
    rw [values_apply]
    refine congrArg₂ (· * ·) ((H.v _ _ _).trans (congrArg₂ z (congrArg (fun t => tok b t _) (band_start n m _)) rfl)) ((hm _ _).trans ?_)
    have : (128 * g.val + l.val) % 128 = l.val := by omega
    show (if (128 * g.val + l.val) % 128 / 64 = e.val then (1 : EReal) else 0) = _
    rw [this]
  unfold lineOut
  simp only [hv]
  by_cases hl : l.val / 64 = e.val
  · simp only [if_pos hl, mul_one]
    have hs := line_score H e mask hm m g x
    refine (attend_masked (place x) (place_injective x) _ _ fun N hN => (hs N).trans (if_neg fun h => hN (place_surjective x N h))).trans ?_
    unfold out
    congr 1
    · funext k
      rw [hs, place_div, place_mod, if_pos ⟨Nat.le_add_right _ _, by omega⟩]
    · funext k
      rw [place_div, place_mod, show 3072 + (128 * g.val + l.val) = 3072 + 64 * (2 * g.val + e.val) + l.val % 64 by omega]
  · simp only [if_neg hl]
    exact sum_mul_zero _ _ _

/-- The block's element in lane `l` of pair `g`. -/
theorem blockRow_value (H : Holds z w b n x0 x1 x2 x3) (mask mask' : FVec Ideal S64x512 .bf16)
    (hm : ∀ r p, mask (ix2 r p) = if p.val % 128 / 64 = 0 then (1 : EReal) else 0)
    (hm' : ∀ r p, mask' (ix2 r p) = if p.val % 128 / 64 = 1 then (1 : EReal) else 0) (m : Fin 16) (x : Fin 64) (g : Fin 4)
    (l : Fin 128) :
    blockRow mask mask' x0 x1 x2 x3 n m (ix4 0 0 x ⟨128 * g + l, by omega⟩) =
      out z w b (16 * n + m) x (2 * g + l / 64) (l % 64) := by
  unfold blockRow
  rw [row_apply]
  have h0 := line_out H 0 mask hm m g x l
  have h1 := line_out H 1 mask' hm' m g x l
  refine (congrArg₂ (· + ·) h0 h1).trans ?_
  show (if l.val / 64 = 0 then out z w b (16 * n + m) x (2 * g + 0) (l % 64) else 0) +
    (if l.val / 64 = 1 then out z w b (16 * n + m) x (2 * g + 1) (l % 64) else 0) = _
  by_cases hl : l.val / 64 = 0
  · rw [if_pos hl, if_neg (by rw [hl]; decide), add_zero, hl]
  · have hl' : l.val / 64 = 1 := by omega
    rw [if_neg hl, if_pos hl', zero_add, hl']

end Block

end Cert.KernelIdeal.Row

end
end
-- ==== Proof.Blocks.lean ====
/-
  The windows' blocks at a grid point, and the array the kernel leaves.
-/
module

public import proofs.«01_k».proof.Proof.Out
public import proofs.«01_k».proof.Proof.TableApply
public import proofs.«01_k».proof.Proof.Masks
public import proofs.«01_k».proof.Proof.BlockValue
public import Idealize.ShloMosaic.Lib.Pointwise

@[expose] public section

set_option maxRecDepth 16384
set_option maxHeartbeats 400000

noncomputable section

namespace Cert.KernelIdeal.Blocks

open Cert.KernelIdeal Cert.KernelIdeal.Gen Cert.KernelIdeal.Row Cert.KernelIdeal.Table Cert.Attn
open Idealize.ShloMosaic Idealize.ShloMosaic.TcCoe Idealize.SL.Sem
open Idealize.ShloMosaic.Pipeline (Dat)

/-- The windows' places at the grid points. -/
theorem places : ∀ t : Fin cfg0.N,
    win0_0.index t = ![(grid0.coords t 0).val, (grid0.coords t 1).val, 0, 4] ∧
    win0_1.index t = ![(grid0.coords t 0).val, min (16 * (grid0.coords t 1).val - 4) 105, 0, 2560] ∧
    win0_2.index t = ![(grid0.coords t 0).val, min (16 * (grid0.coords t 1).val - 4) 105, 0, 3072] ∧
    win0_3.index t = ![0, 0, 0, 0] ∧
    win0_4.index t = ![(grid0.coords t 0).val, (grid0.coords t 1).val, 0, 0] :=
  (by decide +kernel : ∀ t : Fin grid0.N, _)

variable (m : (ℓ : Loc nD τ sig) → Buf (Elt Ideal) ℓ) (c : Dev nD)

/-- The projected tokens at row `r` and channel `p`. -/
abbrev tokens : ℕ → ℕ → EReal := tokAt (m ((c : Thread nD τ).loc main_arg0))
/-- The table's weights. -/
abbrev weights : ℕ → ℕ → ℕ → EReal := posAt (m ((c : Thread nD τ).loc main_arg1))

theorem tokens_cast (Z : FVec Ideal S32768x7168 .bf16) (i : S4x128x64x7168.Idx) :
    shapeCast S4x128x64x7168 Z shapeCasts_S32768x7168_S4x128x64x7168 i = tokAt Z (tok (i 0) (i 1) (i 2)) (i 3) := by
  have h0 : (i 0).val < 4 := (i 0).isLt
  have h1 : (i 1).val < 128 := (i 1).isLt
  have h2 : (i 2).val < 64 := (i 2).isLt
  have h3 : (i 3).val < 7168 := (i 3).isLt
  have hr : tok (i 0) (i 1) (i 2) < 32768 := by show ((i 0).val * 128 + (i 1).val) * 64 + (i 2).val < 32768; omega
  rw [shapeCast_apply Z shapeCasts_S32768x7168_S4x128x64x7168 i
    (ix2 (⟨tok (i 0) (i 1) (i 2), hr⟩ : Fin 32768) (⟨(i 3).val, h3⟩ : Fin 7168)) (by
      rewrite [Shape.rowMajor_val_two, Shape.rowMajor_val_four]
      rfl)]
  exact tokAt_eq _ _ _ _ rfl rfl

theorem tokens_apply (i : S4x128x64x7168.Idx) (b r x p : ℕ) (hb : (i 0).val = b) (hr : (i 1).val = r) (hx : (i 2).val = x)
    (hp : (i 3).val = p) : V m c main_v44 i = tokens m c (tok b r x) p := by
  subst hb hr hx hp
  rw [entry_tokens]
  exact tokens_cast _ i

theorem holds (t : Fin cfg0.N) (n : Fin 8) (hn : n.val = (grid0.coords t 1).val) :
    Holds (tokens m c) (weights m c) (grid0.coords t 0).val n (iblk m c 0 t) (iblk m c 1 t) (iblk m c 2 t) (iblk m c 3 t) where
  q i r p := by
    blk_simp [iblk]
    refine tokens_apply m c _ _ _ _ _ ?_ ?_ ?_ ?_ <;> blk_simp [(places t).1] <;> (try simp only [ix4]) <;> (try omega)
  k i r p := by
    blk_simp [iblk]
    have e := (places t).2.1
    refine tokens_apply m c _ _ _ _ _ ?_ ?_ ?_ ?_
    · exact (win0_1.rect_emb_val_off t _ 0).trans (by rw [e]; rfl)
    · refine (win0_1.rect_emb_val_off t _ 1).trans ?_
      rw [e, bandStart, hn]; rfl
    · refine (win0_1.rect_emb_val_off t _ 2).trans ?_
      rw [e]; exact Nat.zero_add _
    · exact (win0_1.rect_emb_val_off t _ 3).trans (by rw [e]; rfl)
  v i r p := by
    blk_simp [iblk]
    have e := (places t).2.2.1
    refine tokens_apply m c _ _ _ _ _ ?_ ?_ ?_ ?_
    · exact (win0_2.rect_emb_val_off t _ 0).trans (by rw [e]; rfl)
    · refine (win0_2.rect_emb_val_off t _ 1).trans ?_
      rw [e, bandStart, hn]; rfl
    · refine (win0_2.rect_emb_val_off t _ 2).trans ?_
      rw [e]; exact Nat.zero_add _
    · exact (win0_2.rect_emb_val_off t _ 3).trans (by rw [e]; rfl)
  t h r x l := by
    rw [← table_apply (m ((c : Thread nD τ).loc main_arg1)) h r x l, ← entry_table]
    blk_ext [iblk, places t]

/-- What the kernel leaves. -/
def result (i : S4x128x64x512.Idx) : EReal :=
  out (tokens m c) (weights m c) (i 0) (i 1) (i 2) ((i 3).val / 64) ((i 3).val % 64)

theorem final : (dats m 0 c).arrAt 4 cfg0.N = result m c := by
  refine (dats m 0 c).arrAt_eq_of_covers 4 _ (by decide +kernel) fun t _ y => ?_
  blk_simp
  rw [after0_4]
  unfold outsAt0
  rw [out_eq]
  have hy3 : (y 3).val < 512 := (y 3).isLt
  have hv := blockRow_value (holds m c t (grid0.coords t 1) rfl) k0_pay416 kernelRun0_A.sl.r mask_first mask_second (y 1) (y 2)
    ⟨(y 3).val / 128, by omega⟩ ⟨(y 3).val % 128, by omega⟩
  have h3 : (⟨128 * ((y 3).val / 128) + (y 3).val % 128, by omega⟩ : Fin 512) = y 3 :=
    Fin.ext (by show 128 * ((y 3).val / 128) + (y 3).val % 128 = (y 3).val; omega)
  refine Eq.trans ?_ (hv.trans ?_)
  · unfold block
    exact congrArg (fun p => blockRow k0_pay416 kernelRun0_A.sl.r _ _ _ _ _ _ (ix4 0 0 (y 2) p)) h3.symm
  · unfold result
    have e := (places t).2.2.2.2
    have hy0 : (y 0).val < 1 := (y 0).isLt
    congr 1
    all_goals blk_simp [e]
    · omega
    · show 2 * ((y 3).val / 128) + (y 3).val % 128 / 64 = (y 3).val / 64; omega
    · show (y 3).val % 128 % 64 = (y 3).val % 64; omega

end Cert.KernelIdeal.Blocks

end
end
-- ==== Proof.RefIndex.lean ====
/-
  The reference's index words and gathers.
-/
module

public import proofs.«01_k».proof.Proof.Gen.ReferenceIdeal.Read
public import proofs.«01_k».proof.Proof.Spec

@[expose] public section

set_option maxRecDepth 16384
set_option maxHeartbeats 400000

noncomputable section

namespace Cert.ReferenceIdeal.Read

open Cert.ReferenceIdeal Cert.ReferenceIdeal.Gen Cert.Attn Idealize.ShloMosaic Idealize.ShloMosaic.TcCoe Idealize.SL.Sem

/-! ## A gather along one axis -/

section Gather
variable {α : Type} {s si t : Shape} {w : Nat} (D : GatherDims s si t)

/-- A gather reads its operand at any index with the slice's coordinates. -/
theorem gather_at (x : s.Idx → α) (idx : IVec si w) (y : t.Idx) (j : s.Idx)
    (h : ∀ a, D.start y idx a + D.batchCoord y a + D.offCoord y a = (j a).val) : Host.gather D x idx y = x j := by
  unfold Host.gather
  exact congrArg x (funext fun a => Fin.ext (h a))

/-- On an axis no start index is for, the slice starts at zero. -/
theorem slice_off (hb : D.operandBatchingDims = []) (idx : IVec si w) (y : t.Idx) (a : Fin s.rank) (ha : a ∉ D.startIndexMap) (n : ℕ)
    (hn : D.offCoord y a = n) : D.start y idx a + D.batchCoord y a + D.offCoord y a = n := by
  rw [D.batchCoord_eq_zero y a (hb ▸ List.not_mem_nil), hn, GatherDims.start, dif_neg ha, Nat.zero_add]

/-- On the axis of the start indices, it is one element wide. -/
theorem slice_start (hb : D.operandBatchingDims = []) (idx : IVec si w) (y : t.Idx) (a : Fin s.rank) (ha : a ∈ D.startIndexMap)
    (hk : a ∉ D.sKept) (k : si.Idx) (hi : D.siIdx y ⟨D.startIndexMap.idxOf a, List.idxOf_lt_length_iff.2 ha⟩ = k) (n : ℕ)
    (hn : (idx k).toInt.toNat = n) (hs : n ≤ s.size a - D.sliceSizes a) :
    D.start y idx a + D.batchCoord y a + D.offCoord y a = n := by
  rw [D.batchCoord_eq_zero y a (hb ▸ List.not_mem_nil), D.offCoord_eq_zero y a hk, GatherDims.start, dif_pos ha, hi, hn,
    Nat.add_zero, Nat.min_eq_left hs]

end Gather

/-! ## The index words -/

theorem row_word : ∀ (a : Fin 128) (b : Fin 8), (IntOp.addi (IntOp.minsi 120#32 (IntOp.maxsi 0#32
    (IntOp.subi (BitVec.ofNat 32 a) 4#32))) (BitVec.ofNat 32 b)).toInt.toNat = rowStart a + b := by
  decide +kernel

theorem col_word : ∀ (a : Fin 64) (b : Fin 16), (IntOp.addi (IntOp.minsi 48#32 (IntOp.maxsi 0#32
    (IntOp.subi (BitVec.ofNat 32 a) 8#32))) (BitVec.ofNat 32 b)).toInt.toNat = colStart a + b := by
  decide +kernel

theorem row_off_word : ∀ (a : Fin 128) (b : Fin 8), (IntOp.addi (IntOp.subi (IntOp.addi (IntOp.minsi 120#32 (IntOp.maxsi 0#32
    (IntOp.subi (BitVec.ofNat 32 a) 4#32))) (BitVec.ofNat 32 b)) (BitVec.ofNat 32 a)) 7#32).toInt.toNat = rowStart a + b + 7 - a := by
  decide +kernel

theorem col_off_word : ∀ (a : Fin 64) (b : Fin 16), (IntOp.addi (IntOp.subi (IntOp.addi (IntOp.minsi 48#32 (IntOp.maxsi 0#32
    (IntOp.subi (BitVec.ofNat 32 a) 8#32))) (BitVec.ofNat 32 b)) (BitVec.ofNat 32 a)) 15#32).toInt.toNat = colStart a + b + 15 - a := by
  decide +kernel

theorem rows_word (i : S128x8.Idx) : (val_main_v16 (F := Ideal) i).toInt.toNat = rowStart (i 0) + (i 1).val := by
  rw [val_main_v16_apply, val_main_v14_apply, val_main_v11_apply, val_main_v10_apply, val_main_call0_v4_apply, val_main_call0_v2_apply,
    val_main_call0_v1_apply, val_main_v9_apply, val_main_v8_apply, val_main_v15_apply, val_main_v13_apply]
  exact row_word ⟨(i 0).val, (i 0).isLt⟩ ⟨(i 1).val, (i 1).isLt⟩

theorem cols_word (i : S64x16.Idx) : (val_main_v26 (F := Ideal) i).toInt.toNat = colStart (i 0) + (i 1).val := by
  rw [val_main_v26_apply, val_main_v24_apply, val_main_v21_apply, val_main_v20_apply, val_main_call1_v4_apply, val_main_call1_v2_apply,
    val_main_call1_v1_apply, val_main_v19_apply, val_main_v18_apply, val_main_v25_apply, val_main_v23_apply]
  exact col_word ⟨(i 0).val, (i 0).isLt⟩ ⟨(i 1).val, (i 1).isLt⟩

theorem row_offs_word (i : S128x8.Idx) : (val_main_v31 (F := Ideal) i).toInt.toNat = rowStart (i 0) + (i 1).val + 7 - (i 0).val := by
  rw [val_main_v31_apply, val_main_v29_apply, val_main_v16_apply, val_main_v14_apply, val_main_v11_apply, val_main_v10_apply,
    val_main_call0_v4_apply, val_main_call0_v2_apply, val_main_call0_v1_apply, val_main_v9_apply, val_main_v8_apply, val_main_v15_apply,
    val_main_v13_apply, val_main_v28_apply, val_main_v27_apply, val_main_v30_apply]
  exact row_off_word ⟨(i 0).val, (i 0).isLt⟩ ⟨(i 1).val, (i 1).isLt⟩

theorem col_offs_word (i : S64x16.Idx) : (val_main_v36 (F := Ideal) i).toInt.toNat = colStart (i 0) + (i 1).val + 15 - (i 0).val := by
  rw [val_main_v36_apply, val_main_v34_apply, val_main_v26_apply, val_main_v24_apply, val_main_v21_apply, val_main_v20_apply,
    val_main_call1_v4_apply, val_main_call1_v2_apply, val_main_call1_v1_apply, val_main_v19_apply, val_main_v18_apply, val_main_v25_apply,
    val_main_v23_apply, val_main_v33_apply, val_main_v32_apply, val_main_v35_apply]
  exact col_off_word ⟨(i 0).val, (i 0).isLt⟩ ⟨(i 1).val, (i 1).isLt⟩

theorem rowStart_le {i r : ℕ} (hr : r < 8) : rowStart i + r ≤ 127 := by unfold rowStart; omega
theorem colStart_le {x c : ℕ} (hc : c < 16) : colStart x + c ≤ 63 := by unfold colStart; omega
theorem rowOff_le {i r : ℕ} (hi : i < 128) (hr : r < 8) : rowStart i + r + 7 - i ≤ 14 := by unfold rowStart; omega
theorem colOff_le {x c : ℕ} (hx : x < 64) (hc : c < 16) : colStart x + c + 15 - x ≤ 30 := by unfold colStart; omega

/-! ## The gathers -/

section Gathers
variable {α : Type}

/-- The token's index at a window row. -/
def rowIdx (i : S4x128x8x64x8x64.Idx) : S4x128x64x8x64.Idx := fun a => match a with
  | ⟨0, _⟩ => ⟨(i 0).val, (i 0).isLt⟩
  | ⟨1, _⟩ => ⟨rowStart (i 1) + (i 2).val, Nat.lt_succ_of_le (rowStart_le (i 2).isLt)⟩
  | ⟨2, _⟩ => ⟨(i 3).val, (i 3).isLt⟩
  | ⟨3, _⟩ => ⟨(i 4).val, (i 4).isLt⟩
  | ⟨4, _⟩ => ⟨(i 5).val, (i 5).isLt⟩

theorem gather_rows (Z : S4x128x64x8x64.Idx → α) (idx : IVec S128x8x1 32)
    (h : ∀ k : S128x8x1.Idx, (idx k).toInt.toNat = rowStart (k 0) + (k 1).val) (i : S4x128x8x64x8x64.Idx) :
    Host.gather gather_S4x128x64x8x64_S128x8x1_S4x128x8x64x8x64_0345_1_n_n_1_2_4164864 Z idx i = Z (rowIdx i) := by
  refine gather_at _ Z idx i (rowIdx i) fun a => ?_
  match a with
  | ⟨0, _⟩ => exact slice_off _ rfl idx i 0 (by decide) _ rfl
  | ⟨1, _⟩ => exact slice_start _ rfl idx i 1 (by decide) (by decide) _ rfl _ (h _) (rowStart_le (i 2).isLt)
  | ⟨2, _⟩ => exact slice_off _ rfl idx i 2 (by decide) _ rfl
  | ⟨3, _⟩ => exact slice_off _ rfl idx i 3 (by decide) _ rfl
  | ⟨4, _⟩ => exact slice_off _ rfl idx i 4 (by decide) _ rfl

/-- The token's index at a window column. -/
def colIdx (i : S4x128x8x64x16x8x64.Idx) : S4x128x8x64x8x64.Idx := fun a => match a with
  | ⟨0, _⟩ => ⟨(i 0).val, (i 0).isLt⟩
  | ⟨1, _⟩ => ⟨(i 1).val, (i 1).isLt⟩
  | ⟨2, _⟩ => ⟨(i 2).val, (i 2).isLt⟩
  | ⟨3, _⟩ => ⟨colStart (i 3) + (i 4).val, Nat.lt_succ_of_le (colStart_le (i 4).isLt)⟩
  | ⟨4, _⟩ => ⟨(i 5).val, (i 5).isLt⟩
  | ⟨5, _⟩ => ⟨(i 6).val, (i 6).isLt⟩

theorem gather_cols (Z : S4x128x8x64x8x64.Idx → α) (idx : IVec S64x16x1 32)
    (h : ∀ k : S64x16x1.Idx, (idx k).toInt.toNat = colStart (k 0) + (k 1).val) (i : S4x128x8x64x16x8x64.Idx) :
    Host.gather gather_S4x128x8x64x8x64_S64x16x1_S4x128x8x64x16x8x64_01256_3_n_n_3_2_412881864 Z idx i = Z (colIdx i) := by
  refine gather_at _ Z idx i (colIdx i) fun a => ?_
  match a with
  | ⟨0, _⟩ => exact slice_off _ rfl idx i 0 (by decide) _ rfl
  | ⟨1, _⟩ => exact slice_off _ rfl idx i 1 (by decide) _ rfl
  | ⟨2, _⟩ => exact slice_off _ rfl idx i 2 (by decide) _ rfl
  | ⟨3, _⟩ => exact slice_start _ rfl idx i 3 (by decide) (by decide) _ rfl _ (h _) (colStart_le (i 4).isLt)
  | ⟨4, _⟩ => exact slice_off _ rfl idx i 4 (by decide) _ rfl
  | ⟨5, _⟩ => exact slice_off _ rfl idx i 5 (by decide) _ rfl

/-- The weight's index at a column offset. -/
def colOffIdx (i : S8x15x64x16.Idx) : S8x15x31.Idx := fun a => match a with
  | ⟨0, _⟩ => ⟨(i 0).val, (i 0).isLt⟩
  | ⟨1, _⟩ => ⟨(i 1).val, (i 1).isLt⟩
  | ⟨2, _⟩ => ⟨colStart (i 2) + (i 3).val + 15 - (i 2).val, Nat.lt_succ_of_le (colOff_le (i 2).isLt (i 3).isLt)⟩

theorem gather_colOffs (Z : S8x15x31.Idx → α) (idx : IVec S64x16x1 32)
    (h : ∀ k : S64x16x1.Idx, (idx k).toInt.toNat = colStart (k 0) + (k 1).val + 15 - (k 0).val) (i : S8x15x64x16.Idx) :
    Host.gather gather_S8x15x31_S64x16x1_S8x15x64x16_01_2_n_n_2_2_8151 Z idx i = Z (colOffIdx i) := by
  refine gather_at _ Z idx i (colOffIdx i) fun a => ?_
  match a with
  | ⟨0, _⟩ => exact slice_off _ rfl idx i 0 (by decide) _ rfl
  | ⟨1, _⟩ => exact slice_off _ rfl idx i 1 (by decide) _ rfl
  | ⟨2, _⟩ => exact slice_start _ rfl idx i 2 (by decide) (by decide) _ rfl _ (h _) (colOff_le (i 2).isLt (i 3).isLt)

/-- The weight's index at a row offset. -/
def rowOffIdx (i : S8x128x8x64x16.Idx) : S8x15x64x16.Idx := fun a => match a with
  | ⟨0, _⟩ => ⟨(i 0).val, (i 0).isLt⟩
  | ⟨1, _⟩ => ⟨rowStart (i 1) + (i 2).val + 7 - (i 1).val, Nat.lt_succ_of_le (rowOff_le (i 1).isLt (i 2).isLt)⟩
  | ⟨2, _⟩ => ⟨(i 3).val, (i 3).isLt⟩
  | ⟨3, _⟩ => ⟨(i 4).val, (i 4).isLt⟩

theorem gather_rowOffs (Z : S8x15x64x16.Idx → α) (idx : IVec S128x8x1 32)
    (h : ∀ k : S128x8x1.Idx, (idx k).toInt.toNat = rowStart (k 0) + (k 1).val + 7 - (k 0).val) (i : S8x128x8x64x16.Idx) :
    Host.gather gather_S8x15x64x16_S128x8x1_S8x128x8x64x16_034_1_n_n_1_2_816416 Z idx i = Z (rowOffIdx i) := by
  refine gather_at _ Z idx i (rowOffIdx i) fun a => ?_
  match a with
  | ⟨0, _⟩ => exact slice_off _ rfl idx i 0 (by decide) _ rfl
  | ⟨1, _⟩ => exact slice_start _ rfl idx i 1 (by decide) (by decide) _ rfl _ (h _) (rowOff_le (i 1).isLt (i 2).isLt)
  | ⟨2, _⟩ => exact slice_off _ rfl idx i 2 (by decide) _ rfl
  | ⟨3, _⟩ => exact slice_off _ rfl idx i 3 (by decide) _ rfl

end Gathers

end Cert.ReferenceIdeal.Read

end
end
-- ==== Proof.Ref.lean ====
/-
  The reference's output, element by element.
-/
module

public import proofs.«01_k».proof.Proof.RefIndex
public import proofs.«01_k».proof.Proof.Math
public import Idealize.ShloMosaic.Lib.ValueIdxRank6
public import Idealize.ShloMosaic.Lib.TwoAxisContraction

@[expose] public section

set_option maxRecDepth 16384
set_option maxHeartbeats 400000

noncomputable section

namespace Cert.ReferenceIdeal.Read

open Cert.ReferenceIdeal Cert.ReferenceIdeal.Gen Cert.Attn Idealize.ShloMosaic Idealize.ShloMosaic.TcCoe Idealize.SL.Sem

/-! ## The constants -/

theorem word_eighth : Ideal.ofBits .f32 0x3E000000#32 = eighth := by
  unfold eighth
  simp [Ideal.ofBits, Ideal.ieee]
  rw [← EReal.coe_mul]
  congr 1
  norm_num

theorem word_one : Ideal.ofBits .f32 0x3F800000#32 = 1 := by
  simp [Ideal.ofBits, Ideal.ieee]
  rw [← EReal.coe_mul, ← EReal.coe_one]
  congr 1
  norm_num

theorem word_zero : Ideal.ofBits .f32 0x00000000#32 = 0 := by
  simp [Ideal.ofBits, Ideal.ieee]

theorem word_bot : Ideal.ofBits .f32 0xFF800000#32 = ⊥ := by
  simp [Ideal.ofBits, Ideal.ieee]

variable (x0 : FVec Ideal S32768x7168 .bf16) (x1 : FVec Ideal S8x15x31 .f32)

/-! ## Queries, keys and values -/

theorem query_apply (j : S4x128x64x8x64.Idx) :
    val_main_v2 (F := Ideal) x0 j = tokAt x0 (tok (j 0) (j 1) (j 2)) (2048 + 64 * (j 3).val + (j 4).val) := by
  have h3 : (j 3).val < 8 := (j 3).isLt
  have h4 : (j 4).val < 64 := (j 4).isLt
  rw [val_main_v2_apply, val_main_v1_apply, val_main_v0_apply]
  refine tokAt_eq x0 _ _ _ ?_ ?_
  · show (((((j 0).val * 128 + (j 1).val) * 64 + (j 2).val) * 8 + (j 3).val) * 64 + (j 4).val) / 512 =
      ((j 0).val * 128 + (j 1).val) * 64 + (j 2).val
    omega
  · show 2048 + (((((j 0).val * 128 + (j 1).val) * 64 + (j 2).val) * 8 + (j 3).val) * 64 + (j 4).val) % 512 =
      2048 + 64 * (j 3).val + (j 4).val
    omega

theorem key_apply (j : S4x128x64x8x64.Idx) :
    val_main_v4 (F := Ideal) x0 j = tokAt x0 (tok (j 0) (j 1) (j 2)) (2560 + 64 * (j 3).val + (j 4).val) := by
  have h3 : (j 3).val < 8 := (j 3).isLt
  have h4 : (j 4).val < 64 := (j 4).isLt
  rw [val_main_v4_apply, val_main_v3_apply, val_main_v0_apply]
  refine tokAt_eq x0 _ _ _ ?_ ?_
  · show (((((j 0).val * 128 + (j 1).val) * 64 + (j 2).val) * 8 + (j 3).val) * 64 + (j 4).val) / 512 =
      ((j 0).val * 128 + (j 1).val) * 64 + (j 2).val
    omega
  · show 2560 + (((((j 0).val * 128 + (j 1).val) * 64 + (j 2).val) * 8 + (j 3).val) * 64 + (j 4).val) % 512 =
      2560 + 64 * (j 3).val + (j 4).val
    omega

theorem value_apply (j : S4x128x64x8x64.Idx) :
    val_main_v6 (F := Ideal) x0 j = tokAt x0 (tok (j 0) (j 1) (j 2)) (3072 + 64 * (j 3).val + (j 4).val) := by
  have h3 : (j 3).val < 8 := (j 3).isLt
  have h4 : (j 4).val < 64 := (j 4).isLt
  rw [val_main_v6_apply, val_main_v5_apply, val_main_v0_apply]
  refine tokAt_eq x0 _ _ _ ?_ ?_
  · show (((((j 0).val * 128 + (j 1).val) * 64 + (j 2).val) * 8 + (j 3).val) * 64 + (j 4).val) / 512 =
      ((j 0).val * 128 + (j 1).val) * 64 + (j 2).val
    omega
  · show 3072 + (((((j 0).val * 128 + (j 1).val) * 64 + (j 2).val) * 8 + (j 3).val) * 64 + (j 4).val) % 512 =
      3072 + 64 * (j 3).val + (j 4).val
    omega

theorem keys_apply (i : S4x128x8x64x16x8x64.Idx) : val_main_v40 (F := Ideal) x0 i =
    tokAt x0 (tok (i 0) (rowStart (i 1) + (i 2).val) (colStart (i 3) + (i 4).val)) (2560 + 64 * (i 5).val + (i 6).val) := by
  unfold val_main_v40
  rw [gather_cols _ _ fun k => by rw [val_main_call5_v0_apply]; exact cols_word _]
  unfold val_main_v39
  rw [gather_rows _ _ fun k => by rw [val_main_call4_v0_apply]; exact rows_word _]
  exact key_apply x0 _

theorem values_apply (i : S4x128x8x64x16x8x64.Idx) : val_main_v42 (F := Ideal) x0 i =
    tokAt x0 (tok (i 0) (rowStart (i 1) + (i 2).val) (colStart (i 3) + (i 4).val)) (3072 + 64 * (i 5).val + (i 6).val) := by
  unfold val_main_v42
  rw [gather_cols _ _ fun k => by rw [val_main_call7_v0_apply]; exact cols_word _]
  unfold val_main_v41
  rw [gather_rows _ _ fun k => by rw [val_main_call6_v0_apply]; exact rows_word _]
  exact value_apply x0 _

/-! ## The scores -/

theorem bias_apply (i : S4x128x8x64x8x16.Idx) : val_main_v48 (F := Ideal) x1 i =
    posAt x1 (i 2) (rowStart (i 1) + (i 4).val + 7 - (i 1).val) (colStart (i 3) + (i 5).val + 15 - (i 3).val) := by
  rw [val_main_v48_apply, val_main_v47_apply, val_main_v46_apply]
  unfold val_main_v38
  rw [gather_rowOffs _ _ fun k => by rw [val_main_call3_v0_apply]; exact row_offs_word _]
  unfold val_main_v37
  rw [gather_colOffs _ _ fun k => by rw [val_main_call2_v0_apply]; exact col_offs_word _]
  exact posAt_eq x1 _ _ _ _ rfl rfl rfl

theorem score_apply (i : S4x128x8x64x8x16.Idx) : val_main_v49 (F := Ideal) x0 x1 i =
    score (tokAt x0) (posAt x1) (i 0) (i 1) (i 3) (i 2) (rowStart (i 1) + (i 4).val) (colStart (i 3) + (i 5).val) := by
  rw [val_main_v49_apply, val_main_v45_apply, val_main_v44_apply, bias_apply, val_main_v43_apply]
  unfold score
  refine congrArg₂ (· + ·) (congrArg₂ (· * ·) (Finset.sum_congr rfl fun k _ => ?_) word_eighth) rfl
  rw [query_apply, keys_apply]

/-- A window's positions in one line. -/
theorem line_apply (i : S4x128x8x64x128.Idx) : val_main_v50 (F := Ideal) x0 x1 i =
    score (tokAt x0) (posAt x1) (i 0) (i 1) (i 3) (i 2) (rowStart (i 1) + (i 4).val / 16) (colStart (i 3) + (i 4).val % 16) := by
  have h : (i 4).val < 128 := (i 4).isLt
  unfold val_main_v50
  rw [shapeCast_apply (val_main_v49 (F := Ideal) x0 x1) shapeCasts_S4x128x8x64x8x16_S4x128x8x64x128 i
    (fun a => match a with
      | ⟨0, _⟩ => ⟨(i 0).val, (i 0).isLt⟩
      | ⟨1, _⟩ => ⟨(i 1).val, (i 1).isLt⟩
      | ⟨2, _⟩ => ⟨(i 2).val, (i 2).isLt⟩
      | ⟨3, _⟩ => ⟨(i 3).val, (i 3).isLt⟩
      | ⟨4, _⟩ => ⟨(i 4).val / 16, by show (i 4).val / 16 < 8; omega⟩
      | ⟨5, _⟩ => ⟨(i 4).val % 16, by show (i 4).val % 16 < 16; omega⟩) (by
    rewrite [Shape.rowMajor_val_six, Shape.rowMajor_val_five]
    show (((((i 0).val * 128 + (i 1).val) * 8 + (i 2).val) * 64 + (i 3).val) * 8 + (i 4).val / 16) * 16 + (i 4).val % 16 =
      ((((i 0).val * 128 + (i 1).val) * 8 + (i 2).val) * 64 + (i 3).val) * 128 + (i 4).val
    omega)]
  exact score_apply x0 x1 _

/-! ## The weights -/

/-- The scores of the window of row `i 1` and column `i 3`. -/
def scores (b i x h : ℕ) (n : Fin 128) : EReal :=
  score (tokAt x0) (posAt x1) b i x h (rowStart i + n / 16) (colStart x + n % 16)

theorem greatest_apply (i : S4x128x8x64.Idx) : val_main_v51 (F := Ideal) x0 x1 i =
    Finset.univ.fold max ⊥ (scores x0 x1 (i 0) (i 1) (i 3) (i 2)) := by
  unfold val_main_v51
  refine (Host.reduce_eq_fold_single (α := Ideal .f32) (FloatOps.maximumf (φ := .f32)) (val_main_v50 (F := Ideal) x0 x1)
    (val_main_cst_7 (F := Ideal)) reducesTo_S4x128x8x64x128_S4x128x8x64_d4 (by decide) h_S_ i).trans ?_
  refine congrArg₂ (fun c f => Finset.fold max c f (Finset.univ : Finset (Fin 128))) word_bot (funext fun k => ?_)
  exact line_apply x0 x1 _

theorem weight_apply (i : S4x128x8x64x128.Idx) : val_main_v55 (F := Ideal) x0 x1 i =
    Ideal.exp (scores x0 x1 (i 0) (i 1) (i 3) (i 2) (i 4) - Finset.univ.fold max ⊥ (scores x0 x1 (i 0) (i 1) (i 3) (i 2))) := by
  rw [val_main_v55_apply, val_main_v54_apply, val_main_v53_apply, val_main_v52_apply, greatest_apply, line_apply]
  rfl

theorem soft_apply (i : S4x128x8x64x128.Idx) : val_main_v61 (F := Ideal) x0 x1 i =
    Ideal.exp (scores x0 x1 (i 0) (i 1) (i 3) (i 2) (i 4) - Finset.univ.fold max ⊥ (scores x0 x1 (i 0) (i 1) (i 3) (i 2))) *
      Ideal.div 1 (∑ k, Ideal.exp (scores x0 x1 (i 0) (i 1) (i 3) (i 2) k -
        Finset.univ.fold max ⊥ (scores x0 x1 (i 0) (i 1) (i 3) (i 2)))) := by
  rw [val_main_v61_apply, val_main_v60_apply, val_main_v59_apply, val_main_v58_apply, val_main_v57_apply, val_main_v56_apply, weight_apply]
  refine congrArg₂ (fun c d => _ * Ideal.div c d) word_one ?_
  refine (congrArg (· + _) word_zero).trans ((zero_add _).trans (Finset.sum_congr rfl fun k _ => ?_))
  exact weight_apply x0 x1 _

theorem soft_split (i : S4x128x8x64x8x16.Idx) : val_main_v62 (F := Ideal) x0 x1 i =
    val_main_v61 (F := Ideal) x0 x1 (fun a => match a with
      | ⟨0, _⟩ => ⟨(i 0).val, (i 0).isLt⟩
      | ⟨1, _⟩ => ⟨(i 1).val, (i 1).isLt⟩
      | ⟨2, _⟩ => ⟨(i 2).val, (i 2).isLt⟩
      | ⟨3, _⟩ => ⟨(i 3).val, (i 3).isLt⟩
      | ⟨4, _⟩ => ⟨(i 4).val * 16 + (i 5).val, by
          have h4 : (i 4).val < 8 := (i 4).isLt
          have h5 : (i 5).val < 16 := (i 5).isLt
          show (i 4).val * 16 + (i 5).val < 128
          omega⟩) := by
  unfold val_main_v62
  refine shapeCast_apply (val_main_v61 (F := Ideal) x0 x1) shapeCasts_S4x128x8x64x128_S4x128x8x64x8x16 i _ ?_
  rewrite [Shape.rowMajor_val_five, Shape.rowMajor_val_six]
  show ((((i 0).val * 128 + (i 1).val) * 8 + (i 2).val) * 64 + (i 3).val) * 128 + ((i 4).val * 16 + (i 5).val) =
    (((((i 0).val * 128 + (i 1).val) * 8 + (i 2).val) * 64 + (i 3).val) * 8 + (i 4).val) * 16 + (i 5).val
  omega

/-! ## The output -/

/-- A sum over a window's columns and rows, in one line. -/
theorem sum_window (f : Fin 128 → EReal) :
    ∑ c : Fin 16, ∑ r : Fin 8, f ⟨r.val * 16 + c.val, by omega⟩ = ∑ n, f n := by
  rw [Finset.sum_comm, ← Finset.sum_product', ← Equiv.sum_comp (finProdFinEquiv (m := 8) (n := 16)) f]
  refine Finset.sum_congr (Finset.univ_product_univ) fun q _ => congrArg f (Fin.ext ?_)
  show q.1.val * 16 + q.2.val = q.2.val + 16 * q.1.val
  omega

/-- The dimensions of the weighted sum of the values. -/
abbrev sumDims := dot_S4x128x8x64x8x16_S4x128x8x64x16x8x64_S4x128x64x8x64_54_42_n_6_0132_0135

/-- The weights' index in the weighted sum. -/
def lidx (j : S4x128x64x8x64.Idx) (c : Fin 16) (r : Fin 8) : S4x128x8x64x8x16.Idx := fun a => match a with
  | ⟨0, _⟩ => ⟨(j 0).val, (j 0).isLt⟩
  | ⟨1, _⟩ => ⟨(j 1).val, (j 1).isLt⟩
  | ⟨2, _⟩ => ⟨(j 3).val, (j 3).isLt⟩
  | ⟨3, _⟩ => ⟨(j 2).val, (j 2).isLt⟩
  | ⟨4, _⟩ => r
  | ⟨5, _⟩ => c

/-- The values' index in the weighted sum. -/
def ridx (j : S4x128x64x8x64.Idx) (c : Fin 16) (r : Fin 8) : S4x128x8x64x16x8x64.Idx := fun a => match a with
  | ⟨0, _⟩ => ⟨(j 0).val, (j 0).isLt⟩
  | ⟨1, _⟩ => ⟨(j 1).val, (j 1).isLt⟩
  | ⟨2, _⟩ => r
  | ⟨3, _⟩ => ⟨(j 2).val, (j 2).isLt⟩
  | ⟨4, _⟩ => c
  | ⟨5, _⟩ => ⟨(j 3).val, (j 3).isLt⟩
  | ⟨6, _⟩ => ⟨(j 4).val, (j 4).isLt⟩

theorem weighted_apply (y0 : FVec Ideal S4x128x8x64x8x16 .f32) (y1 : FVec Ideal S4x128x8x64x16x8x64 .f32) (j : S4x128x64x8x64.Idx) :
    (Host.dotGeneral sumDims none y0 y1 : FVec Ideal S4x128x64x8x64 .f32) j = ∑ c : Fin 16, ∑ r : Fin 8, y0 (lidx j c r) * y1 (ridx j c r) := by
  simp only [Host.dotGeneral]
  rw [Ideal.dotGeneral_apply, ValueIdx.sum_contr2 sumDims 16 8 rfl rfl rfl]
  refine Finset.sum_congr rfl fun c _ => Finset.sum_congr rfl fun r _ => ?_
  have k0 := ValueIdx.contrEquiv2_symm_val0 sumDims 16 8 rfl rfl rfl (c, r)
  have k1 := ValueIdx.contrEquiv2_symm_val1 sumDims 16 8 rfl rfl rfl (c, r)
  generalize (ValueIdx.contrEquiv2 sumDims 16 8 rfl rfl rfl).symm (c, r) = q at k0 k1
  have el : sumDims.lhsIdx j q = lidx j c r := funext fun a => Fin.ext (by
    match a with
    | ⟨0, _⟩ => rfl
    | ⟨1, _⟩ => rfl
    | ⟨2, _⟩ => rfl
    | ⟨3, _⟩ => rfl
    | ⟨4, _⟩ => exact k1
    | ⟨5, _⟩ => exact k0)
  have er : sumDims.rhsIdx j q = ridx j c r := funext fun a => Fin.ext (by
    match a with
    | ⟨0, _⟩ => rfl
    | ⟨1, _⟩ => rfl
    | ⟨2, _⟩ => exact k1
    | ⟨3, _⟩ => rfl
    | ⟨4, _⟩ => exact k0
    | ⟨5, _⟩ => rfl
    | ⟨6, _⟩ => rfl)
  rw [el, er]

theorem head_apply (j : S4x128x64x8x64.Idx) : val_main_v63 (F := Ideal) x0 x1 j =
    out (tokAt x0) (posAt x1) (j 0) (j 1) (j 2) (j 3) (j 4) := by
  unfold val_main_v63
  refine (weighted_apply _ _ j).trans ?_
  unfold out attend
  rw [← sum_window]
  refine Finset.sum_congr rfl fun c _ => Finset.sum_congr rfl fun r _ => ?_
  have hc := c.isLt
  rw [soft_split, soft_apply, values_apply]
  refine congrArg₂ (· * ·) rfl ?_
  show tokAt x0 (tok (j 0) (rowStart (j 1) + r.val) (colStart (j 2) + c.val)) (3072 + 64 * (j 3).val + (j 4).val) =
    tokAt x0 (tok (j 0) (rowStart (j 1) + (r.val * 16 + c.val) / 16) (colStart (j 2) + (r.val * 16 + c.val) % 16))
      (3072 + 64 * (j 3).val + (j 4).val)
  rw [show (r.val * 16 + c.val) / 16 = r.val by omega, show (r.val * 16 + c.val) % 16 = c.val by omega]

/-- The reference's output. -/
theorem result_apply (i : S4x128x64x512.Idx) : val_main_v65 (F := Ideal) x0 x1 i =
    out (tokAt x0) (posAt x1) (i 0) (i 1) (i 2) ((i 3).val / 64) ((i 3).val % 64) := by
  have h0 : (i 0).val < 4 := (i 0).isLt
  have h1 : (i 1).val < 128 := (i 1).isLt
  have h2 : (i 2).val < 64 := (i 2).isLt
  have h3 : (i 3).val < 512 := (i 3).isLt
  rw [val_main_v65_apply, val_main_v64_apply]
  refine (head_apply x0 x1 _).trans ?_
  have e0 : ((((i 0).val * 128 + (i 1).val) * 64 + (i 2).val) * 512 + (i 3).val) / 4194304 = (i 0).val := by omega
  have e1 : ((((i 0).val * 128 + (i 1).val) * 64 + (i 2).val) * 512 + (i 3).val) / 32768 % 128 = (i 1).val := by omega
  have e2 : ((((i 0).val * 128 + (i 1).val) * 64 + (i 2).val) * 512 + (i 3).val) / 512 % 64 = (i 2).val := by omega
  have e3 : ((((i 0).val * 128 + (i 1).val) * 64 + (i 2).val) * 512 + (i 3).val) / 64 % 8 = (i 3).val / 64 := by omega
  have e4 : ((((i 0).val * 128 + (i 1).val) * 64 + (i 2).val) * 512 + (i 3).val) % 64 = (i 3).val % 64 := by omega
  show out (tokAt x0) (posAt x1) (((((i 0).val * 128 + (i 1).val) * 64 + (i 2).val) * 512 + (i 3).val) / 4194304)
    (((((i 0).val * 128 + (i 1).val) * 64 + (i 2).val) * 512 + (i 3).val) / 32768 % 128)
    (((((i 0).val * 128 + (i 1).val) * 64 + (i 2).val) * 512 + (i 3).val) / 512 % 64)
    (((((i 0).val * 128 + (i 1).val) * 64 + (i 2).val) * 512 + (i 3).val) / 64 % 8)
    (((((i 0).val * 128 + (i 1).val) * 64 + (i 2).val) * 512 + (i 3).val) % 64) = _
  rw [e0, e1, e2, e3, e4]

end Cert.ReferenceIdeal.Read

end
end
-- ==== Proof.Norm.lean ====
/-
  The root-mean-square norm of a row, and a product with it.
-/
module

public import Idealize.ShloMosaic.PureOps.Ideal

@[expose] public section

noncomputable section

namespace Cert.Layer

open Idealize.ShloMosaic

/-- What a row is scaled by: one over the root of its mean square and the small term. -/
def rowScale (v : Fin 1024 → EReal) : EReal :=
  Ideal.rsqrt (Ideal.div (∑ k, v k * v k) (Ideal.ofBits .f32 0x44800000#32) + Ideal.ofBits .f32 0x358637BD#32)

/-- The row scaled, and its gain. -/
def normed (v g : Fin 1024 → EReal) (k : Fin 1024) : EReal := v k * rowScale v * g k

/-- The columns as the projection's result has them: the scan's first, 96 unused ones that are zero, then the neighbourhood
attention's, then the rest. -/
def placed (w : Fin 7072 → EReal) (j : Fin 7168) : EReal :=
  if h : j.val < 1952 then w ⟨1536 + j.val, by omega⟩
  else if j.val < 2048 then 0
  else if h : j.val < 3584 then w ⟨j.val - 2048, by omega⟩
  else w ⟨j.val - 96, by omega⟩

theorem placed_eq (w : Fin 7072 → EReal) (j : Fin 7168) :
    (if h : j.val < 1952 then w ⟨1536 + j.val, by omega⟩
      else if _ : j.val - 1952 < 96 then 0
      else if h : j.val - 1952 - 96 < 1536 then w ⟨j.val - 1952 - 96, by omega⟩
      else w ⟨3488 + (j.val - 1952 - 96 - 1536), by omega⟩) = placed w j := by
  have hj := j.isLt
  unfold placed
  by_cases h1 : j.val < 1952
  · rw [dif_pos h1, dif_pos h1]
  by_cases h2 : j.val < 2048
  · rw [dif_neg h1, dif_pos (by omega), dif_neg h1, if_pos h2]
  by_cases h3 : j.val < 3584
  · rw [dif_neg h1, dif_neg (by omega), dif_pos (by omega), dif_neg h1, if_neg h2, dif_pos h3]
    exact congrArg w (Fin.ext (Nat.sub_sub _ _ _))
  · rw [dif_neg h1, dif_neg (by omega), dif_neg (by omega), dif_neg h1, if_neg h2, dif_neg h3]
    exact congrArg w (Fin.ext (by show 3488 + (j.val - 1952 - 96 - 1536) = j.val - 96; omega))

end Cert.Layer

end
-- ==== Proof.ProjOut.lean ====
/-
  The input projection's block: what a point leaves in the output window and in the normed rows' buffer.
-/
module

public import proofs.«01_k».proof.Proof.Norm
public import proofs.«01_k».proof.Proof.Gen.Kernel2Ideal.Value
public import Idealize.ShloMosaic.Lib.Pointwise
public import Idealize.ShloMosaic.Lib.WholeRead
public import Idealize.ShloMosaic.Lib.Pipeline.ValueKit

@[expose] public section

set_option maxRecDepth 16384
set_option maxHeartbeats 400000

noncomputable section

namespace Cert.Kernel2Ideal.Proj

open Cert.Kernel2Ideal Cert.Kernel2Ideal.Gen Cert.Layer Idealize.ShloMosaic Idealize.ShloMosaic.TcCoe Idealize.SL.Sem

theorem pay3_apply (x : Vec Ideal S512x1024 .f32) (g : Vec Ideal S1x1024 .f32) (w : Vec Ideal S1024x1792 .bf16)
    (i : S512x1792.Idx) : k0_pay3 x g w i = ∑ k : Fin 1024, k0_pay1 x g (ix2 (i 0) k) * w (ix2 k (i 1)) := by
  pointwise [k0_pay3]

theorem pay4_apply (h : Vec Ideal S2048x1024 .bf16) (w : Vec Ideal S1024x1792 .bf16) (i : S2048x1792.Idx) :
    k0_pay4 h w i = ∑ k : Fin 1024, h (ix2 (i 0) k) * w (ix2 k (i 1)) := by
  pointwise [k0_pay4]

variable (m : (ℓ : Loc nD τ sig) → Buf (Elt Ideal) ℓ) (c : Dev nD)

/-- The normed block. -/
def normBlock (b : Vec Ideal S2048x1024 .f32) (g : Vec Ideal S1x1024 .f32) : FVec Ideal S2048x1024 .bf16 := fun y =>
  normed (fun k => b (ix2 (y 0) k)) (fun k => g (ix2 0 k)) (y 1)

theorem first_norm (t : Fin cfg0.N) (h0 : t.val % 4 = 0) (h1 : ¬1 ≤ t.val % 4) :
    (outsAt0 m c t.val t.isLt).2 = normBlock (iblk m c 0 t) (iblk m c 1 t) := by
  funext y
  rw [outsAt0_A m c t h0 h1]
  frame_out
  unfold normBlock
  canon_tiles x h
  all_goals
    open_payloads
    pointwise [normed, rowScale]
    blk_point []

theorem first_out (t : Fin cfg0.N) (h0 : t.val % 4 = 0) (h1 : ¬1 ≤ t.val % 4) :
    (outsAt0 m c t.val t.isLt).1 = k0_pay4 (normBlock (iblk m c 0 t) (iblk m c 1 t)) (iblk m c 2 t) := by
  funext y
  rw [outsAt0_A m c t h0 h1]
  frame_out
  rw [pay4_apply]
  unfold normBlock
  canon_tiles x h
  all_goals
    open_payloads
    pointwise [normed, rowScale]
    blk_point []

end Cert.Kernel2Ideal.Proj

end
-- ==== Proof.ProjBlocks.lean ====
/-
  The input projection: the array the kernel leaves.
-/
module

public import proofs.«01_k».proof.Proof.ProjOut
public import Idealize.ShloMosaic.Lib.Claim

@[expose] public section

set_option maxRecDepth 16384
set_option maxHeartbeats 400000

noncomputable section

namespace Cert.Kernel2Ideal.Proj

open Cert.Kernel2Ideal Cert.Kernel2Ideal.Gen Cert.Layer Idealize.ShloMosaic Idealize.ShloMosaic.TcCoe Idealize.SL.Sem
open Idealize.ShloMosaic.Pipeline (Dat)

/-- The windows' places at the grid points. -/
theorem places : ∀ t : Fin cfg0.N,
    win0_0.index t = ![t.val / 4, 0] ∧ win0_1.index t = ![0, 0] ∧ win0_2.index t = ![0, t.val % 4] ∧
    win0_3.index t = ![t.val / 4, t.val % 4] := (by decide +kernel : ∀ t : Fin grid0.N, _)

variable (m : (ℓ : Loc nD τ sig) → Buf (Elt Ideal) ℓ) (c : Dev nD)

theorem rows_same (n : ℕ) (h : n + 1 < cfg0.N) (h' : n < cfg0.N) (e : ¬(n + 1) % 4 = 0) :
    (iblk m c 0 ⟨n + 1, h⟩ : Vec Ideal S2048x1024 .f32) = iblk m c 0 ⟨n, h'⟩ := by
  blk_ext! [iblk, V, places ⟨n + 1, h⟩, places ⟨n, h'⟩]

theorem gain_same (t t' : Fin cfg0.N) : (iblk m c 1 t : Vec Ideal S1x1024 .f32) = iblk m c 1 t' := by
  blk_ext! [iblk, V, places t, places t']

/-- A point that is not a row block's first leaves the buffer as it was. -/
theorem kept (t : Fin cfg0.N) (e : ¬t.val % 4 = 0) : (outsAt0 m c t.val t.isLt).2 =
    (outsAt0 m c (t.val - 1) (Nat.lt_of_le_of_lt (Nat.sub_le _ _) t.isLt)).2 := by
  rw [outsAt0_B m c t e (by omega)]
  unfold sout0_B_0
  rfl

/-- The buffer holds the row block's norm at every point. -/
theorem scratch (n : ℕ) (h : n < cfg0.N) : (outsAt0 m c n h).2 = normBlock (iblk m c 0 ⟨n, h⟩) (iblk m c 1 ⟨n, h⟩) := by
  induction n with
  | zero => exact first_norm m c ⟨0, h⟩ (Nat.zero_mod 4) (by simp)
  | succ n ih =>
    by_cases e : (n + 1) % 4 = 0
    · exact first_norm m c ⟨n + 1, h⟩ e (by simp only; omega)
    · refine (kept m c ⟨n + 1, h⟩ e).trans ((ih (by omega)).trans ?_)
      rw [rows_same m c n h (by omega) e, gain_same m c ⟨n + 1, h⟩ ⟨n, by omega⟩]

theorem block (t : Fin cfg0.N) :
    (outsAt0 m c t.val t.isLt).1 = k0_pay4 (normBlock (iblk m c 0 t) (iblk m c 1 t)) (iblk m c 2 t) := by
  by_cases e : t.val % 4 = 0
  · exact first_out m c t e (by omega)
  · have hs := (kept m c t e).symm.trans (scratch m c t.val t.isLt)
    rw [outsAt0_B m c t e (by omega), hs]
    frame_out
    exact congrArg (fun h => k0_pay4 h (iblk m c 2 t)) (Memref.IsWhole.read_unread _ _)

theorem rows_apply (t : Fin cfg0.N) (r : Fin 2048) (k : Fin 1024) (r' : Fin 32768) (e : r'.val = 2048 * (t.val / 4) + r.val) :
    (iblk m c 0 t : Vec Ideal S2048x1024 .f32) (ix2 r k) = m ((c : Thread nD τ).loc main_arg0) (ix2 r' k) := by
  blk_ext [iblk, V, places t]

theorem gain_apply (t : Fin cfg0.N) (k : Fin 1024) :
    (iblk m c 1 t : Vec Ideal S1x1024 .f32) (ix2 0 k) = m ((c : Thread nD τ).loc main_arg1) (ix1 k) := by
  blk_simp [iblk]
  entry_read
  pointwise
  blk_ext [places t]

/-- The weight as the call takes it: its columns moved and padded. -/
def prepared (w : FVec Ideal S1024x7072 .f32) : FVec Ideal S1024x7168 .bf16 :=
  concatenate S1024x7168 1
    [⟨S1024x1952, extractStridedSlice S1024x1952 ![0, 1536] (truncf .bf16 w bitsLt_bf16_f32) slices_S1024x7072_S1024x1952_0_1536⟩,
     ⟨S1024x96, broadcastInDim S1024x96 ![] bcast_S_S1024x96 (constant S_ .bf16 0x0000#16)⟩,
     ⟨S1024x1536, extractStridedSlice S1024x1536 ![0, 0] (truncf .bf16 w bitsLt_bf16_f32) slices_S1024x7072_S1024x1536_0_0⟩,
     ⟨S1024x3584, extractStridedSlice S1024x3584 ![0, 3488] (truncf .bf16 w bitsLt_bf16_f32) slices_S1024x7072_S1024x3584_0_3488⟩]
    concatenates_S1024x1952_S1024x96_S1024x1536_S1024x3584_S1024x7168_d1

theorem prepared_apply (w : FVec Ideal S1024x7072 .f32) (k : Fin 1024) (j : Fin 7168) :
    prepared w (ix2 k j) = placed (fun n => w (ix2 k n)) j := by
  pointwise [prepared]
  exact placed_eq (fun n => w (ix2 k n)) j

theorem entry_weights : V m c main_v5 = prepared (m ((c : Thread nD τ).loc main_arg2)) := by
  simp only [V, hostOps0, StableHlo.after_cons, StableHlo.after_nil]
  after_results_simp
  rfl

theorem weights_apply (t : Fin cfg0.N) (k : Fin 1024) (j : Fin 1792) (j' : Fin 7168) (e : j'.val = 1792 * (t.val % 4) + j.val) :
    (iblk m c 2 t : Vec Ideal S1024x1792 .bf16) (ix2 k j) = placed (fun n => m ((c : Thread nD τ).loc main_arg2) (ix2 k n)) j' := by
  rw [← prepared_apply, ← entry_weights]
  blk_ext [iblk, places t]

/-- What the kernel leaves: each token's normed row against each column. -/
def result (i : S32768x7168.Idx) : EReal :=
  ∑ k : Fin 1024, normed (fun k => m ((c : Thread nD τ).loc main_arg0) (ix2 (i 0) k))
    (fun k => m ((c : Thread nD τ).loc main_arg1) (ix1 k)) k * placed (fun n => m ((c : Thread nD τ).loc main_arg2) (ix2 k n)) (i 1)

theorem final : (dats m 0 c).arrAt 3 cfg0.N = result m c := by
  refine (dats m 0 c).arrAt_eq_of_covers 3 _ (by decide +kernel) fun t _ y => ?_
  blk_simp
  rw [after0_3, block, pay4_apply]
  have e0 : (((cfg0.win 3).blk t).view.emb y 0).val = 2048 * (t.val / 4) + (y 0).val := by blk_simp [places t]; omega
  have e1 : (((cfg0.win 3).blk t).view.emb y 1).val = 1792 * (t.val % 4) + (y 1).val := by blk_simp [places t]; omega
  unfold result
  refine Fin.sum_fin_congr fun k => ?_
  exact congrArg₂ (fun h w : EReal => h * w)
    (congrArg₂ (fun v g => normed v g k) (funext fun j => rows_apply m c t (y 0) j _ e0) (funext fun j => gain_apply m c t j))
    (weights_apply m c t k (y 1) _ e1)

end Cert.Kernel2Ideal.Proj

end
-- ==== Proof.ProjRef.lean ====
/-
  The input projection of the reference.
-/
module

public import proofs.«01_k».proof.Proof.Norm
public import proofs.«01_k».proof.Proof.Gen.Reference2Ideal.Read
public import Idealize.ShloMosaic.Lib.Pointwise
public import Idealize.ShloMosaic.Lib.Pipeline.ValueKit

@[expose] public section

set_option maxRecDepth 16384
set_option maxHeartbeats 400000

noncomputable section

namespace Cert.Reference2Ideal.Read

open Cert.Reference2Ideal Cert.Reference2Ideal.Gen Cert.Layer Idealize.ShloMosaic

variable (x : FVec Ideal S32768x1024 .f32) (g : FVec Ideal S1024 .f32) (w : FVec Ideal S1024x7072 .f32)

theorem projected_apply (t : Fin 32768) (n : Fin 7072) : val_main_v13 (F := Ideal) x g w (ix2 t n) =
    ∑ k : Fin 1024, normed (fun k => x (ix2 t k)) (fun k => g (ix1 k)) k * w (ix2 k n) := by
  unfold val_main_v13
  pointwise [val_main_v12, val_main_v11, val_main_v10, val_main_v9, val_main_v8, val_main_v7, val_main_v6, val_main_v5, val_main_v4,
    val_main_v3, val_main_v2, val_main_v1, val_main_v0, val_main_cst, val_main_cst_0, val_main_cst_1, normed, rowScale]

theorem placed_apply (t : Fin 32768) (j : Fin 7168) : val_main_v19 (F := Ideal) x g w (ix2 t j) =
    placed (fun n => val_main_v13 (F := Ideal) x g w (ix2 t n)) j := by
  pointwise [val_main_v19, val_main_v18, val_main_v17, val_main_v16, val_main_v15, val_main_v14, val_main_cst_2]
  exact placed_eq (fun n => val_main_v13 (F := Ideal) x g w (ix2 t n)) j

theorem result_apply (i : S32768x7168.Idx) : val_main_v19 (F := Ideal) x g w i =
    ∑ k : Fin 1024, normed (fun k => x (ix2 (i 0) k)) (fun k => g (ix1 k)) k * placed (fun n => w (ix2 k n)) (i 1) := by
  have e : i = ix2 (i 0) (i 1) := funext (Fin.forall_fin_two.mpr ⟨rfl, rfl⟩)
  refine (congrArg _ e).trans ((placed_apply x g w _ _).trans ?_)
  unfold placed
  split
  · exact projected_apply x g w _ _
  · split
    · simp only [mul_zero, Finset.sum_const_zero]
    · split <;> exact projected_apply x g w _ _

end Cert.Reference2Ideal.Read

end
-- ==== Proof.FfnMath.lean ====
/-
  The feed-forward at one token: three rows of the normed stream to one column of the down projection.
-/
module

public import proofs.«01_k».proof.Proof.Norm

@[expose] public section

noncomputable section

namespace Cert.Layer

open Idealize.ShloMosaic

/-- Three taps of a column, and its bias. -/
def taps (a b c : EReal) (w : Fin 3 → EReal) (e : EReal) : EReal := a * w 0 + b * w 1 + c * w 2 + e

/-- The gate through its logistic, times the value. -/
def gated (g v : EReal) : EReal := g * Ideal.logistic g * v

/-- The hidden unit of the columns `wv`, `wg` at the rows `p`, `q`, `r` (the token before, the token, the token after). -/
def hidden (p q r wv wg : Fin 1024 → EReal) (cv cg : Fin 3 → EReal) (bv bg : EReal) : EReal :=
  gated (taps (∑ k, p k * wg k) (∑ k, q k * wg k) (∑ k, r k * wg k) cg bg)
    (taps (∑ k, p k * wv k) (∑ k, q k * wv k) (∑ k, r k * wv k) cv bv)

/-- The normed row at place `l` of sequence `b`, places counted from one before the sequence; zero outside it. -/
def near (X : Fin 32768 → Fin 1024 → EReal) (g : Fin 1024 → EReal) (b : Fin 4) (l : ℕ) (k : Fin 1024) : EReal :=
  if h : 1 ≤ l ∧ l ≤ 8192 then normed (X ⟨b.val * 8192 + (l - 1), by omega⟩) g k else 0

/-- Hidden unit `j` of token `l` of sequence `b`. -/
def unitAt (X : Fin 32768 → Fin 1024 → EReal) (g : Fin 1024 → EReal) (W : Fin 1024 → Fin 5632 → EReal) (cw : Fin 3 → Fin 5632 → EReal)
    (cb : Fin 5632 → EReal) (b : Fin 4) (l : ℕ) (j : Fin 2816) : EReal :=
  Layer.hidden (near X g b l) (near X g b (l + 1)) (near X g b (l + 2)) (fun k => W k ⟨j.val, by omega⟩)
    (fun k => W k ⟨2816 + j.val, by omega⟩) (fun d => cw d ⟨j.val, by omega⟩) (fun d => cw d ⟨2816 + j.val, by omega⟩)
    (cb ⟨j.val, by omega⟩) (cb ⟨2816 + j.val, by omega⟩)

/-- The feed-forward's output at a token and a column: the residual sum, normed. -/
def fed (X : Fin 32768 → Fin 1024 → EReal) (g : Fin 1024 → EReal) (W : Fin 1024 → Fin 5632 → EReal) (cw : Fin 3 → Fin 5632 → EReal)
    (cb : Fin 5632 → EReal) (Wd : Fin 2816 → Fin 1024 → EReal) (fg : Fin 1024 → EReal) (T : Fin 32768) (n : Fin 1024) : EReal :=
  normed (fun n => X T n + ∑ j, unitAt X g W cw cb ⟨T.val / 8192, by omega⟩ (T.val % 8192) j * Wd j n) fg n

end Cert.Layer

end
-- ==== Proof.FfnPart.lean ====
/-
  The feed-forward's arithmetic on 512 rows: one chain of operations, at every part and in every case of the body.
-/
module

public import proofs.«01_k».proof.Proof.FfnMath
public import proofs.«01_k».proof.Proof.Gen.Kernel3Ideal.Frame
public import Idealize.ShloMosaic.Lib.Pointwise
public import Idealize.ShloMosaic.Lib.WholeRead
public import Idealize.ShloMosaic.Lib.Pipeline.ValueKit

@[expose] public section

set_option maxRecDepth 16384
set_option maxHeartbeats 400000

noncomputable section

namespace Cert.Kernel3Ideal.Ffn

open Cert.Kernel3Ideal Cert.Kernel3Ideal.Gen Cert.Layer Idealize.ShloMosaic Idealize.ShloMosaic.TcCoe Idealize.SL.Sem

variable (h : Vec Ideal S528x1024 .bf16) (wv wg : Vec Ideal S1024x256 .bf16) (cv cg : Vec Ideal S3x256 .f32)
  (bv bg : Vec Ideal S1x256 .f32) (wd : Vec Ideal S256x1024 .bf16) (x acc : Vec Ideal S512x1024 .f32) (fg : Vec Ideal S1x1024 .f32)

/-- What 256 hidden columns add to 512 rows. -/
def part : FVec Ideal S512x1024 .f32 := k0_pay22 (k0_pay8 h wg) (k0_pay21 (k0_pay7 h wv) cv bv) cg bg wd

/-- The last case's rows: the residual sum, normed. -/
def closing : FVec Ideal S512x1024 .f32 := k0_pay2 (addf x (addf acc (part h wv wg cv cg bv bg wd))) fg

theorem first0 : k0_pay22 (k0_pay8 h wg) (k0_pay21 (k0_pay7 h wv) cv bv) cg bg wd = part h wv wg cv cg bv bg wd := rfl

theorem first1 : k0_pay27 (k0_pay11 h wg) (k0_pay23 bv) (k0_pay24 (k0_pay10 h wv) cv) (k0_pay25 (k0_pay10 h wv)) (k0_pay26 cv) cg bg wd =
    part h wv wg cv cg bv bg wd := by
  simp only [part, k0_pay7, k0_pay8, k0_pay10, k0_pay11, k0_pay21, k0_pay22, k0_pay23, k0_pay24, k0_pay25, k0_pay26, k0_pay27, shapeCast_id]

theorem first2 : k0_pay31 (k0_pay13 h wv) (k0_pay14 h wg) cv (k0_pay28 bv) (k0_pay29 (k0_pay13 h wv)) (k0_pay30 cv) cg bg wd =
    part h wv wg cv cg bv bg wd := by
  simp only [part, k0_pay7, k0_pay8, k0_pay13, k0_pay14, k0_pay21, k0_pay22, k0_pay28, k0_pay29, k0_pay30, k0_pay31, shapeCast_id]

theorem first3 : k0_pay1 (k0_pay32 (k0_pay19 h wv) (k0_pay20 h wg) cv bv cg bg) (k0_pay33 wd) = part h wv wg cv cg bv bg wd := by
  simp only [part, k0_pay1, k0_pay7, k0_pay8, k0_pay19, k0_pay20, k0_pay21, k0_pay22, k0_pay32, k0_pay33, shapeCast_id]

theorem next0 : k0_pay43 (k0_pay42 (k0_pay34 h wv) (k0_pay35 h wg) cv bv cg bg) wd acc =
    addf acc (part h wv wg cv cg bv bg wd) := by
  simp only [part, k0_pay7, k0_pay8, k0_pay21, k0_pay22, k0_pay34, k0_pay35, k0_pay42, k0_pay43, shapeCast_id]

theorem next1 : k0_pay47 (k0_pay37 h wg) (k0_pay44 (k0_pay36 h wv) cv bv) cg (k0_pay45 bg) (k0_pay46 (k0_pay37 h wg) cg) 527#32 wd acc =
    addf acc (part h wv wg cv cg bv bg wd) := by
  simp only [part, k0_pay7, k0_pay8, k0_pay21, k0_pay22, k0_pay36, k0_pay37, k0_pay44, k0_pay45, k0_pay46, k0_pay47, shapeCast_id]

theorem next2 : k0_pay49 (k0_pay39 h wg) (k0_pay48 (k0_pay38 h wv) cv bv) cg bg wd acc = addf acc (part h wv wg cv cg bv bg wd) := by
  simp only [part, k0_pay7, k0_pay8, k0_pay21, k0_pay22, k0_pay38, k0_pay39, k0_pay48, k0_pay49, shapeCast_id]

theorem next3 : k0_pay52 (k0_pay40 h wv) (k0_pay41 h wg) cv (k0_pay50 bv) (k0_pay51 (k0_pay40 h wv) cv) cg bg wd acc =
    addf acc (part h wv wg cv cg bv bg wd) := by
  simp only [part, k0_pay7, k0_pay8, k0_pay21, k0_pay22, k0_pay40, k0_pay41, k0_pay50, k0_pay51, k0_pay52, shapeCast_id]

theorem last0 : k0_pay62 (k0_pay61 (k0_pay53 h wv) (k0_pay54 h wg) cv bv cg bg) wd x acc fg =
    closing h wv wg cv cg bv bg wd x acc fg := by
  simp only [part, closing, k0_pay2, k0_pay7, k0_pay8, k0_pay21, k0_pay22, k0_pay53, k0_pay54, k0_pay61, k0_pay62, shapeCast_id]

theorem last1 : k0_pay69 (k0_pay65 (k0_pay56 h wg) (k0_pay63 bv) (k0_pay64 (k0_pay55 h wv) cv) cg bg wd x acc) (k0_pay66 fg)
    (k0_pay67 (k0_pay56 h wg) (k0_pay63 bv) (k0_pay64 (k0_pay55 h wv) cv) cg bg wd x acc) k0_pay68 =
    closing h wv wg cv cg bv bg wd x acc fg := by
  simp only [part, closing, k0_pay2, k0_pay7, k0_pay8, k0_pay21, k0_pay22, k0_pay55, k0_pay56, k0_pay63, k0_pay64, k0_pay65, k0_pay66,
    k0_pay67, k0_pay68, k0_pay69, shapeCast_id]

theorem last2 : k0_pay75 (k0_pay70 (k0_pay57 h wv) cv bv) (k0_pay71 bg) (k0_pay72 (k0_pay58 h wg) cg) (k0_pay73 (k0_pay58 h wg))
    (k0_pay74 cg) wd x acc fg = closing h wv wg cv cg bv bg wd x acc fg := by
  simp only [part, closing, k0_pay2, k0_pay7, k0_pay8, k0_pay21, k0_pay22, k0_pay57, k0_pay58, k0_pay70, k0_pay71, k0_pay72, k0_pay73,
    k0_pay74, k0_pay75, shapeCast_id]

theorem last3 : k0_pay2 (k0_pay80 (k0_pay59 h wv) (k0_pay60 h wg) cv (k0_pay76 bv) (k0_pay77 (k0_pay59 h wv) cv)
    (k0_pay78 (k0_pay59 h wv)) (k0_pay79 cv) cg bg wd x acc) fg = closing h wv wg cv cg bv bg wd x acc fg := by
  simp only [part, closing, k0_pay2, k0_pay7, k0_pay8, k0_pay21, k0_pay22, k0_pay59, k0_pay60, k0_pay76, k0_pay77, k0_pay78, k0_pay79,
    k0_pay80, shapeCast_id]

theorem part_apply (r : Fin 512) (n : Fin 1024) : part h wv wg cv cg bv bg wd (ix2 r n) =
    ∑ j : Fin 256, Layer.hidden (fun k => h (ix2 ⟨r.val + 7, by omega⟩ k)) (fun k => h (ix2 ⟨r.val + 8, by omega⟩ k))
      (fun k => h (ix2 ⟨r.val + 9, by omega⟩ k)) (fun k => wv (ix2 k j)) (fun k => wg (ix2 k j)) (fun d => cv (ix2 d j))
      (fun d => cg (ix2 d j)) (bv (ix2 0 j)) (bg (ix2 0 j)) * wd (ix2 j n) := by
  have e7 : (r.val + 8 + 528 - 1) % 528 = r.val + 7 := by omega
  have e8 : 8 + r.val = r.val + 8 := by omega
  have e9 : (r.val + 8 + 528 - 527) % 528 = r.val + 9 := by omega
  pointwise [part, k0_pay22, k0_pay8, k0_pay21, k0_pay7, Layer.hidden, taps, gated]
  simp only [e8, e7, e9]

theorem closing_apply (r : Fin 512) (n : Fin 1024) : closing h wv wg cv cg bv bg wd x acc fg (ix2 r n) =
    normed (fun k => x (ix2 r k) + (acc (ix2 r k) + part h wv wg cv cg bv bg wd (ix2 r k))) (fun k => fg (ix2 0 k)) n := by
  unfold closing
  generalize part h wv wg cv cg bv bg wd = p
  pointwise [k0_pay2, normed, rowScale]

/-- What 256 hidden columns add to a row and a column of the block, from the block's normed rows. -/
def added (H : FVec Ideal S2064x1024 .bf16) (r : Fin 2048) (n : Fin 1024) : EReal :=
  ∑ j : Fin 256, Layer.hidden (fun k => H (ix2 ⟨r.val + 7, by omega⟩ k)) (fun k => H (ix2 ⟨r.val + 8, by omega⟩ k))
    (fun k => H (ix2 ⟨r.val + 9, by omega⟩ k)) (fun k => wv (ix2 k j)) (fun k => wg (ix2 k j)) (fun d => cv (ix2 d j))
    (fun d => cg (ix2 d j)) (bv (ix2 0 j)) (bg (ix2 0 j)) * wd (ix2 j n)

variable (H : FVec Ideal S2064x1024 .bf16) (X A : Vec Ideal S2048x1024 .f32)

/-- A part whose rows are the block's from `o` on. -/
theorem part_added (o : ℕ) (ho : o ≤ 1536)
    (e : ∀ (j : S528x1024.Idx) (z : S2064x1024.Idx), (z 0).val = o + (j 0).val → (z 1).val = (j 1).val → h j = H z)
    (i : S512x1024.Idx) (y : S2048x1024.Idx) (e0 : (y 0).val = o + (i 0).val) (e1 : (y 1).val = (i 1).val) :
    part h wv wg cv cg bv bg wd i = added wv wg cv cg bv bg wd H (y 0) (y 1) := by
  have hr : (i 0).val < 512 := (i 0).isLt
  have hy : (y 0).val < 2048 := (y 0).isLt
  have e' (d : ℕ) (hd : d ≤ 9) : (fun k => h (ix2 (⟨(i 0).val + d, by omega⟩ : Fin 528) k)) =
      fun k => H (ix2 ⟨(y 0).val + d, by omega⟩ k) := funext fun k =>
    e (ix2 ⟨(i 0).val + d, by omega⟩ k) (ix2 ⟨(y 0).val + d, by omega⟩ k)
      (by show (y 0).val + d = o + ((i 0).val + d); omega) rfl
  refine (congrArg _ (eq_ix2 i)).trans ((part_apply h wv wg cv cg bv bg wd (i 0) (i 1)).trans ?_)
  unfold added
  rw [e' 7 (by omega), e' 8 (by omega), e' 9 (by omega), show (y 1 : Fin 1024) = i 1 from Fin.ext e1]

/-- A part added to the sum's rows from `o` on. -/
theorem next_added (o : ℕ) (ho : o ≤ 1536)
    (ea : ∀ (j : S512x1024.Idx) (z : S2048x1024.Idx), (z 0).val = o + (j 0).val → (z 1).val = (j 1).val → acc j = A z)
    (e : ∀ (j : S528x1024.Idx) (z : S2064x1024.Idx), (z 0).val = o + (j 0).val → (z 1).val = (j 1).val → h j = H z)
    (i : S512x1024.Idx) (y : S2048x1024.Idx) (e0 : (y 0).val = o + (i 0).val) (e1 : (y 1).val = (i 1).val) :
    addf acc (part h wv wg cv cg bv bg wd) i = (show EReal from A y) + added wv wg cv cg bv bg wd H (y 0) (y 1) :=
  congrArg₂ (fun a b : EReal => a + b) (ea i y e0 e1) (part_added h wv wg cv cg bv bg wd H o ho e i y e0 e1)

/-- The last case's rows from `o` on. -/
theorem closing_added (o : ℕ) (ho : o ≤ 1536)
    (ex : ∀ (j : S512x1024.Idx) (z : S2048x1024.Idx), (z 0).val = o + (j 0).val → (z 1).val = (j 1).val → x j = X z)
    (ea : ∀ (j : S512x1024.Idx) (z : S2048x1024.Idx), (z 0).val = o + (j 0).val → (z 1).val = (j 1).val → acc j = A z)
    (e : ∀ (j : S528x1024.Idx) (z : S2064x1024.Idx), (z 0).val = o + (j 0).val → (z 1).val = (j 1).val → h j = H z)
    (i : S512x1024.Idx) (y : S2048x1024.Idx) (e0 : (y 0).val = o + (i 0).val) (e1 : (y 1).val = (i 1).val) :
    closing h wv wg cv cg bv bg wd x acc fg i =
      normed (fun k => X (ix2 (y 0) k) + (A (ix2 (y 0) k) + added wv wg cv cg bv bg wd H (y 0) k)) (fun k => fg (ix2 0 k)) (y 1) := by
  refine (congrArg _ (eq_ix2 i)).trans ((closing_apply h wv wg cv cg bv bg wd x acc fg (i 0) (i 1)).trans ?_)
  rw [show (y 1 : Fin 1024) = i 1 from Fin.ext e1]
  refine congrArg (fun v => normed v (fun k => fg (ix2 0 k)) (i 1)) (funext fun k => ?_)
  rw [ex (ix2 (i 0) k) (ix2 (y 0) k) e0 rfl, ea (ix2 (i 0) k) (ix2 (y 0) k) e0 rfl]
  exact congrArg _ (congrArg _ (part_added h wv wg cv cg bv bg wd H o ho e (ix2 (i 0) k) (ix2 (y 0) k) e0 rfl))

end Cert.Kernel3Ideal.Ffn

end
-- ==== Proof.FfnRows.lean ====
/-
  The normed rows a row block's first point leaves in the buffer, with the eight before and the eight after.
-/
module

public import proofs.«01_k».proof.Proof.FfnPart

@[expose] public section

set_option maxRecDepth 16384
set_option maxHeartbeats 400000

noncomputable section

namespace Cert.Kernel3Ideal.Ffn

open Cert.Kernel3Ideal Cert.Kernel3Ideal.Gen Cert.Layer Idealize.ShloMosaic Idealize.ShloMosaic.TcCoe Idealize.SL.Sem

/-- A row block's place in its sequence, as the kernel computes it. -/
def place (w : BitVec 32) : BitVec 32 :=
  Scalar.select (Scalar.andi (Scalar.xori (Scalar.cmpi .slt (Scalar.remsi w 4#32) 0#32) 0#1) (Scalar.cmpi .ne (Scalar.remsi w 4#32) 0#32))
    (Scalar.addi (Scalar.remsi w 4#32) 4#32) (Scalar.remsi w 4#32)

theorem place_word : ∀ t : Fin cfg0.N,
    (Scalar.cmpi .eq (place (BitVec.ofNat 32 (grid0.coords t 0).val)) 0#32 = 1#1 ↔ t.val / 11 % 4 = 0) ∧
    (Scalar.cmpi .eq (place (BitVec.ofNat 32 (grid0.coords t 0).val)) 3#32 = 1#1 ↔ t.val / 11 % 4 = 3) :=
  (by decide +kernel : ∀ t : Fin grid0.N, _)

variable (g : Vec Ideal S1x1024 .f32)

theorem before_apply (w : BitVec 32) (b : Vec Ideal S8x1024 .f32) (i : S8x1024.Idx) : k0_pay4 w g b i =
    if Scalar.cmpi .eq (place w) 0#32 = 1#1 then 0 else normed (fun k => b (ix2 (i 0) k)) (fun k => g (ix2 0 k)) (i 1) := by
  have e4 : Scalar.select (Scalar.cmpi .eq 4#32 0#32) 1#32 4#32 = 4#32 := rfl
  have e0 : Scalar.cmpi .slt 4#32 0#32 = 0#1 := rfl
  pointwise [k0_pay4, k0_pay3, normed, rowScale]
  simp only [e4, e0]
  rfl

theorem after_apply (e : BitVec 1) (b : Vec Ideal S8x1024 .f32) (i : S8x1024.Idx) : k0_pay18 (k0_pay15 g) e b (k0_pay17 b) i =
    if e = 1#1 then 0 else normed (fun k => b (ix2 (i 0) k)) (fun k => g (ix2 0 k)) (i 1) := by
  pointwise [k0_pay18, k0_pay15, k0_pay17, normed, rowScale]
  rfl

theorem own0_apply (b : Vec Ideal S520x1024 .f32) (i : S520x1024.Idx) : k0_pay6 (k0_pay3 g) b (k0_pay5 b) i =
    normed (fun k => b (ix2 (i 0) k)) (fun k => g (ix2 0 k)) (i 1) := by
  pointwise [k0_pay6, k0_pay3, k0_pay5, normed, rowScale]

theorem own1_apply (b : Vec Ideal S512x1024 .f32) (i : S512x1024.Idx) : k0_pay9 g b i =
    normed (fun k => b (ix2 (i 0) k)) (fun k => g (ix2 0 k)) (i 1) := by
  pointwise [k0_pay9, normed, rowScale]

theorem own2_apply (b : Vec Ideal S512x1024 .f32) (i : S512x1024.Idx) : k0_pay12 g b i =
    normed (fun k => b (ix2 (i 0) k)) (fun k => g (ix2 0 k)) (i 1) := by
  pointwise [k0_pay12, normed, rowScale]

theorem own3_apply (b : Vec Ideal S504x1024 .f32) (i : S504x1024.Idx) : k0_pay16 g b i =
    normed (fun k => b (ix2 (i 0) k)) (fun k => g (ix2 0 k)) (i 1) := by
  pointwise [k0_pay16, k0_pay15, normed, rowScale]

/-- The normed rows of a block at place `s` of its sequence, from eight before it to eight after it; zero outside the sequence. -/
def rows (b : Vec Ideal S2048x1024 .f32) (p n : Vec Ideal S8x1024 .f32) (s : ℕ) : FVec Ideal S2064x1024 .bf16 := fun y =>
  if (y 0).val < 8 then
    if s = 0 then 0 else normed (fun k => p (ix2 ⟨(y 0).val % 8, Nat.mod_lt _ (by decide)⟩ k)) (fun k => g (ix2 0 k)) (y 1)
  else if (y 0).val < 2056 then
    normed (fun k => b (ix2 ⟨((y 0).val - 8) % 2048, Nat.mod_lt _ (by decide)⟩ k)) (fun k => g (ix2 0 k)) (y 1)
  else if s = 3 then 0 else
    normed (fun k => n (ix2 ⟨((y 0).val - 2056) % 8, Nat.mod_lt _ (by decide)⟩ k)) (fun k => g (ix2 0 k)) (y 1)

theorem rows_before (b : Vec Ideal S2048x1024 .f32) (p n : Vec Ideal S8x1024 .f32) (s : ℕ) (r : Fin 8) (y : S2064x1024.Idx)
    (e : (y 0).val = r.val) : rows g b p n s y =
      if s = 0 then 0 else normed (fun k => p (ix2 r k)) (fun k => g (ix2 0 k)) (y 1) := by
  have hr : (⟨(y 0).val % 8, Nat.mod_lt _ (by decide)⟩ : Fin 8) = r := Fin.ext (by simp only; omega)
  unfold rows
  rw [if_pos (by omega), hr]

theorem rows_own (b : Vec Ideal S2048x1024 .f32) (p n : Vec Ideal S8x1024 .f32) (s : ℕ) (r : Fin 2048) (y : S2064x1024.Idx)
    (e : (y 0).val = 8 + r.val) : rows g b p n s y = normed (fun k => b (ix2 r k)) (fun k => g (ix2 0 k)) (y 1) := by
  have hr : (⟨((y 0).val - 8) % 2048, Nat.mod_lt _ (by decide)⟩ : Fin 2048) = r := Fin.ext (by simp only; omega)
  unfold rows
  rw [if_neg (by omega), if_pos (by omega), hr]

theorem rows_after (b : Vec Ideal S2048x1024 .f32) (p n : Vec Ideal S8x1024 .f32) (s : ℕ) (r : Fin 8) (y : S2064x1024.Idx)
    (e : (y 0).val = 2056 + r.val) : rows g b p n s y =
      if s = 3 then 0 else normed (fun k => n (ix2 r k)) (fun k => g (ix2 0 k)) (y 1) := by
  have hr : (⟨((y 0).val - 2056) % 8, Nat.mod_lt _ (by decide)⟩ : Fin 8) = r := Fin.ext (by simp only; omega)
  unfold rows
  rw [if_neg (by omega), if_neg (by omega), hr]

/-- A row of a slice of the block, normed, is the row the buffer is to hold. -/
theorem own_rows (b : Vec Ideal S2048x1024 .f32) (p n : Vec Ideal S8x1024 .f32) (s : ℕ) (v : Fin 1024 → EReal) (k : Fin 1024)
    (y : S2064x1024.Idx) (r : Fin 2048) (e0 : (y 0).val = 8 + r.val) (e1 : (y 1).val = k.val) (ev : ∀ k, v k = b (ix2 r k)) :
    normed v (fun k => g (ix2 0 k)) k = rows g b p n s y := by
  rw [rows_own g b p n s r y e0, funext ev]
  exact congrArg _ (Fin.ext e1.symm)

variable (m : (ℓ : Loc nD τ sig) → Buf (Elt Ideal) ℓ) (c : Dev nD)

/-- The normed rows of point `t`'s block. -/
abbrev blockRows (t : Fin cfg0.N) : FVec Ideal S2064x1024 .bf16 :=
  rows (iblk m c 3 t) (iblk m c 0 t) (iblk m c 1 t) (iblk m c 2 t) (t.val / 11 % 4)

theorem before_rows (t : Fin cfg0.N) (x : S8x1024.Idx) (y : S2064x1024.Idx) (e0 : (y 0).val = (x 0).val)
    (e1 : (y 1).val = (x 1).val) :
    k0_pay4 (BitVec.ofNat 32 (grid0.coords t 0).val) (iblk m c 3 t) (iblk m c 1 t) x = blockRows m c t y := by
  have e1' : (y 1 : Fin 1024) = x 1 := Fin.ext e1
  refine (before_apply _ _ _ x).trans (((rows_before (iblk m c 3 t) (iblk m c 0 t) (iblk m c 1 t) (iblk m c 2 t)
    (t.val / 11 % 4) (x 0) y e0).trans ?_).symm)
  rw [e1']
  exact if_congr (place_word t).1.symm rfl rfl

theorem after_rows (t : Fin cfg0.N) (x : S8x1024.Idx) (y : S2064x1024.Idx) (e0 : (y 0).val = 2056 + (x 0).val)
    (e1 : (y 1).val = (x 1).val) :
    k0_pay18 (k0_pay15 (iblk m c 3 t)) (Scalar.cmpi .eq (place (BitVec.ofNat 32 (grid0.coords t 0).val)) 3#32) (iblk m c 2 t)
      (k0_pay17 (iblk m c 2 t)) x = blockRows m c t y := by
  have e1' : (y 1 : Fin 1024) = x 1 := Fin.ext e1
  refine (after_apply _ _ _ x).trans (((rows_after (iblk m c 3 t) (iblk m c 0 t) (iblk m c 1 t) (iblk m c 2 t)
    (t.val / 11 % 4) (x 0) y e0).trans ?_).symm)
  rw [e1']
  exact if_congr (place_word t).2.symm rfl rfl

theorem own0_rows (t : Fin cfg0.N) (b : Vec Ideal S520x1024 .f32) (x : S520x1024.Idx) (y : S2064x1024.Idx) (r : Fin 2048)
    (e0 : (y 0).val = 8 + r.val) (e1 : (y 1).val = (x 1).val)
    (eb : ∀ q : Fin 520, q.val = (x 0).val → ∀ k, b (ix2 q k) = (iblk m c 0 t : Vec Ideal S2048x1024 .f32) (ix2 r k)) :
    k0_pay6 (k0_pay3 (iblk m c 3 t)) b (k0_pay5 b) x = blockRows m c t y :=
  (own0_apply _ b x).trans (own_rows _ _ _ _ _ _ (x 1) y r e0 e1 (eb (x 0) rfl))

theorem own1_rows (t : Fin cfg0.N) (b : Vec Ideal S512x1024 .f32) (x : S512x1024.Idx) (y : S2064x1024.Idx) (r : Fin 2048)
    (e0 : (y 0).val = 8 + r.val) (e1 : (y 1).val = (x 1).val)
    (eb : ∀ q : Fin 512, q.val = (x 0).val → ∀ k, b (ix2 q k) = (iblk m c 0 t : Vec Ideal S2048x1024 .f32) (ix2 r k)) :
    k0_pay9 (iblk m c 3 t) b x = blockRows m c t y :=
  (own1_apply _ b x).trans (own_rows _ _ _ _ _ _ (x 1) y r e0 e1 (eb (x 0) rfl))

theorem own2_rows (t : Fin cfg0.N) (b : Vec Ideal S512x1024 .f32) (x : S512x1024.Idx) (y : S2064x1024.Idx) (r : Fin 2048)
    (e0 : (y 0).val = 8 + r.val) (e1 : (y 1).val = (x 1).val)
    (eb : ∀ q : Fin 512, q.val = (x 0).val → ∀ k, b (ix2 q k) = (iblk m c 0 t : Vec Ideal S2048x1024 .f32) (ix2 r k)) :
    k0_pay12 (iblk m c 3 t) b x = blockRows m c t y :=
  (own2_apply _ b x).trans (own_rows _ _ _ _ _ _ (x 1) y r e0 e1 (eb (x 0) rfl))

theorem own3_rows (t : Fin cfg0.N) (b : Vec Ideal S504x1024 .f32) (x : S504x1024.Idx) (y : S2064x1024.Idx) (r : Fin 2048)
    (e0 : (y 0).val = 8 + r.val) (e1 : (y 1).val = (x 1).val)
    (eb : ∀ q : Fin 504, q.val = (x 0).val → ∀ k, b (ix2 q k) = (iblk m c 0 t : Vec Ideal S2048x1024 .f32) (ix2 r k)) :
    k0_pay16 (iblk m c 3 t) b x = blockRows m c t y :=
  (own3_apply _ b x).trans (own_rows _ _ _ _ _ _ (x 1) y r e0 e1 (eb (x 0) rfl))

theorem first_rows (t : Fin cfg0.N) (e0 : t.val % 11 = 0) (e1 : ¬(1 ≤ t.val % 11 ∧ t.val % 11 ≤ 9)) (e2 : ¬t.val % 11 = 10) :
    (outsAt0 m c t.val t.isLt).2.1 = blockRows m c t := by
  funext y
  have y0_lt : (y 0).val < 2064 := (y 0).isLt
  have y1_lt : (y 1).val < 1024 := (y 1).isLt
  rw [outsAt0_A m c t e0 e1 e2]
  frame_out
  canon_tiles x h using by
    simp only [List.mem_cons, List.not_mem_nil, or_false, exists_eq_or_imp, exists_eq_left, Rect.mem_set_unit, Fin.forall_fin_two]
    simp
    omega
  · exact after_rows m c t x y h0 h1
  · refine own3_rows m c t _ x y ⟨1544 + (x 0).val, by omega⟩ (by simp only; omega) h1 fun q eq k => ?_
    exact View.ld_unit_apply_of _ _ _ _ _ _
      (Fin.forall_fin_two.mpr ⟨by simp [ix2]; omega, by simp [ix2]⟩)
  · refine own2_rows m c t _ x y ⟨1032 + (x 0).val, by omega⟩ (by simp only; omega) h1 fun q eq k => ?_
    exact View.ld_unit_apply_of _ _ _ _ _ _
      (Fin.forall_fin_two.mpr ⟨by simp [ix2]; omega, by simp [ix2]⟩)
  · refine own1_rows m c t _ x y ⟨520 + (x 0).val, by omega⟩ (by simp only; omega) h1 fun q eq k => ?_
    exact View.ld_unit_apply_of _ _ _ _ _ _
      (Fin.forall_fin_two.mpr ⟨by simp [ix2]; omega, by simp [ix2]⟩)
  · refine own0_rows m c t _ x y ⟨(x 0).val, by omega⟩ h0 h1 fun q eq k => ?_
    exact View.ld_unit_apply_of _ _ _ _ _ _
      (Fin.forall_fin_two.mpr ⟨by simp [ix2]; omega, by simp [ix2]⟩)
  · exact before_rows m c t x y h0 h1

end Cert.Kernel3Ideal.Ffn

end
-- ==== Proof.FfnOut.lean ====
/-
  What a grid point leaves in the sum's buffer and in the output, from the buffers before it.
-/
module

public import proofs.«01_k».proof.Proof.FfnRows

@[expose] public section

set_option maxRecDepth 16384
set_option maxHeartbeats 400000

noncomputable section

namespace Cert.Kernel3Ideal.Ffn

open Cert.Kernel3Ideal Cert.Kernel3Ideal.Gen Cert.Layer Idealize.ShloMosaic Idealize.ShloMosaic.TcCoe Idealize.SL.Sem

variable (m : (ℓ : Loc nD τ sig) → Buf (Elt Ideal) ℓ) (c : Dev nD)

/-- What point `t`'s hidden columns add to a row and a column, from the rows `H`. -/
abbrev addedAt (t : Fin cfg0.N) (H : FVec Ideal S2064x1024 .bf16) (r : Fin 2048) (n : Fin 1024) : EReal :=
  added (iblk m c 4 t) (iblk m c 5 t) (iblk m c 6 t) (iblk m c 7 t) (iblk m c 8 t) (iblk m c 9 t) (iblk m c 10 t) H r n

/-- The buffers as the point before left them. -/
abbrev rowsBefore (t : Fin cfg0.N) : Vec Ideal S2064x1024 .bf16 :=
  (outsAt0 m c (t.val - 1) (Nat.lt_of_le_of_lt (Nat.sub_le _ _) t.isLt)).2.1

abbrev sumBefore (t : Fin cfg0.N) : Vec Ideal S2048x1024 .f32 :=
  (outsAt0 m c (t.val - 1) (Nat.lt_of_le_of_lt (Nat.sub_le _ _) t.isLt)).2.2

theorem next_acc (t : Fin cfg0.N) (e0 : ¬t.val % 11 = 0) (e1 : 1 ≤ t.val % 11 ∧ t.val % 11 ≤ 9) (e2 : ¬t.val % 11 = 10) :
    (outsAt0 m c t.val t.isLt).2.2 = fun y => (show EReal from sumBefore m c t y) + addedAt m c t (rowsBefore m c t) (y 0) (y 1) := by
  funext y
  rw [outsAt0_B m c t e0 e1 e2]
  frame_out
  canon_tiles x h
  · rw [next3]
    refine next_added _ _ _ _ _ _ _ _ _ (rowsBefore m c t) (sumBefore m c t) 1536 (by omega) (fun j z z0 z1 => ?_)
      (fun j z z0 z1 => ?_) x y (by omega) h1
    · refine (View.ld_unit_apply_of _ _ _ _ _ z (Fin.forall_fin_two.mpr ⟨z0, z1.trans (Nat.zero_add _).symm⟩)).trans ?_
      exact congrFun (Memref.IsWhole.read_unread _ _) z
    · refine (View.ld_unit_apply_of _ _ _ _ _ z (Fin.forall_fin_two.mpr ⟨z0, z1.trans (Nat.zero_add _).symm⟩)).trans ?_
      exact congrFun (Memref.IsWhole.read_unread _ _) z
  · rw [next2]
    refine next_added _ _ _ _ _ _ _ _ _ (rowsBefore m c t) (sumBefore m c t) 1024 (by omega) (fun j z z0 z1 => ?_)
      (fun j z z0 z1 => ?_) x y (by omega) h1
    · refine (View.ld_unit_apply_of _ _ _ _ _ z (Fin.forall_fin_two.mpr ⟨z0, z1.trans (Nat.zero_add _).symm⟩)).trans ?_
      exact congrFun (Memref.IsWhole.read_unread _ _) z
    · refine (View.ld_unit_apply_of _ _ _ _ _ z (Fin.forall_fin_two.mpr ⟨z0, z1.trans (Nat.zero_add _).symm⟩)).trans ?_
      exact congrFun (Memref.IsWhole.read_unread _ _) z
  · rw [next1]
    refine next_added _ _ _ _ _ _ _ _ _ (rowsBefore m c t) (sumBefore m c t) 512 (by omega) (fun j z z0 z1 => ?_)
      (fun j z z0 z1 => ?_) x y (by omega) h1
    · refine (View.ld_unit_apply_of _ _ _ _ _ z (Fin.forall_fin_two.mpr ⟨z0, z1.trans (Nat.zero_add _).symm⟩)).trans ?_
      exact congrFun (Memref.IsWhole.read_unread _ _) z
    · refine (View.ld_unit_apply_of _ _ _ _ _ z (Fin.forall_fin_two.mpr ⟨z0, z1.trans (Nat.zero_add _).symm⟩)).trans ?_
      exact congrFun (Memref.IsWhole.read_unread _ _) z
  · rw [next0]
    refine next_added _ _ _ _ _ _ _ _ _ (rowsBefore m c t) (sumBefore m c t) 0 (by omega) (fun j z z0 z1 => ?_)
      (fun j z z0 z1 => ?_) x y (by omega) h1
    · refine (View.ld_unit_apply_of _ _ _ _ _ z (Fin.forall_fin_two.mpr ⟨z0.trans rfl, z1.trans (Nat.zero_add _).symm⟩)).trans ?_
      exact congrFun (Memref.IsWhole.read_unread _ _) z
    · refine (View.ld_unit_apply_of _ _ _ _ _ z (Fin.forall_fin_two.mpr ⟨z0.trans rfl, z1.trans (Nat.zero_add _).symm⟩)).trans ?_
      exact congrFun (Memref.IsWhole.read_unread _ _) z

theorem last_out (t : Fin cfg0.N) (e0 : ¬t.val % 11 = 0) (e1 : ¬(1 ≤ t.val % 11 ∧ t.val % 11 ≤ 9)) (e2 : t.val % 11 = 10) :
    (outsAt0 m c t.val t.isLt).1 = fun y => normed (fun k => (show EReal from (iblk m c 0 t : Vec Ideal S2048x1024 .f32) (ix2 (y 0) k)) +
      ((show EReal from sumBefore m c t (ix2 (y 0) k)) + addedAt m c t (rowsBefore m c t) (y 0) k))
      (fun k => (iblk m c 11 t : Vec Ideal S1x1024 .f32) (ix2 0 k)) (y 1) := by
  funext y
  rw [outsAt0_C m c t e0 e1 e2]
  frame_out
  canon_tiles x h
  · rw [last3]
    refine closing_added _ _ _ _ _ _ _ _ _ _ _ (rowsBefore m c t) (iblk m c 0 t) (sumBefore m c t) 1536 (by omega)
      (fun j z z0 z1 => ?_) (fun j z z0 z1 => ?_) (fun j z z0 z1 => ?_) x y (by omega) h1
    · exact View.ld_unit_apply_of _ _ _ _ _ _ (Fin.forall_fin_two.mpr ⟨z0, z1.trans (Nat.zero_add _).symm⟩)
    · refine (View.ld_unit_apply_of _ _ _ _ _ z (Fin.forall_fin_two.mpr ⟨z0, z1.trans (Nat.zero_add _).symm⟩)).trans ?_
      exact congrFun (Memref.IsWhole.read_unread _ _) z
    · refine (View.ld_unit_apply_of _ _ _ _ _ z (Fin.forall_fin_two.mpr ⟨z0, z1.trans (Nat.zero_add _).symm⟩)).trans ?_
      exact congrFun (Memref.IsWhole.read_unread _ _) z
  · rw [last2]
    refine closing_added _ _ _ _ _ _ _ _ _ _ _ (rowsBefore m c t) (iblk m c 0 t) (sumBefore m c t) 1024 (by omega)
      (fun j z z0 z1 => ?_) (fun j z z0 z1 => ?_) (fun j z z0 z1 => ?_) x y (by omega) h1
    · exact View.ld_unit_apply_of _ _ _ _ _ _ (Fin.forall_fin_two.mpr ⟨z0, z1.trans (Nat.zero_add _).symm⟩)
    · refine (View.ld_unit_apply_of _ _ _ _ _ z (Fin.forall_fin_two.mpr ⟨z0, z1.trans (Nat.zero_add _).symm⟩)).trans ?_
      exact congrFun (Memref.IsWhole.read_unread _ _) z
    · refine (View.ld_unit_apply_of _ _ _ _ _ z (Fin.forall_fin_two.mpr ⟨z0, z1.trans (Nat.zero_add _).symm⟩)).trans ?_
      exact congrFun (Memref.IsWhole.read_unread _ _) z
  · rw [last1]
    refine closing_added _ _ _ _ _ _ _ _ _ _ _ (rowsBefore m c t) (iblk m c 0 t) (sumBefore m c t) 512 (by omega)
      (fun j z z0 z1 => ?_) (fun j z z0 z1 => ?_) (fun j z z0 z1 => ?_) x y (by omega) h1
    · exact View.ld_unit_apply_of _ _ _ _ _ _ (Fin.forall_fin_two.mpr ⟨z0, z1.trans (Nat.zero_add _).symm⟩)
    · refine (View.ld_unit_apply_of _ _ _ _ _ z (Fin.forall_fin_two.mpr ⟨z0, z1.trans (Nat.zero_add _).symm⟩)).trans ?_
      exact congrFun (Memref.IsWhole.read_unread _ _) z
    · refine (View.ld_unit_apply_of _ _ _ _ _ z (Fin.forall_fin_two.mpr ⟨z0, z1.trans (Nat.zero_add _).symm⟩)).trans ?_
      exact congrFun (Memref.IsWhole.read_unread _ _) z
  · rw [last0]
    refine closing_added _ _ _ _ _ _ _ _ _ _ _ (rowsBefore m c t) (iblk m c 0 t) (sumBefore m c t) 0 (by omega)
      (fun j z z0 z1 => ?_) (fun j z z0 z1 => ?_) (fun j z z0 z1 => ?_) x y (by omega) h1
    · exact View.ld_unit_apply_of _ _ _ _ _ _ (Fin.forall_fin_two.mpr ⟨z0, z1.trans (Nat.zero_add _).symm⟩)
    · refine (View.ld_unit_apply_of _ _ _ _ _ z (Fin.forall_fin_two.mpr ⟨z0.trans rfl, z1.trans (Nat.zero_add _).symm⟩)).trans ?_
      exact congrFun (Memref.IsWhole.read_unread _ _) z
    · refine (View.ld_unit_apply_of _ _ _ _ _ z (Fin.forall_fin_two.mpr ⟨z0.trans rfl, z1.trans (Nat.zero_add _).symm⟩)).trans ?_
      exact congrFun (Memref.IsWhole.read_unread _ _) z

theorem first_acc (t : Fin cfg0.N) (e0 : t.val % 11 = 0) (e1 : ¬(1 ≤ t.val % 11 ∧ t.val % 11 ≤ 9)) (e2 : ¬t.val % 11 = 10) :
    (outsAt0 m c t.val t.isLt).2.2 = fun y => addedAt m c t (blockRows m c t) (y 0) (y 1) := by
  funext y
  rw [outsAt0_A m c t e0 e1 e2]
  frame_out
  canon_tiles x h
  · rw [first3]
    refine part_added _ _ _ _ _ _ _ _ (blockRows m c t) 1536 (by omega) (fun j z z0 z1 => ?_) x y (by omega) h1
    have ez : (Rect.unit (s := S2064x1024) ![1536, 0] ![528, 1024] inb_S2064x1024_S528x1024_1536_0).toLoadRect.idx j = z :=
      funext (Fin.forall_fin_two.mpr ⟨Fin.ext (by simp; omega), Fin.ext (by simp; omega)⟩)
    have j0_lt : (j 0).val < 528 := (j 0).isLt
    have z1_lt : (z 1).val < 1024 := (z 1).isLt
    rw [View.readCov_eq_canon']
    beta_reduce
    rw [ez]
    clear ez h0 h1
    canon_tiles q h using by
      simp only [List.mem_cons, List.not_mem_nil, or_false, exists_eq_or_imp, exists_eq_left, Rect.mem_set_unit, Fin.forall_fin_two]
      simp
      omega
    · exact after_rows m c t q z h0 h1
    · refine own3_rows m c t _ q z ⟨1544 + (q 0).val, by omega⟩ (by simp only; omega) h1 fun p ep k => ?_
      exact View.ld_unit_apply_of _ _ _ _ _ _ (Fin.forall_fin_two.mpr ⟨by simp [ix2]; omega, by simp [ix2]⟩)
    · refine own2_rows m c t _ q z ⟨1032 + (q 0).val, by omega⟩ (by simp only; omega) h1 fun p ep k => ?_
      exact View.ld_unit_apply_of _ _ _ _ _ _ (Fin.forall_fin_two.mpr ⟨by simp [ix2]; omega, by simp [ix2]⟩)
    · refine own1_rows m c t _ q z ⟨520 + (q 0).val, by omega⟩ (by simp only; omega) h1 fun p ep k => ?_
      exact View.ld_unit_apply_of _ _ _ _ _ _ (Fin.forall_fin_two.mpr ⟨by simp [ix2]; omega, by simp [ix2]⟩)
    · refine own0_rows m c t _ q z ⟨(q 0).val, by omega⟩ h0 h1 fun p ep k => ?_
      exact View.ld_unit_apply_of _ _ _ _ _ _ (Fin.forall_fin_two.mpr ⟨by simp [ix2]; omega, by simp [ix2]⟩)
    · exact before_rows m c t q z h0 h1
  · rw [first2]
    refine part_added _ _ _ _ _ _ _ _ (blockRows m c t) 1024 (by omega) (fun j z z0 z1 => ?_) x y (by omega) h1
    have ez : (Rect.unit (s := S2064x1024) ![1024, 0] ![528, 1024] inb_S2064x1024_S528x1024_1024_0).toLoadRect.idx j = z :=
      funext (Fin.forall_fin_two.mpr ⟨Fin.ext (by simp; omega), Fin.ext (by simp; omega)⟩)
    have j0_lt : (j 0).val < 528 := (j 0).isLt
    have z1_lt : (z 1).val < 1024 := (z 1).isLt
    rw [View.readCov_eq_canon']
    beta_reduce
    rw [ez]
    clear ez h0 h1
    canon_tiles q h using by
      simp only [List.mem_cons, List.not_mem_nil, or_false, exists_eq_or_imp, exists_eq_left, Rect.mem_set_unit, Fin.forall_fin_two]
      simp
      omega
    · refine own2_rows m c t _ q z ⟨1032 + (q 0).val, by omega⟩ (by simp only; omega) h1 fun p ep k => ?_
      exact View.ld_unit_apply_of _ _ _ _ _ _ (Fin.forall_fin_two.mpr ⟨by simp [ix2]; omega, by simp [ix2]⟩)
    · refine own1_rows m c t _ q z ⟨520 + (q 0).val, by omega⟩ (by simp only; omega) h1 fun p ep k => ?_
      exact View.ld_unit_apply_of _ _ _ _ _ _ (Fin.forall_fin_two.mpr ⟨by simp [ix2]; omega, by simp [ix2]⟩)
    · refine own0_rows m c t _ q z ⟨(q 0).val, by omega⟩ h0 h1 fun p ep k => ?_
      exact View.ld_unit_apply_of _ _ _ _ _ _ (Fin.forall_fin_two.mpr ⟨by simp [ix2]; omega, by simp [ix2]⟩)
    · exact before_rows m c t q z h0 h1
  · rw [first1]
    refine part_added _ _ _ _ _ _ _ _ (blockRows m c t) 512 (by omega) (fun j z z0 z1 => ?_) x y (by omega) h1
    have ez : (Rect.unit (s := S2064x1024) ![512, 0] ![528, 1024] inb_S2064x1024_S528x1024_512_0).toLoadRect.idx j = z :=
      funext (Fin.forall_fin_two.mpr ⟨Fin.ext (by simp; omega), Fin.ext (by simp; omega)⟩)
    have j0_lt : (j 0).val < 528 := (j 0).isLt
    have z1_lt : (z 1).val < 1024 := (z 1).isLt
    rw [View.readCov_eq_canon']
    beta_reduce
    rw [ez]
    clear ez h0 h1
    canon_tiles q h using by
      simp only [List.mem_cons, List.not_mem_nil, or_false, exists_eq_or_imp, exists_eq_left, Rect.mem_set_unit, Fin.forall_fin_two]
      simp
      omega
    · refine own1_rows m c t _ q z ⟨520 + (q 0).val, by omega⟩ (by simp only; omega) h1 fun p ep k => ?_
      exact View.ld_unit_apply_of _ _ _ _ _ _ (Fin.forall_fin_two.mpr ⟨by simp [ix2]; omega, by simp [ix2]⟩)
    · refine own0_rows m c t _ q z ⟨(q 0).val, by omega⟩ h0 h1 fun p ep k => ?_
      exact View.ld_unit_apply_of _ _ _ _ _ _ (Fin.forall_fin_two.mpr ⟨by simp [ix2]; omega, by simp [ix2]⟩)
    · exact before_rows m c t q z h0 h1
  · rw [first0]
    refine part_added _ _ _ _ _ _ _ _ (blockRows m c t) 0 (by omega) (fun j z z0 z1 => ?_) x y (by omega) h1
    have ez : (Rect.unit (s := S2064x1024) ![0, 0] ![528, 1024] inb_S2064x1024_S528x1024_0_0).toLoadRect.idx j = z :=
      funext (Fin.forall_fin_two.mpr ⟨Fin.ext (by simp; omega), Fin.ext (by simp; omega)⟩)
    have j0_lt : (j 0).val < 528 := (j 0).isLt
    have z1_lt : (z 1).val < 1024 := (z 1).isLt
    rw [View.readCov_eq_canon']
    beta_reduce
    rw [ez]
    clear ez h0 h1
    canon_tiles q h using by
      simp only [List.mem_cons, List.not_mem_nil, or_false, exists_eq_or_imp, exists_eq_left, Rect.mem_set_unit, Fin.forall_fin_two]
      simp
      omega
    · refine own0_rows m c t _ q z ⟨(q 0).val, by omega⟩ h0 h1 fun p ep k => ?_
      exact View.ld_unit_apply_of _ _ _ _ _ _ (Fin.forall_fin_two.mpr ⟨by simp [ix2]; omega, by simp [ix2]⟩)
    · exact before_rows m c t q z h0 h1

end Cert.Kernel3Ideal.Ffn

end
-- ==== Proof.FfnBlocks.lean ====
/-
  The feed-forward: the sum over the hidden columns' blocks, and the array the kernel leaves.
-/
module

public import proofs.«01_k».proof.Proof.FfnOut
public import Idealize.ShloMosaic.Lib.Claim

@[expose] public section

set_option maxRecDepth 16384
set_option maxHeartbeats 400000

noncomputable section

namespace Cert.Kernel3Ideal.Ffn

open Cert.Kernel3Ideal Cert.Kernel3Ideal.Gen Cert.Layer Idealize.ShloMosaic Idealize.ShloMosaic.TcCoe Idealize.SL.Sem
open Idealize.ShloMosaic.Pipeline (Dat)

/-- The windows' places at the grid points. -/
theorem places : ∀ t : Fin cfg0.N,
    win0_0.index t = ![t.val / 11, 0] ∧ win0_1.index t = ![t.val / 11 * 256 - 1, 0] ∧
    win0_2.index t = ![min (t.val / 11 * 256 + 256) 4095, 0] ∧ win0_3.index t = ![0, 0] ∧
    win0_4.index t = ![0, t.val % 11] ∧ win0_5.index t = ![0, 11 + t.val % 11] ∧
    win0_6.index t = ![0, t.val % 11] ∧ win0_7.index t = ![0, 11 + t.val % 11] ∧
    win0_8.index t = ![0, t.val % 11] ∧ win0_9.index t = ![0, 11 + t.val % 11] ∧
    win0_10.index t = ![t.val % 11, 0] ∧ win0_11.index t = ![0, 0] ∧ win0_12.index t = ![t.val / 11, 0] :=
  (by decide +kernel : ∀ t : Fin grid0.N, _)

variable (m : (ℓ : Loc nD τ sig) → Buf (Elt Ideal) ℓ) (c : Dev nD)

/-- The arguments' arrays. -/
abbrev stream (T : Fin 32768) (k : Fin 1024) : EReal := m ((c : Thread nD τ).loc main_arg0) (ix2 T k)
abbrev gain (k : Fin 1024) : EReal := m ((c : Thread nD τ).loc main_arg1) (ix1 k)
abbrev wup (k : Fin 1024) (j : Fin 5632) : EReal := m ((c : Thread nD τ).loc main_arg2) (ix2 k j)
abbrev conv (d : Fin 3) (j : Fin 5632) : EReal := m ((c : Thread nD τ).loc main_arg3) (ix2 d j)
abbrev bias (j : Fin 5632) : EReal := m ((c : Thread nD τ).loc main_arg4) (ix1 j)
abbrev wdown (j : Fin 2816) (n : Fin 1024) : EReal := m ((c : Thread nD τ).loc main_arg5) (ix2 j n)
abbrev lastGain (k : Fin 1024) : EReal := m ((c : Thread nD τ).loc main_arg6) (ix1 k)

section Reads

variable (t : Fin cfg0.N)

theorem own_read (r : Fin 2048) (k : Fin 1024) (T : Fin 32768) (e : T.val = 2048 * (t.val / 11) + r.val) :
    (iblk m c 0 t : Vec Ideal S2048x1024 .f32) (ix2 r k) = stream m c T k := by
  blk_ext [iblk, V, places t]

theorem before_read (r : Fin 8) (k : Fin 1024) (T : Fin 32768) (e : T.val = (t.val / 11 * 256 - 1) * 8 + r.val) :
    (iblk m c 1 t : Vec Ideal S8x1024 .f32) (ix2 r k) = stream m c T k := by
  blk_ext [iblk, V, places t]

theorem after_read (r : Fin 8) (k : Fin 1024) (T : Fin 32768) (e : T.val = min (t.val / 11 * 256 + 256) 4095 * 8 + r.val) :
    (iblk m c 2 t : Vec Ideal S8x1024 .f32) (ix2 r k) = stream m c T k := by
  blk_ext [iblk, V, places t]

theorem gain_read (k : Fin 1024) : (iblk m c 3 t : Vec Ideal S1x1024 .f32) (ix2 0 k) = gain m c k := by
  blk_simp [iblk]
  entry_read
  pointwise
  blk_ext [places t]

theorem value_weight (k : Fin 1024) (j : Fin 256) (j' : Fin 5632) (e : j'.val = 256 * (t.val % 11) + j.val) :
    (iblk m c 4 t : Vec Ideal S1024x256 .bf16) (ix2 k j) = wup m c k j' := by
  blk_simp [iblk]
  entry_read
  pointwise
  blk_ext [places t]

theorem gate_weight (k : Fin 1024) (j : Fin 256) (j' : Fin 5632) (e : j'.val = 256 * (11 + t.val % 11) + j.val) :
    (iblk m c 5 t : Vec Ideal S1024x256 .bf16) (ix2 k j) = wup m c k j' := by
  blk_simp [iblk]
  entry_read
  pointwise
  blk_ext [places t]

theorem value_conv (d : Fin 3) (j : Fin 256) (j' : Fin 5632) (e : j'.val = 256 * (t.val % 11) + j.val) :
    (iblk m c 6 t : Vec Ideal S3x256 .f32) (ix2 d j) = conv m c d j' := by
  blk_ext [iblk, V, places t]

theorem gate_conv (d : Fin 3) (j : Fin 256) (j' : Fin 5632) (e : j'.val = 256 * (11 + t.val % 11) + j.val) :
    (iblk m c 7 t : Vec Ideal S3x256 .f32) (ix2 d j) = conv m c d j' := by
  blk_ext [iblk, V, places t]

theorem value_bias (j : Fin 256) (j' : Fin 5632) (e : j'.val = 256 * (t.val % 11) + j.val) :
    (iblk m c 8 t : Vec Ideal S1x256 .f32) (ix2 0 j) = bias m c j' := by
  blk_simp [iblk]
  entry_read
  pointwise
  blk_ext [places t]

theorem gate_bias (j : Fin 256) (j' : Fin 5632) (e : j'.val = 256 * (11 + t.val % 11) + j.val) :
    (iblk m c 9 t : Vec Ideal S1x256 .f32) (ix2 0 j) = bias m c j' := by
  blk_simp [iblk]
  entry_read
  pointwise
  blk_ext [places t]

theorem down_read (j : Fin 256) (n : Fin 1024) (j' : Fin 2816) (e : j'.val = 256 * (t.val % 11) + j.val) :
    (iblk m c 10 t : Vec Ideal S256x1024 .bf16) (ix2 j n) = wdown m c j' n := by
  blk_simp [iblk]
  entry_read
  pointwise
  blk_ext [places t]

theorem last_gain_read (k : Fin 1024) : (iblk m c 11 t : Vec Ideal S1x1024 .f32) (ix2 0 k) = lastGain m c k := by
  blk_simp [iblk]
  entry_read
  pointwise
  blk_ext [places t]

/-- The buffer's row `q` is the normed row at its place of the sequence. -/
theorem rows_near (b : Fin 4) (l : ℕ) (q : Fin 2064) (k : Fin 1024) (hb : b.val = t.val / 11 / 4)
    (hl : l = 2048 * (t.val / 11 % 4) + q.val - 7) : blockRows m c t (ix2 q k) = near (stream m c) (gain m c) b l k := by
  have ht : t.val < 176 := t.isLt
  have hg : (fun k => (iblk m c 3 t : Vec Ideal S1x1024 .f32) (ix2 0 k)) = gain m c := funext fun k => gain_read m c t k
  unfold near
  by_cases h8 : q.val < 8
  · refine (rows_before (iblk m c 3 t) (iblk m c 0 t) (iblk m c 1 t) (iblk m c 2 t) (t.val / 11 % 4) ⟨q.val, h8⟩ (ix2 q k) rfl).trans ?_
    by_cases hs : t.val / 11 % 4 = 0
    · rw [if_pos hs, dif_neg (by omega)]
    · rw [if_neg hs, dif_pos (by omega), hg]
      exact congrArg (fun v => normed v (gain m c) k) (funext fun k => before_read m c t ⟨q.val, h8⟩ k _ (by simp only; omega))
  · by_cases h2056 : q.val < 2056
    · refine (rows_own (iblk m c 3 t) (iblk m c 0 t) (iblk m c 1 t) (iblk m c 2 t) (t.val / 11 % 4) ⟨q.val - 8, by omega⟩ (ix2 q k)
        (by simp only [ix2_0]; omega)).trans ?_
      rw [dif_pos (by omega), hg]
      exact congrArg (fun v => normed v (gain m c) k) (funext fun k => own_read m c t ⟨q.val - 8, by omega⟩ k _ (by simp only; omega))
    · refine (rows_after (iblk m c 3 t) (iblk m c 0 t) (iblk m c 1 t) (iblk m c 2 t) (t.val / 11 % 4) ⟨q.val - 2056, by omega⟩ (ix2 q k)
        (by simp only [ix2_0]; omega)).trans ?_
      by_cases hs : t.val / 11 % 4 = 3
      · rw [if_pos hs, dif_neg (by omega)]
      · rw [if_neg hs, dif_pos (by omega), hg]
        exact congrArg (fun v => normed v (gain m c) k)
          (funext fun k => after_read m c t ⟨q.val - 2056, by omega⟩ k _ (by simp only; omega))

/-- Hidden unit `j`'s share of column `n`. -/
def share (b : Fin 4) (l : ℕ) (n : Fin 1024) (j : ℕ) : EReal :=
  if h : j < 2816 then
    unitAt (stream m c) (gain m c) (wup m c) (conv m c) (bias m c) b l ⟨j, h⟩ * wdown m c ⟨j, h⟩ n
  else 0

/-- A point adds the shares of its hidden columns. -/
theorem added_shares (b : Fin 4) (l : ℕ) (r : Fin 2048) (n : Fin 1024) (hb : b.val = t.val / 11 / 4)
    (hl : l = 2048 * (t.val / 11 % 4) + r.val) :
    addedAt m c t (blockRows m c t) r n = ∑ q : Fin 256, share m c b l n (t.val % 11 * 256 + q.val) := by
  unfold addedAt added
  refine Finset.sum_congr rfl fun q _ => ?_
  have hq : t.val % 11 * 256 + q.val < 2816 := by omega
  unfold share unitAt
  rw [dif_pos hq,
    show (fun k => blockRows m c t (ix2 ⟨r.val + 7, by omega⟩ k)) = near (stream m c) (gain m c) b l from
      funext fun k => rows_near m c t b l _ k hb (by simp only; omega),
    show (fun k => blockRows m c t (ix2 ⟨r.val + 8, by omega⟩ k)) = near (stream m c) (gain m c) b (l + 1) from
      funext fun k => rows_near m c t b (l + 1) _ k hb (by simp only; omega),
    show (fun k => blockRows m c t (ix2 ⟨r.val + 9, by omega⟩ k)) = near (stream m c) (gain m c) b (l + 2) from
      funext fun k => rows_near m c t b (l + 2) _ k hb (by simp only; omega),
    funext fun k => value_weight m c t k q ⟨t.val % 11 * 256 + q.val, by omega⟩ (by simp only; omega),
    funext fun k => gate_weight m c t k q ⟨2816 + (t.val % 11 * 256 + q.val), by omega⟩ (by simp only; omega),
    funext fun d => value_conv m c t d q ⟨t.val % 11 * 256 + q.val, by omega⟩ (by simp only; omega),
    funext fun d => gate_conv m c t d q ⟨2816 + (t.val % 11 * 256 + q.val), by omega⟩ (by simp only; omega),
    value_bias m c t q ⟨t.val % 11 * 256 + q.val, by omega⟩ (by simp only; omega),
    gate_bias m c t q ⟨2816 + (t.val % 11 * 256 + q.val), by omega⟩ (by simp only; omega),
    down_read m c t q n ⟨t.val % 11 * 256 + q.val, by omega⟩ (by simp only; omega)]

end Reads

/-- The point before has the same block. -/
theorem rows_same (n : ℕ) (h : n + 1 < cfg0.N) (h' : n < cfg0.N) (e : ¬(n + 1) % 11 = 0) :
    blockRows m c ⟨n + 1, h⟩ = blockRows m c ⟨n, h'⟩ := by
  have hn : n + 1 < 176 := h
  funext z
  have hb : n / 11 / 4 < 4 := by omega
  rw [eq_ix2 z]
  exact (rows_near m c ⟨n + 1, h⟩ ⟨n / 11 / 4, hb⟩ _ (z 0) (z 1) (by simp only; omega) rfl).trans
    (rows_near m c ⟨n, h'⟩ ⟨n / 11 / 4, hb⟩ _ (z 0) (z 1) rfl (by simp only; omega)).symm

/-- A point that is not a row block's first leaves the rows as they were. -/
theorem kept (t : Fin cfg0.N) (e : ¬t.val % 11 = 0) : (outsAt0 m c t.val t.isLt).2.1 = rowsBefore m c t := by
  by_cases e2 : t.val % 11 = 10
  · rw [outsAt0_C m c t e (by omega) e2]
    unfold sout0_C_0
    rfl
  · rw [outsAt0_B m c t e (by omega) e2]
    unfold sout0_B_0
    rfl

/-- The buffer holds the block's rows at every point. -/
theorem held (n : ℕ) (h : n < cfg0.N) : (outsAt0 m c n h).2.1 = blockRows m c ⟨n, h⟩ := by
  induction n with
  | zero => exact first_rows m c ⟨0, h⟩ (Nat.zero_mod 11) (by simp) (by simp)
  | succ n ih =>
    by_cases e : (n + 1) % 11 = 0
    · exact first_rows m c ⟨n + 1, h⟩ e (by simp only; omega) (by simp only; omega)
    · exact (kept m c ⟨n + 1, h⟩ e).trans ((ih (by omega)).trans (rows_same m c n h (by omega) e).symm)

/-- The sum after the points of a row block up to `n`. -/
theorem summed (n : ℕ) (h : n < cfg0.N) (hn : n % 11 ≤ 9) (b : Fin 4) (l : ℕ) (y : S2048x1024.Idx) (hb : b.val = n / 11 / 4)
    (hl : l = 2048 * (n / 11 % 4) + (y 0).val) : (outsAt0 m c n h).2.2 y =
      ∑ s ∈ Finset.range (n % 11 + 1), ∑ q : Fin 256, share m c b l (y 1) (s * 256 + q.val) := by
  have first (n : ℕ) (h : n < cfg0.N) (e : n % 11 = 0) (hb : b.val = n / 11 / 4) (hl : l = 2048 * (n / 11 % 4) + (y 0).val) :
      (outsAt0 m c n h).2.2 y = ∑ s ∈ Finset.range (n % 11 + 1), ∑ q : Fin 256, share m c b l (y 1) (s * 256 + q.val) := by
    refine (congrFun (first_acc m c ⟨n, h⟩ e (by simp only; omega) (by simp only; omega)) y).trans ?_
    refine (added_shares m c ⟨n, h⟩ b l (y 0) (y 1) hb hl).trans ?_
    simp only [e, Nat.zero_add, Finset.range_one, Finset.sum_singleton]
  induction n with
  | zero => exact first 0 h (Nat.zero_mod 11) hb hl
  | succ n ih =>
    by_cases e : (n + 1) % 11 = 0
    · exact first (n + 1) h e hb hl
    · refine (congrFun (next_acc m c ⟨n + 1, h⟩ e (by simp only; omega) (by simp only; omega)) y).trans ?_
      have e' : (n + 1) % 11 = n % 11 + 1 := by omega
      have hr : rowsBefore m c ⟨n + 1, h⟩ = blockRows m c ⟨n + 1, h⟩ :=
        (held m c n (by omega)).trans (rows_same m c n h (by omega) e).symm
      rw [Finset.sum_range_succ, hr]
      refine congrArg₂ (fun a b : EReal => a + b) ?_ (added_shares m c ⟨n + 1, h⟩ b l (y 0) (y 1) hb hl)
      rw [e']
      exact ih (by omega) (by omega) (by omega) (by omega)

/-- What the kernel leaves. -/
def result (i : S32768x1024.Idx) : EReal :=
  fed (stream m c) (gain m c) (wup m c) (conv m c) (bias m c) (wdown m c) (lastGain m c) (i 0) (i 1)

/-- The shares of a row block's points are those of every hidden unit. -/
theorem shares (b : Fin 4) (l : ℕ) (n : Fin 1024) : ∑ s ∈ Finset.range 11, ∑ q : Fin 256, share m c b l n (s * 256 + q.val) =
    ∑ j : Fin 2816, unitAt (stream m c) (gain m c) (wup m c) (conv m c) (bias m c) b l j * wdown m c j n := by
  rw [Finset.sum_range]
  exact Fin.sum_mul_add_congr (S := 11) (n := 256) fun s k hl => dif_pos hl

theorem block (t : Fin cfg0.N) (e : t.val % 11 = 10) (y : S2048x1024.Idx) (T : Fin 32768)
    (hT : T.val = 2048 * (t.val / 11) + (y 0).val) : (outsAt0 m c t.val t.isLt).1 y =
      fed (stream m c) (gain m c) (wup m c) (conv m c) (bias m c) (wdown m c) (lastGain m c) T (y 1) := by
  obtain ⟨n, hn⟩ := t
  obtain _ | n := n
  · simp at e
  have hy : (y 0).val < 2048 := (y 0).isLt
  simp only at e hT
  have hr : rowsBefore m c ⟨n + 1, hn⟩ = blockRows m c ⟨n + 1, hn⟩ :=
    (held m c n (by omega)).trans (rows_same m c n hn (by omega) (by omega)).symm
  refine (congrFun (last_out m c ⟨n + 1, hn⟩ (by simp only; omega) (by simp only; omega) e) y).trans ?_
  unfold fed
  refine congrArg₂ (fun v g => normed v g (y 1)) (funext fun k => ?_) (funext fun k => last_gain_read m c ⟨n + 1, hn⟩ k)
  refine congrArg₂ (fun a b : EReal => a + b) (own_read m c ⟨n + 1, hn⟩ (y 0) k T hT) ?_
  rw [← shares, Finset.sum_range_succ, hr]
  refine congrArg₂ (fun a b : EReal => a + b) ?_ ?_
  · have e' : n % 11 + 1 = 10 := by omega
    rw [← e']
    exact summed m c n (by omega) (by omega) _ _ (ix2 (y 0) k) (by simp only; omega)
      (by show T.val % 8192 = 2048 * (n / 11 % 4) + (y 0).val; omega)
  · refine (added_shares m c ⟨n + 1, hn⟩ ⟨T.val / 8192, by omega⟩ (T.val % 8192) (y 0) k (by simp only; omega) (by simp only; omega)).trans ?_
    simp only [e]

theorem final : (dats m 0 c).arrAt 12 cfg0.N = result m c := by
  refine (dats m 0 c).arrAt_eq_of_covers 12 _ (by decide +kernel) fun t hf y => ?_
  have e : t.val % 11 = 10 := (flush0_12 t).mp hf
  blk_simp
  rw [after0_12]
  have e0 : (((cfg0.win 12).blk t).view.emb y 0).val = 2048 * (t.val / 11) + (y 0).val := by blk_simp [places t]; omega
  have e1 : (((cfg0.win 12).blk t).view.emb y 1).val = (y 1).val := by blk_simp [places t]
  refine (block m c t e y _ e0).trans ?_
  unfold result
  exact congrArg _ (Fin.ext e1.symm)

end Cert.Kernel3Ideal.Ffn

end
-- ==== Proof.FfnRef.lean ====
/-
  The feed-forward of the reference.
-/
module

public import proofs.«01_k».proof.Proof.FfnMath
public import proofs.«01_k».proof.Proof.Gen.Reference3Ideal.Read
public import Idealize.ShloMosaic.Lib.Pointwise
public import Idealize.ShloMosaic.Lib.Pipeline.ValueKit

@[expose] public section

set_option maxRecDepth 16384
set_option maxHeartbeats 400000

noncomputable section

namespace Cert.Reference3Ideal.Read

open Cert.Reference3Ideal Cert.Reference3Ideal.Gen Cert.Layer Idealize.ShloMosaic

variable (x : FVec Ideal S32768x1024 .f32) (g : FVec Ideal S1024 .f32) (w : FVec Ideal S1024x5632 .f32)
  (cw : FVec Ideal S3x5632 .f32) (cb : FVec Ideal S5632 .f32) (wd : FVec Ideal S2816x1024 .f32) (fg : FVec Ideal S1024 .f32)

theorem row_apply (b : Fin 4) (l : Fin 8192) (k : Fin 1024) : val_main_v13 (F := Ideal) x g (ix3 b l k) =
    normed (fun k => x (ix2 ⟨b.val * 8192 + l.val, by omega⟩ k)) (fun k => g (ix1 k)) k := by
  pointwise [val_main_v13, val_main_v12, val_main_v11, val_main_v10, val_main_v9, val_main_v8, val_main_v7, val_main_v6, val_main_cst_1,
    val_main_v5, val_main_v4, val_main_cst_0, val_main_v3, val_main_v2, val_main_cst, val_main_v1, val_main_v0, normed, rowScale]

theorem padded_apply (b : Fin 4) (l : Fin 8194) (c : Fin 5632) : val_main_v15 (F := Ideal) x g w (ix3 b l c) =
    ∑ k : Fin 1024, near (fun t k => x (ix2 t k)) (fun k => g (ix1 k)) b l.val k * w (ix2 k c) := by
  pointwise [val_main_v15, val_main_v14, val_main_call0_v0, val_main_c]
  by_cases e : 1 ≤ l.val ∧ l.val ≤ 8192
  · rw [dif_pos ⟨e.1, by omega⟩]
    refine Finset.sum_congr rfl fun k _ => ?_
    rw [row_apply]
    unfold near
    rw [dif_pos e]
  · rw [dif_neg (by omega)]
    unfold near
    simp only [dif_neg e, zero_mul, Finset.sum_const_zero]
    show (((0#32 : BitVec 32).toInt : ℝ) : EReal) = 0
    simp

theorem taps_apply (b : Fin 4) (l : Fin 8192) (c : Fin 5632) : val_main_v38 (F := Ideal) x g w cw cb (ix3 b l c) =
    taps (∑ k : Fin 1024, near (fun t k => x (ix2 t k)) (fun k => g (ix1 k)) b l.val k * w (ix2 k c))
      (∑ k : Fin 1024, near (fun t k => x (ix2 t k)) (fun k => g (ix1 k)) b (l.val + 1) k * w (ix2 k c))
      (∑ k : Fin 1024, near (fun t k => x (ix2 t k)) (fun k => g (ix1 k)) b (l.val + 2) k * w (ix2 k c))
      (fun d => cw (ix2 d c)) (cb (ix1 c)) := by
  pointwise [val_main_v38, val_main_v37, val_main_v36, val_main_v35, val_main_v34, val_main_v33, val_main_v32, val_main_v31, val_main_v30,
    val_main_v29, val_main_v28, val_main_v27, val_main_v26, val_main_v25, val_main_v24, val_main_v23, val_main_v22, val_main_v21,
    val_main_v20, val_main_v19, val_main_v18, val_main_v17, val_main_v16, taps]
  rw [padded_apply, padded_apply, padded_apply]
  simp only [Nat.add_comm 1, Nat.add_comm 2]

theorem unit_apply (b : Fin 4) (l : Fin 8192) (j : Fin 2816) : val_main_v48 (F := Ideal) x g w cw cb (ix3 b l j) =
    unitAt (fun t k => x (ix2 t k)) (fun k => g (ix1 k)) (fun k c => w (ix2 k c)) (fun d c => cw (ix2 d c)) (fun c => cb (ix1 c)) b l.val j := by
  pointwise [val_main_v48, val_main_v47, val_main_v46, val_main_v45, val_main_cst_3, val_main_v44, val_main_v43, val_main_cst_2,
    val_main_v42, val_main_v41, val_main_v40, val_main_v39, unitAt, Layer.hidden, gated]
  rw [taps_apply, taps_apply]
  unfold Ideal.logistic
  rfl

theorem result_apply (i : S32768x1024.Idx) : val_main_v64 (F := Ideal) x g w cw cb wd fg i =
    fed (fun t k => x (ix2 t k)) (fun k => g (ix1 k)) (fun k c => w (ix2 k c)) (fun d c => cw (ix2 d c)) (fun c => cb (ix1 c))
      (fun j n => wd (ix2 j n)) (fun k => fg (ix1 k)) (i 0) (i 1) := by
  pointwise [val_main_v64, val_main_v63, val_main_v62, val_main_v61, val_main_v60, val_main_v59, val_main_v58, val_main_v57, val_main_v56,
    val_main_cst_6, val_main_v55, val_main_v54, val_main_cst_5, val_main_v53, val_main_v52, val_main_cst_4, val_main_v51, val_main_v50,
    val_main_v49, val_main_v0, fed, normed, rowScale]
  simp only [unit_apply]

end Cert.Reference3Ideal.Read

end
-- ==== Proof.MergeMath.lean ====
/-
  The merge at one token: the scan's group norm and gate, and the three gated branches through the output projection.
-/
module

public import Idealize.ShloMosaic.PureOps.Ideal

@[expose] public section

noncomputable section

namespace Cert.Layer

open Idealize.ShloMosaic

/-- Channel `d` of head `h`. -/
def chan (h : Fin 8) (d : Fin 64) : Fin 512 := ⟨h.val * 64 + d.val, by omega⟩
/-- The head of a channel. -/
def headOf (j : Fin 512) : Fin 8 := ⟨j.val / 64, by omega⟩
/-- The channel's place in its head. -/
def within (j : Fin 512) : Fin 64 := ⟨j.val % 64, Nat.mod_lt _ (by omega)⟩

theorem chan_of (j : Fin 512) : chan (headOf j) (within j) = j := Fin.ext (by simp only [chan, headOf, within]; omega)

/-- The mean over a head's channels. -/
def headMean (y : Fin 512 → EReal) (h : Fin 8) : EReal :=
  Ideal.div (∑ d, y (chan h d)) (Ideal.ofBits .f32 0x42800000#32)

/-- A channel less its head's mean. -/
def centred (y : Fin 512 → EReal) (h : Fin 8) (d : Fin 64) : EReal := y (chan h d) - headMean y h

/-- The head's channels scaled to unit variance. -/
def groupNormed (y : Fin 512 → EReal) (h : Fin 8) (d : Fin 64) : EReal :=
  centred y h d * Ideal.rsqrt (Ideal.div (∑ e, centred y h e * centred y h e) (Ideal.ofBits .f32 0x42800000#32)
    + Ideal.ofBits .f32 0x3A27C5AC#32)

/-- The scan's branch: the group norm with its gain and bias, the bonus, and the gate. -/
def scanned (y w b e g : Fin 512 → EReal) (j : Fin 512) : EReal :=
  (groupNormed y (headOf j) (within j) * w j + b j + e j) * g j

/-- The three branches through their gates. -/
def gatedSum (g : Fin 3 → Fin 1024 → EReal) (p q r : Fin 512 → EReal) (W : Fin 3 → Fin 512 → Fin 1024 → EReal) (n : Fin 1024) : EReal :=
  Ideal.logistic (g 0 n) * (∑ k, p k * W 0 k n) + Ideal.logistic (g 1 n) * (∑ k, q k * W 1 k n)
    + Ideal.logistic (g 2 n) * ∑ k, r k * W 2 k n

/-- The stream with the merged branches added. -/
def mergedAt (x : Fin 1024 → EReal) (g : Fin 3 → Fin 1024 → EReal) (p q r : Fin 512 → EReal)
    (W : Fin 3 → Fin 512 → Fin 1024 → EReal) (Wo : Fin 1024 → Fin 1024 → EReal) (n : Fin 1024) : EReal :=
  x n + ∑ k, gatedSum g p q r W k * Wo k n

/-- A token's row of an array kept by sequences. -/
def rowOf (a : Fin 4 → Fin 8192 → Fin 512 → EReal) (T : Fin 32768) (j : Fin 512) : EReal :=
  a ⟨T.val / 8192, by omega⟩ ⟨T.val % 8192, Nat.mod_lt _ (by omega)⟩ j

/-- A token's gates of the projected columns. -/
def gatesOf (z : Fin 32768 → Fin 7168 → EReal) (T : Fin 32768) (b : Fin 3) (n : Fin 1024) : EReal :=
  z T ⟨4096 + (b.val * 1024 + n.val), by omega⟩

/-- A sum against the head's indicator is the sum over the head's channels. -/
theorem sum_head (f : Fin 512 → EReal) (j : Fin 512) :
    (∑ k : Fin 512, f k * if k.val / 64 = j.val / 64 then (1 : EReal) else 0) = ∑ d, f (chan (headOf j) d) := by
  simp only [mul_ite, mul_one, mul_zero]
  rw [← Finset.sum_filter]
  symm
  refine Finset.sum_bij (fun d _ => chan (headOf j) d) (fun d _ => ?_) (fun d _ d' _ h => ?_) (fun k hk => ?_) (fun _ _ => rfl)
  · rw [Finset.mem_filter]
    exact ⟨Finset.mem_univ _, by simp only [chan, headOf]; omega⟩
  · have := congrArg Fin.val h
    simp only [chan] at this
    exact Fin.ext (by omega)
  · have hk' := (Finset.mem_filter.mp hk).2
    refine ⟨within k, Finset.mem_univ _, ?_⟩
    exact Fin.ext (by simp only [chan, headOf, within]; omega)

end Cert.Layer

end
-- ==== Proof.MergeBlocks.lean ====
/-
  The merge: a block's value, and the array the kernel leaves.
-/
module

public import proofs.«01_k».proof.Proof.MergeMath
public import proofs.«01_k».proof.Proof.Gen.Kernel4Ideal.Value
public import Idealize.ShloMosaic.Lib.Pointwise
public import Idealize.ShloMosaic.Lib.Pipeline.ValueKit
public import Idealize.ShloMosaic.Lib.Claim

@[expose] public section

set_option maxRecDepth 16384
set_option maxHeartbeats 400000

noncomputable section

namespace Cert.Kernel4Ideal.Merge

open Cert.Kernel4Ideal Cert.Kernel4Ideal.Gen Cert.Layer Idealize.ShloMosaic Idealize.ShloMosaic.TcCoe Idealize.SL.Sem
open Idealize.ShloMosaic.Pipeline (Dat)

/-- Division by 64 is the product with its inverse. -/
theorem div_width (s : EReal) : Ideal.div s (Ideal.ofBits .f32 0x42800000#32) = s * Ideal.ofBits .f32 0x3C800000#32 := by
  have h : Ideal.ofBits .f32 0x42800000#32 = ((64 : ℝ) : EReal) := by
    simp [Ideal.ofBits, Ideal.ieee]
    rw [← EReal.coe_mul]
    congr 1
    norm_num
  have h' : Ideal.ofBits .f32 0x3C800000#32 = ((1 / 64 : ℝ) : EReal) := by
    simp [Ideal.ofBits, Ideal.ieee]
    rw [← EReal.coe_mul]
    congr 1
    norm_num
  rw [h, h', Ideal.div_coe (by norm_num)]

theorem headOf_chan (h : Fin 8) (d : Fin 64) : headOf (chan h d) = h := Fin.ext (by simp only [chan, headOf]; omega)

section Pay

variable (B : Vec Ideal S512x512 .bf16) (hB : ∀ k j : Fin 512, B (ix2 k j) = if k.val / 64 = j.val / 64 then (1 : EReal) else 0)
  (y0 y1 b0 b1 : Vec Ideal S512x512 .bf16) (w b : Vec Ideal S1x512 .f32)

include hB in
theorem normed_apply (t j : Fin 512) : k0_pay2 B y0 y1 b0 b1 w b (ix2 t j) =
    groupNormed (fun j => y0 (ix2 t j) + y1 (ix2 t j)) (headOf j) (within j) * w (ix2 0 j) + b (ix2 0 j)
      + (b0 (ix2 t j) + b1 (ix2 t j)) := by
  pointwise [k0_pay2]
  simp only [hB, sum_head, headOf_chan]
  unfold groupNormed centred headMean
  simp only [chan_of, div_width]

variable (S : FVec Ideal S512x512 .f32) (g : Vec Ideal S512x512 .bf16) (g0 g1 g2 : Vec Ideal S512x1024 .bf16) (p r : Vec Ideal S512x512 .bf16)
  (W0 W1 W2 : Vec Ideal S1x512x1024 .bf16) (x : Vec Ideal S512x1024 .f32) (Wo : Vec Ideal S1024x1024 .bf16)

theorem gated_apply (t : Fin 512) (n : Fin 1024) : k0_pay3 S g g0 p W0 g1 W1 g2 r W2 (ix2 t n) =
    gatedSum (fun i n => ![g0, g1, g2] i (ix2 t n)) (fun k => p (ix2 t k)) (fun k => S (ix2 t k) * g (ix2 t k)) (fun k => r (ix2 t k))
      (fun i k n => ![W0, W1, W2] i (ix3 0 k n)) n := by
  pointwise [k0_pay3, gatedSum]

theorem merged_apply (G : FVec Ideal S512x1024 .bf16) (t : Fin 512) (n : Fin 1024) :
    k0_pay1 x G Wo (ix2 t n) = x (ix2 t n) + ∑ k : Fin 1024, G (ix2 t k) * Wo (ix2 k n) := by
  pointwise [k0_pay1]

end Pay

/-- The windows' places at the grid points. -/
theorem places : ∀ t : Fin cfg0.N,
    win0_0.index t = ![t.val, 0] ∧ win0_1.index t = ![t.val, 0] ∧ win0_2.index t = ![t.val, 0] ∧ win0_3.index t = ![t.val, 0] ∧
    win0_4.index t = ![t.val, 0] ∧ win0_5.index t = ![t.val, 0] ∧ win0_6.index t = ![t.val, 0] ∧ win0_7.index t = ![t.val, 0] ∧
    win0_8.index t = ![t.val, 4] ∧ win0_9.index t = ![t.val, 5] ∧ win0_10.index t = ![t.val, 6] ∧ win0_11.index t = ![0, 0, 0] ∧
    win0_12.index t = ![0, 0] ∧ win0_13.index t = ![0, 0] ∧ win0_14.index t = ![0, 0] ∧ win0_15.index t = ![0, 0] ∧
    win0_16.index t = ![t.val, 0] := (by decide +kernel : ∀ t : Fin grid0.N, _)

variable (m : (ℓ : Loc nD τ sig) → Buf (Elt Ideal) ℓ) (c : Dev nD)

theorem stream_apply (t : Fin cfg0.N) (r : Fin 512) (n : Fin 1024) (T : Fin 32768) (e : T.val = 512 * t.val + r.val) :
    (iblk m c 0 t : Vec Ideal S512x1024 .f32) (ix2 r n) = m ((c : Thread nD τ).loc main_arg0) (ix2 T n) := by
  blk_ext [iblk, V, places t]

/-- A block of an array of 512 columns kept by tokens. -/
theorem nbr_apply (t : Fin cfg0.N) (r : Fin 512) (j : Fin 512) (T : Fin 32768) (e : T.val = 512 * t.val + r.val) :
    (iblk m c 1 t : Vec Ideal S512x512 .bf16) (ix2 r j) = m ((c : Thread nD τ).loc main_arg2) (ix2 T j) := by
  blk_ext [iblk, V, places t]

theorem memory_apply (t : Fin cfg0.N) (r : Fin 512) (j : Fin 512) (T : Fin 32768) (e : T.val = 512 * t.val + r.val) :
    (iblk m c 7 t : Vec Ideal S512x512 .bf16) (ix2 r j) = m ((c : Thread nD τ).loc main_arg8) (ix2 T j) := by
  blk_ext [iblk, V, places t]

theorem forward_apply (t : Fin cfg0.N) (r : Fin 512) (j : Fin 512) (T : Fin 32768) (e : T.val = 512 * t.val + r.val) :
    (iblk m c 2 t : Vec Ideal S512x512 .bf16) (ix2 r j) = rowOf (fun s l j => m ((c : Thread nD τ).loc main_arg3) (ix3 s l j)) T j := by
  blk_simp [iblk]
  entry_read
  pointwise [rowOf]
  blk_ext [places t]

theorem backward_apply (t : Fin cfg0.N) (r : Fin 512) (j : Fin 512) (T : Fin 32768) (e : T.val = 512 * t.val + r.val) :
    (iblk m c 3 t : Vec Ideal S512x512 .bf16) (ix2 r j) = rowOf (fun s l j => m ((c : Thread nD τ).loc main_arg4) (ix3 s l j)) T j := by
  blk_simp [iblk]
  entry_read
  pointwise [rowOf]
  blk_ext [places t]

theorem bonus_forward_apply (t : Fin cfg0.N) (r : Fin 512) (j : Fin 512) (T : Fin 32768) (e : T.val = 512 * t.val + r.val) :
    (iblk m c 4 t : Vec Ideal S512x512 .bf16) (ix2 r j) = rowOf (fun s l j => m ((c : Thread nD τ).loc main_arg5) (ix3 s l j)) T j := by
  blk_simp [iblk]
  entry_read
  pointwise [rowOf]
  blk_ext [places t]

theorem bonus_backward_apply (t : Fin cfg0.N) (r : Fin 512) (j : Fin 512) (T : Fin 32768) (e : T.val = 512 * t.val + r.val) :
    (iblk m c 5 t : Vec Ideal S512x512 .bf16) (ix2 r j) = rowOf (fun s l j => m ((c : Thread nD τ).loc main_arg6) (ix3 s l j)) T j := by
  blk_simp [iblk]
  entry_read
  pointwise [rowOf]
  blk_ext [places t]

theorem gate_apply (t : Fin cfg0.N) (r : Fin 512) (j : Fin 512) (T : Fin 32768) (e : T.val = 512 * t.val + r.val) :
    (iblk m c 6 t : Vec Ideal S512x512 .bf16) (ix2 r j) = rowOf (fun s l j => m ((c : Thread nD τ).loc main_arg7) (ix3 s l j)) T j := by
  blk_simp [iblk]
  entry_read
  pointwise [rowOf]
  blk_ext [places t]

/-- The head of a lane, as the program computes it. -/
theorem head_word : ∀ k : Fin 512, IntOp.divsi ArithUnit.host (BitVec.ofNat 32 k.val) 64#32 = BitVec.ofNat 32 (k.val / 64) := by
  decide +kernel

theorem same_head : ∀ h h' : Fin 8, IntOp.cmpi CmpIPredicate.eq (BitVec.ofNat 32 h.val) (BitVec.ofNat 32 h'.val) =
    if h.val = h'.val then 1#1 else 0#1 := by
  decide +kernel

theorem ones_apply (t : Fin cfg0.N) (k j : Fin 512) :
    (iblk m c 15 t : Vec Ideal S512x512 .bf16) (ix2 k j) = if k.val / 64 = j.val / 64 then (1 : EReal) else 0 := by
  have e0 : ((((cfg0.win 15).blk t).view.emb (ix2 k j) 0)).val = k.val := by blk_simp [places t]
  have e1 : ((((cfg0.win 15).blk t).view.emb (ix2 k j) 1)).val = j.val := by blk_simp [places t]
  blk_simp [iblk]
  entry_read
  pointwise
  refine (congrArg₂ (fun a b => FloatOps.uitofp (F := Ideal) FTy.bf16 (IntOp.cmpi CmpIPredicate.eq
    (IntOp.divsi ArithUnit.host (BitVec.ofNat 32 a) 64#32) (IntOp.divsi ArithUnit.host (BitVec.ofNat 32 b) 64#32))) e0 e1).trans ?_
  beta_reduce
  rw [head_word k, head_word j, same_head ⟨k.val / 64, by omega⟩ ⟨j.val / 64, by omega⟩]
  split_ifs
  · show (((1#1 : BitVec 1).toNat : ℝ) : EReal) = 1
    simp
  · show (((0#1 : BitVec 1).toNat : ℝ) : EReal) = 0
    simp

theorem gate0_apply (t : Fin cfg0.N) (r : Fin 512) (n : Fin 1024) (T : Fin 32768) (e : T.val = 512 * t.val + r.val) :
    (iblk m c 8 t : Vec Ideal S512x1024 .bf16) (ix2 r n) = gatesOf (fun t n => m ((c : Thread nD τ).loc main_arg1) (ix2 t n)) T 0 n := by
  unfold gatesOf
  blk_ext [iblk, V, places t]

theorem gate1_apply (t : Fin cfg0.N) (r : Fin 512) (n : Fin 1024) (T : Fin 32768) (e : T.val = 512 * t.val + r.val) :
    (iblk m c 9 t : Vec Ideal S512x1024 .bf16) (ix2 r n) = gatesOf (fun t n => m ((c : Thread nD τ).loc main_arg1) (ix2 t n)) T 1 n := by
  unfold gatesOf
  blk_ext [iblk, V, places t]

theorem gate2_apply (t : Fin cfg0.N) (r : Fin 512) (n : Fin 1024) (T : Fin 32768) (e : T.val = 512 * t.val + r.val) :
    (iblk m c 10 t : Vec Ideal S512x1024 .bf16) (ix2 r n) = gatesOf (fun t n => m ((c : Thread nD τ).loc main_arg1) (ix2 t n)) T 2 n := by
  unfold gatesOf
  blk_ext [iblk, V, places t]

theorem gain_apply (t : Fin cfg0.N) (j : Fin 512) :
    (iblk m c 13 t : Vec Ideal S1x512 .f32) (ix2 0 j) = m ((c : Thread nD τ).loc main_arg11) (ix1 j) := by
  blk_simp [iblk]
  entry_read
  pointwise
  blk_ext [places t]

theorem bias_apply (t : Fin cfg0.N) (j : Fin 512) :
    (iblk m c 14 t : Vec Ideal S1x512 .f32) (ix2 0 j) = m ((c : Thread nD τ).loc main_arg12) (ix1 j) := by
  blk_simp [iblk]
  entry_read
  pointwise
  blk_ext [places t]

theorem branch_apply (t : Fin cfg0.N) (b : Fin 3) (k : Fin 512) (n : Fin 1024) :
    (iblk m c 11 t : Vec Ideal S3x512x1024 .bf16) (ix3 b k n) = m ((c : Thread nD τ).loc main_arg9) (ix3 b k n) := by
  blk_simp [iblk]
  entry_read
  pointwise
  blk_ext [places t]

theorem last_apply (t : Fin cfg0.N) (k n : Fin 1024) :
    (iblk m c 12 t : Vec Ideal S1024x1024 .bf16) (ix2 k n) = m ((c : Thread nD τ).loc main_arg10) (ix2 k n) := by
  blk_simp [iblk]
  entry_read
  pointwise
  blk_ext [places t]

theorem slab_apply (X : Vec Ideal S3x512x1024 .bf16) (k : Fin 512) (n : Fin 1024) :
    View.ld X r0_3 (ix3 0 k n) = X (ix3 0 k n) ∧ View.ld X r0_4 (ix3 0 k n) = X (ix3 1 k n) ∧ View.ld X r0_5 (ix3 0 k n) = X (ix3 2 k n) := by
  refine ⟨?_, ?_, ?_⟩ <;> exact View.ld_unit_apply_of _ _ _ _ _ _ (by intro a; fin_cases a <;> simp [ix3])

/-- What the kernel leaves: the stream with the merged branches added. -/
def result (i : S32768x1024.Idx) : EReal :=
  mergedAt (fun n => m ((c : Thread nD τ).loc main_arg0) (ix2 (i 0) n)) (gatesOf (fun t n => m ((c : Thread nD τ).loc main_arg1) (ix2 t n)) (i 0))
    (fun k => m ((c : Thread nD τ).loc main_arg2) (ix2 (i 0) k))
    (scanned (fun j => rowOf (fun s l j => m ((c : Thread nD τ).loc main_arg3) (ix3 s l j)) (i 0) j
        + rowOf (fun s l j => m ((c : Thread nD τ).loc main_arg4) (ix3 s l j)) (i 0) j)
      (fun j => m ((c : Thread nD τ).loc main_arg11) (ix1 j)) (fun j => m ((c : Thread nD τ).loc main_arg12) (ix1 j))
      (fun j => rowOf (fun s l j => m ((c : Thread nD τ).loc main_arg5) (ix3 s l j)) (i 0) j
        + rowOf (fun s l j => m ((c : Thread nD τ).loc main_arg6) (ix3 s l j)) (i 0) j)
      (rowOf (fun s l j => m ((c : Thread nD τ).loc main_arg7) (ix3 s l j)) (i 0)))
    (fun k => m ((c : Thread nD τ).loc main_arg8) (ix2 (i 0) k)) (fun b k n => m ((c : Thread nD τ).loc main_arg9) (ix3 b k n))
    (fun k n => m ((c : Thread nD τ).loc main_arg10) (ix2 k n)) (i 1)

theorem block (t : Fin cfg0.N) (r : Fin 512) (n : Fin 1024) (T : Fin 32768) (e : T.val = 512 * t.val + r.val) :
    (dats m 0 c).after 16 t (ix2 r n) = result m c (ix2 T n) := by
  rw [after0_16]
  frame_out
  refine (merged_apply _ _ _ r n).trans ?_
  unfold result mergedAt
  refine congrArg₂ (fun a b : EReal => a + b) (stream_apply m c t r n T e) (Finset.sum_congr rfl fun k _ => ?_)
  refine congrArg₂ (fun a b : EReal => a * b) ((gated_apply _ _ _ _ _ _ _ _ _ _ r k).trans ?_) (last_apply m c t k n)
  unfold gatedSum
  refine congrArg₂ (fun a b : EReal => a + b) (congrArg₂ (fun a b : EReal => a + b) ?_ ?_) ?_
  · refine congrArg₂ (fun a b : EReal => a * b) (congrArg _ (gate0_apply m c t r k T e)) (Finset.sum_congr rfl fun l _ => ?_)
    exact congrArg₂ (fun a b : EReal => a * b) (nbr_apply m c t r l T e) ((slab_apply _ l k).1.trans (branch_apply m c t 0 l k))
  · refine congrArg₂ (fun a b : EReal => a * b) (congrArg _ (gate1_apply m c t r k T e)) (Finset.sum_congr rfl fun l _ => ?_)
    refine congrArg₂ (fun a b : EReal => a * b) ?_ ((slab_apply _ l k).2.1.trans (branch_apply m c t 1 l k))
    unfold scanned
    refine congrArg₂ (fun a b : EReal => a * b) ((normed_apply _ (ones_apply m c t) _ _ _ _ _ _ r l).trans ?_) (gate_apply m c t r l T e)
    simp only [forward_apply m c t r _ T e, backward_apply m c t r _ T e, bonus_forward_apply m c t r _ T e,
      bonus_backward_apply m c t r _ T e, gain_apply, bias_apply]
    rfl
  · refine congrArg₂ (fun a b : EReal => a * b) (congrArg _ (gate2_apply m c t r k T e)) (Finset.sum_congr rfl fun l _ => ?_)
    exact congrArg₂ (fun a b : EReal => a * b) (memory_apply m c t r l T e) ((slab_apply _ l k).2.2.trans (branch_apply m c t 2 l k))

theorem final : (dats m 0 c).arrAt 16 cfg0.N = result m c := by
  refine (dats m 0 c).arrAt_eq_of_covers 16 _ (by decide +kernel) fun t _ y => ?_
  have e0 : (((cfg0.win 16).blk t).view.emb y 0).val = 512 * t.val + (y 0).val := by blk_simp [places t]; omega
  have e1 : ((cfg0.win 16).blk t).view.emb y 1 = y 1 := Fin.ext (by blk_simp [places t])
  have ey : y = ix2 (y 0) (y 1) := funext (Fin.forall_fin_two.mpr ⟨rfl, rfl⟩)
  have ez : ((cfg0.win 16).blk t).view.emb y = ix2 (((cfg0.win 16).blk t).view.emb y 0) (y 1) :=
    funext (Fin.forall_fin_two.mpr ⟨rfl, e1⟩)
  blk_simp
  exact (congrArg _ ey).trans ((block m c t (y 0) (y 1) _ e0).trans (congrArg _ ez.symm))

end Cert.Kernel4Ideal.Merge

end
-- ==== Proof.MergeRef.lean ====
/-
  The merge of the reference.
-/
module

public import proofs.«01_k».proof.Proof.MergeMath
public import proofs.«01_k».proof.Proof.Gen.Reference4Ideal.Read
public import Idealize.ShloMosaic.Lib.Pointwise
public import Idealize.ShloMosaic.Lib.Pipeline.ValueKit

@[expose] public section

set_option maxRecDepth 16384
set_option maxHeartbeats 400000

noncomputable section

namespace Cert.Reference4Ideal.Read

open Cert.Reference4Ideal Cert.Reference4Ideal.Gen Cert.Layer Idealize.ShloMosaic

variable (x : FVec Ideal S32768x1024 .f32) (z : FVec Ideal S32768x7168 .bf16) (p r : FVec Ideal S32768x512 .bf16)
  (y0 y1 b0 b1 gt : FVec Ideal S4x8192x512 .bf16) (W : FVec Ideal S3x512x1024 .f32) (Wo : FVec Ideal S1024x1024 .f32)
  (lw lb : FVec Ideal S512 .f32)

/-- The two directions' sum at a token. -/
abbrev both (a b : FVec Ideal S4x8192x512 .bf16) (T : Fin 32768) (j : Fin 512) : EReal :=
  rowOf (fun s l j => a (ix3 s l j)) T j + rowOf (fun s l j => b (ix3 s l j)) T j

theorem heads_apply (T : Fin 32768) (h : Fin 8) (d : Fin 64) :
    val_main_v5 (F := Ideal) y0 y1 (ix3 T h d) = both y0 y1 T (chan h d) := by
  pointwise [val_main_v5, val_main_v4, val_main_v3, val_main_v2, val_main_v1, val_main_v0, rowOf, chan]
  rfl

theorem mean_apply (T : Fin 32768) (h : Fin 8) :
    val_main_v9 (F := Ideal) y0 y1 (ix3 T h 0) = headMean (both y0 y1 T) h := by
  pointwise [val_main_v9, val_main_v8, val_main_cst_0, val_main_v7, val_main_v6, val_main_cst, headMean]
  simp only [heads_apply]

theorem centred_apply (T : Fin 32768) (h : Fin 8) (d : Fin 64) :
    val_main_v11 (F := Ideal) y0 y1 (ix3 T h d) = centred (both y0 y1 T) h d := by
  pointwise [val_main_v11, val_main_v10, centred]
  rw [heads_apply, mean_apply]

theorem normed_apply (T : Fin 32768) (h : Fin 8) (d : Fin 64) :
    val_main_v23 (F := Ideal) y0 y1 (ix3 T h d) = groupNormed (both y0 y1 T) h d := by
  pointwise [val_main_v23, val_main_v22, val_main_v21, val_main_v20, val_main_v19, val_main_cst_3, val_main_v18, val_main_v17,
    val_main_v16, val_main_v15, val_main_cst_2, val_main_v14, val_main_v13, val_main_cst_1, val_main_v12, groupNormed]
  simp only [centred_apply, heads_apply, mean_apply]
  rfl

theorem scanned_apply (T : Fin 32768) (j : Fin 512) :
    val_main_v39 (F := Ideal) y0 y1 b0 b1 gt lw lb (ix2 T j) =
      scanned (both y0 y1 T) (fun j => lw (ix1 j)) (fun j => lb (ix1 j)) (both b0 b1 T) (rowOf (fun s l j => gt (ix3 s l j)) T) j := by
  pointwise [val_main_v39, val_main_v38, val_main_v37, val_main_v36, val_main_v35, val_main_v34, val_main_v33, val_main_v32, val_main_v31,
    val_main_v30, val_main_v29, val_main_v28, val_main_v27, val_main_v26, val_main_v25, val_main_v24, scanned, rowOf]
  rw [normed_apply]
  rfl

theorem gates_apply (T : Fin 32768) (b : Fin 3) (n : Fin 1024) :
    val_main_v48 (F := Ideal) z (ix3 T b n) = Ideal.logistic (gatesOf (fun t n => z (ix2 t n)) T b n) := by
  pointwise [val_main_v48, val_main_v47, val_main_v46, val_main_cst_5, val_main_v45, val_main_v44, val_main_cst_4, val_main_v43,
    val_main_v42, val_main_v41, val_main_v40, gatesOf]
  unfold Ideal.logistic
  rfl

theorem gatedSum_apply (T : Fin 32768) (n : Fin 1024) :
    val_main_v70 (F := Ideal) z p y0 y1 b0 b1 gt r W lw lb (ix2 T n) =
      gatedSum (gatesOf (fun t n => z (ix2 t n)) T) (fun k => p (ix2 T k))
        (scanned (both y0 y1 T) (fun j => lw (ix1 j)) (fun j => lb (ix1 j)) (both b0 b1 T) (rowOf (fun s l j => gt (ix3 s l j)) T))
        (fun k => r (ix2 T k)) (fun b k n => W (ix3 b k n)) n := by
  pointwise [val_main_v70, val_main_v69, val_main_v68, val_main_v67, val_main_v66, val_main_v65, val_main_v64, val_main_v63,
    val_main_v62, val_main_v61, val_main_v60, val_main_v59, val_main_v58, val_main_v57, val_main_v56, val_main_v55, val_main_v54,
    val_main_v53, val_main_v52, val_main_v51, val_main_v50, val_main_v49, gatedSum]
  simp only [gates_apply, scanned_apply]

theorem merged_apply (T : Fin 32768) (n : Fin 1024) :
    val_main_v72 (F := Ideal) x z p y0 y1 b0 b1 gt r W Wo lw lb (ix2 T n) =
      mergedAt (fun n => x (ix2 T n)) (gatesOf (fun t n => z (ix2 t n)) T) (fun k => p (ix2 T k))
        (scanned (both y0 y1 T) (fun j => lw (ix1 j)) (fun j => lb (ix1 j)) (both b0 b1 T) (rowOf (fun s l j => gt (ix3 s l j)) T))
        (fun k => r (ix2 T k)) (fun b k n => W (ix3 b k n)) (fun k n => Wo (ix2 k n)) n := by
  pointwise [val_main_v72, val_main_v71, mergedAt]
  simp only [gatedSum_apply]

theorem result_apply (i : S32768x1024.Idx) :
    val_main_v72 (F := Ideal) x z p y0 y1 b0 b1 gt r W Wo lw lb i =
      mergedAt (fun n => x (ix2 (i 0) n)) (gatesOf (fun t n => z (ix2 t n)) (i 0)) (fun k => p (ix2 (i 0) k))
        (scanned (both y0 y1 (i 0)) (fun j => lw (ix1 j)) (fun j => lb (ix1 j)) (both b0 b1 (i 0)) (rowOf (fun s l j => gt (ix3 s l j)) (i 0)))
        (fun k => r (ix2 (i 0) k)) (fun b k n => W (ix3 b k n)) (fun k n => Wo (ix2 k n)) (i 1) := by
  have e : i = ix2 (i 0) (i 1) := funext (Fin.forall_fin_two.mpr ⟨rfl, rfl⟩)
  exact (congrArg _ e).trans (merged_apply x z p r y0 y1 b0 b1 gt W Wo lw lb (i 0) (i 1))

end Cert.Reference4Ideal.Read

end
-- ==== Proof.MemMath.lean ====
/-
  The memory cross-attention's arithmetic.
-/
module

public import proofs.«01_k».proof.Proof.Norm
public import Idealize.ShloMosaic.Lib.Pointwise

@[expose] public section

set_option maxRecDepth 16384
set_option maxHeartbeats 400000

noncomputable section

namespace Cert.Layer

open Idealize.ShloMosaic

/-- The values weighted by the scores' exponentials (the greatest score taken off first), over the exponentials' sum. -/
def attended (s v : Fin 256 → EReal) : EReal :=
  Ideal.div (∑ n, Ideal.exp (s n - Finset.univ.fold max ⊥ s) * v n) (∑ n, Ideal.exp (s n - Finset.univ.fold max ⊥ s))

/-- A query's attention over the memory's keys and values. -/
def headAt (q : Fin 128 → EReal) (k : Fin 256 → Fin 128 → EReal) (v : Fin 256 → EReal) : EReal :=
  attended (fun n => (∑ d, q d * k n d) * Ideal.ofBits .f32 0x3DB504F3#32) v

theorem headAt_congr {q q' : Fin 128 → EReal} {k k' : Fin 256 → Fin 128 → EReal} {v v' : Fin 256 → EReal} (hq : ∀ d, q d = q' d)
    (hk : ∀ n d, k n d = k' n d) (hv : ∀ n, v n = v' n) : headAt q k v = headAt q' k' v' := by
  rw [funext hq, funext fun n => funext (hk n), funext hv]

/-- The memory's keys and values: its tokens normed, against the weight's columns. -/
def memoryAt (mem : Fin 4 → Fin 256 → Fin 1024 → EReal) (g : Fin 1024 → EReal) (w : Fin 1024 → Fin 1024 → EReal)
    (b : Fin 4) (n : Fin 256) (j : Fin 1024) : EReal :=
  ∑ k, normed (mem b n) g k * w k j

/-- A token's attention for head `h`, at channel `l`: the queries begin at column 3584, the memory's values at 512. -/
def crossAt (z : Fin 32768 → Fin 7168 → EReal) (kv : Fin 4 → Fin 256 → Fin 1024 → EReal) (b : Fin 4) (t : Fin 8192) (h : Fin 4)
    (l : Fin 128) : EReal :=
  headAt (fun d => z ⟨8192 * b.val + t.val, by omega⟩ ⟨3584 + (128 * h.val + d.val), by omega⟩)
    (fun n d => kv b n ⟨128 * h.val + d.val, by omega⟩) (fun n => kv b n ⟨512 + (128 * h.val + l.val), by omega⟩)

theorem lowest_word : Ideal.ofBits .f32 0xFF800000#32 = ⊥ := by
  simp [Ideal.ofBits, Ideal.ieee]

theorem zero_word : Ideal.ofBits .f32 0x00000000#32 = 0 := by
  simp [Ideal.ofBits, Ideal.ieee]

/-- Four blocks of 128 channels side by side, read at a channel of block `j`. -/
theorem four_blocks {α : Type} (f : Fin 4 → Fin 128 → α) (j : Fin 4) (m : Fin 128) :
    (if h : 128 * j.val + m.val < 128 then f 0 ⟨128 * j.val + m.val, h⟩
      else if h : 128 * j.val + m.val - 128 < 128 then f 1 ⟨128 * j.val + m.val - 128, h⟩
      else if h : 128 * j.val + m.val - 128 - 128 < 128 then f 2 ⟨128 * j.val + m.val - 128 - 128, h⟩
      else f 3 ⟨128 * j.val + m.val - 128 - 128 - 128, by omega⟩) = f j m := by
  obtain ⟨j, hj⟩ := j
  obtain ⟨m, hm⟩ := m
  have e : ∀ (i : Fin 4) (n : ℕ) (hn : n < 128), i.val = j → n = m → f i ⟨n, hn⟩ = f ⟨j, hj⟩ ⟨m, hm⟩ := by
    rintro ⟨i, hi⟩ n hn rfl rfl; rfl
  split
  · exact e _ _ _ (by simp at *; omega) (by simp at *; omega)
  · split
    · exact e _ _ _ (by simp at *; omega) (by simp at *; omega)
    · split
      · exact e _ _ _ (by simp at *; omega) (by simp at *; omega)
      · exact e _ _ _ (by simp at *; omega) (by simp at *; omega)

end Cert.Layer

end
-- ==== Proof.MemOut.lean ====
/-
  The memory cross-attention: what its two bodies compute.
-/
module

public import proofs.«01_k».proof.Proof.MemMath
public import proofs.«01_k».proof.Proof.Gen.Kernel5Ideal.Frame
public import Idealize.ShloMosaic.Lib.Pipeline.ValueKit
public import Idealize.ShloMosaic.Lib.Claim

@[expose] public section

set_option maxRecDepth 16384
set_option maxHeartbeats 400000

noncomputable section

namespace Cert.Kernel5Ideal.Mem

open Cert.Kernel5Ideal Cert.Kernel5Ideal.Gen Cert.Layer Idealize.ShloMosaic Idealize.ShloMosaic.TcCoe Idealize.SL.Sem

theorem memory_apply (x : Vec Ideal S1x256x1024 .f32) (g : Vec Ideal S1x1024 .f32) (w : Vec Ideal S1024x1024 .bf16)
    (n : Fin 256) (j : Fin 1024) :
    k0_pay1 x g w (ix3 0 n j) = ∑ k : Fin 1024, normed (fun k => x (ix3 0 n k)) (fun k => g (ix2 0 k)) k * w (ix2 k j) := by
  pointwise [k0_pay1, normed, rowScale]

/-- One head's attention, of the blocks the body reads. -/
def head (q : Vec Ideal S1x1024x128 .bf16) (k v : Vec Ideal S1x256x128 .bf16) (r : Fin 1024) (l : Fin 128) : EReal :=
  headAt (fun d => q (ix3 0 r d)) (fun n d => k (ix3 0 n d)) (fun n => v (ix3 0 n l))

variable (q : Vec Ideal S1x1024x128 .bf16) (k v : Vec Ideal S1x256x128 .bf16)

theorem first_apply (r : Fin 1024) (l : Fin 128) : k1_pay2 q k v (ix2 r l) = head q k v r l := by
  pointwise [k1_pay2, head, headAt, attended]
  rw [lowest_word]

theorem second_apply (r : Fin 1024) (l : Fin 128) : k1_pay5 (k1_pay3 q k) (k1_pay4 q k) v (ix2 r l) = head q k v r l := by
  pointwise [k1_pay5, k1_pay4, k1_pay3, head, headAt, attended]
  rw [lowest_word]

theorem third_apply (r : Fin 1024) (l : Fin 128) : k1_pay6 q k v (ix2 r l) = head q k v r l := by
  pointwise [k1_pay6, head, headAt, attended]
  rw [lowest_word]

/-- The last head, whose scores are computed before the four are put side by side. -/
def last (s : FVec Ideal S1024x256 .f32) (v : Vec Ideal S1x256x128 .bf16) (r : Fin 1024) (l : Fin 128) : EReal :=
  attended (fun n => s (ix2 r n)) (fun n => v (ix3 0 n l))

theorem last_apply (r : Fin 1024) (l : Fin 128) : last (k1_pay7 q k) v r l = head q k v r l := by
  unfold last head headAt
  refine congrArg (fun s => attended s _) (funext fun n => ?_)
  pointwise [k1_pay7]

/-- The four heads of a body. -/
def heads (a b c : FVec Ideal S1024x128 .f32) (s : FVec Ideal S1024x256 .f32) (v : Vec Ideal S1x256x128 .bf16) (r : Fin 1024)
    (h : Fin 4) (l : Fin 128) : EReal :=
  match h with
  | 0 => a (ix2 r l)
  | 1 => b (ix2 r l)
  | 2 => c (ix2 r l)
  | 3 => last s v r l

theorem row_apply (a b c : FVec Ideal S1024x128 .f32) (s : FVec Ideal S1024x256 .f32) (v : Vec Ideal S1x256x128 .bf16) (r : Fin 1024)
    (h : Fin 4) (l : Fin 128) : k1_pay1 a b c s v (ix3 0 r ⟨128 * h.val + l.val, by omega⟩) = heads a b c s v r h l := by
  refine Eq.trans ?_ (four_blocks (heads a b c s v r) h l)
  pointwise [k1_pay1, heads, last, attended]
  rw [lowest_word]

end Cert.Kernel5Ideal.Mem

end
-- ==== Proof.MemRun.lean ====
/-
  The memory cross-attention: the run of its two calls, with the array the second one leaves.
-/
module

public import proofs.«01_k».proof.Proof.Gen.Kernel5Ideal.Frame
public import Idealize.ShloMosaic.Lib.Pointwise
public import Idealize.ShloMosaic.Lib.Claim

@[expose] public section

set_option maxRecDepth 16384
set_option maxHeartbeats 400000

noncomputable section

namespace Cert.Kernel5Ideal.Mem

open Cert.Kernel5Ideal Cert.Kernel5Ideal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ) (ρ : Dev nD → PrngReg)

/-- The resources that the run is told in. -/
abbrev Res := MT nD τ sig Unit (Elt Ideal) ℕ (UR sig nD τ) ℕ

/-- What device `c` holds when both calls are done. -/
def EndsAs (c : Dev nD) (M : (ℓ : Loc nD τ sig) → Buf (Elt Ideal) ℓ) : Prop :=
  ∀ b ∈ Pipeline.ucRefs τ sig, M (((c : Thread nD τ)).1, b) = W4 m ρ c b

set_option backward.isDefEq.respectTransparency.types false in
/-- Both calls run, and every array ends with the contents that the second one leaves. -/
theorem run_ends : θ_run defs (onTc (τ := τ) (main (F := Ideal))) ⟨m, fun _ => 0, ρ⟩ (fun r => ∀ c : Dev nD, EndsAs m ρ c r.2.mem) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp Res)
            ⊢ BI.own (emb₁ (initOf (Pipeline.cells cfgs cellOf_inj) (Pipeline.launchToks cfgs cellOf_inj))) from .rfl)
        iexact Hu
      iapply (show (BI.emp : sProp Res) ⊢ bigSep Finset.univ (fun _ : Dev nD => (BI.emp : sProp Res)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => EndsAs m ρ c s.mem)
    (hfin := fun c s' => by
      iintro ⟨⟨Hh, -⟩, HSI⟩
      unfold StableHlo.held EndsAs
      imodintro
      iapply (pointsTo_read_all (Pipeline.ucRefs τ sig) (fun b => (((c : Thread nD τ)).1, b)) (W4 m ρ c) s')
      isplitl [Hh] <;> iassumption)
    (hQ := fun _ h _ => h)

/-- The result is the second call's array, and the arguments are as they were. -/
theorem run : θ_run defs (onTc (τ := τ) (main (F := Ideal))) ⟨m, fun _ => 0, ρ⟩ (fun r => ∀ c : Dev nD,
      r.2.mem ((c.tc : Thread nD τ).loc main_v4) = (dat1 (V3 m ρ) c).arrAt 2 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run _ _ _).mono (fun _ h c =>
    ⟨(h c _ (mem_uc main_v4 (by decide))).trans (W4_arr m ρ c 2),
     (h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c)⟩) (run_ends m ρ)

end Cert.Kernel5Ideal.Mem

end
-- ==== Proof.MemBlocks.lean ====
/-
  The memory cross-attention: the arrays that its two calls leave.
-/
module

public import proofs.«01_k».proof.Proof.MemOut
public import proofs.«01_k».proof.Proof.MemRun

@[expose] public section

set_option maxRecDepth 16384
set_option maxHeartbeats 400000

noncomputable section

namespace Cert.Kernel5Ideal.Mem

open Cert.Kernel5Ideal Cert.Kernel5Ideal.Gen Cert.Layer Idealize.ShloMosaic Idealize.ShloMosaic.TcCoe Idealize.SL.Sem
open Idealize.ShloMosaic.Pipeline (Dat)

/-- The windows' places at the first call's grid points. -/
theorem places0 : ∀ t : Fin cfg0.N,
    win0_0.index t = ![t.val, 0, 0] ∧ win0_1.index t = ![0, 0] ∧ win0_2.index t = ![0, 0] ∧ win0_3.index t = ![t.val, 0, 0] :=
  (by decide +kernel : ∀ t : Fin grid0.N, _)

/-- The windows' places at the second call's grid points. -/
theorem places1 : ∀ t : Fin cfg1.N,
    win1_0.index t = ![t.val / 8, t.val % 8, 7] ∧ win1_1.index t = ![t.val / 8, 0, 0] ∧ win1_2.index t = ![t.val / 8, t.val % 8, 0] :=
  (by decide +kernel : ∀ t : Fin grid1.N, _)

variable (m : (ℓ : Loc nD τ sig) → Buf (Elt Ideal) ℓ) (ρ : Dev nD → PrngReg) (c : Dev nD)

theorem entry_memory : V1 m ρ c main_arg1 = m ((c : Thread nD τ).loc main_arg1) := W1_args m ρ c _ (by simp)

theorem entry_gain : V1 m ρ c main_v0 = broadcastInDim S1x1024 ![1] bcast_S1024_S1x1024_1 (m ((c : Thread nD τ).loc main_arg2)) := by
  show StableHlo.after hostOps0 (W0 m ρ c) (Proc.devRef .tc main_v0) = _
  simp only [hostOps0, StableHlo.after_cons, StableHlo.after_nil]
  after_results_simp

theorem entry_weights : V1 m ρ c main_v1 =
    (truncf .bf16 (m ((c : Thread nD τ).loc main_arg3) : FVec Ideal S1024x1024 .f32) bitsLt_bf16_f32 : FVec Ideal S1024x1024 .bf16) := by
  show StableHlo.after hostOps0 (W0 m ρ c) (Proc.devRef .tc main_v1) = _
  simp only [hostOps0, StableHlo.after_cons, StableHlo.after_nil]
  after_results_simp

theorem tokens_apply (t : Fin cfg0.N) (n : Fin 256) (k : Fin 1024) (b : Fin 4) (e : b.val = t.val) :
    (iblk0 (V1 m ρ) c 0 t : Vec Ideal S1x256x1024 .f32) (ix3 0 n k) = m ((c : Thread nD τ).loc main_arg1) (ix3 b n k) := by
  rw [← entry_memory m ρ]
  blk_ext [iblk0, places0 t]

theorem gain_apply (t : Fin cfg0.N) (k : Fin 1024) :
    (iblk0 (V1 m ρ) c 1 t : Vec Ideal S1x1024 .f32) (ix2 0 k) = m ((c : Thread nD τ).loc main_arg2) (ix1 k) := by
  have e : V1 m ρ c main_v0 (ix2 0 k) = m ((c : Thread nD τ).loc main_arg2) (ix1 k) := by
    rw [entry_gain]
    pointwise
  rw [← e]
  blk_ext [iblk0, places0 t]

theorem weights_apply (t : Fin cfg0.N) (k j : Fin 1024) :
    (iblk0 (V1 m ρ) c 2 t : Vec Ideal S1024x1024 .bf16) (ix2 k j) = m ((c : Thread nD τ).loc main_arg3) (ix2 k j) := by
  have e : V1 m ρ c main_v1 (ix2 k j) = m ((c : Thread nD τ).loc main_arg3) (ix2 k j) := by
    rw [entry_weights]
    rfl
  rw [← e]
  blk_ext [iblk0, places0 t]

/-- The memory's keys and values, of the arguments. -/
abbrev memory : Fin 4 → Fin 256 → Fin 1024 → EReal :=
  memoryAt (fun b n k => m ((c : Thread nD τ).loc main_arg1) (ix3 b n k)) (fun k => m ((c : Thread nD τ).loc main_arg2) (ix1 k))
    (fun k j => m ((c : Thread nD τ).loc main_arg3) (ix2 k j))

/-- What the first call leaves. -/
def stored (i : S4x256x1024.Idx) : EReal := memory m c (i 0) (i 1) (i 2)

theorem block0 (t : Fin cfg0.N) (n : Fin 256) (j : Fin 1024) (b : Fin 4) (e : b.val = t.val) :
    (dat0 (V1 m ρ) c).after 3 t (ix3 0 n j) = memory m c b n j := by
  rw [after0_3]
  frame_out
  refine (memory_apply _ _ _ n j).trans ?_
  unfold memory memoryAt
  refine Finset.sum_congr rfl fun k _ => ?_
  exact congrArg₂ (fun h w : EReal => h * w)
    (congrArg₂ (fun v g => normed v g k) (funext fun j => tokens_apply m ρ c t n j b e) (funext fun j => gain_apply m ρ c t j))
    (weights_apply m ρ c t k j)

theorem final0 : (dat0 (V1 m ρ) c).arrAt 3 cfg0.N = stored m c := by
  refine (dat0 (V1 m ρ) c).arrAt_eq_of_covers 3 _ (by decide +kernel) fun t _ y => ?_
  have e0 : (((cfg0.win 3).blk t).view.emb y 0).val = t.val := by
    have h : (y 0).val < 1 := (y 0).isLt
    blk_simp [places0 t]
  have e1 : ((cfg0.win 3).blk t).view.emb y 1 = y 1 := Fin.ext (by blk_simp [places0 t])
  have e2 : ((cfg0.win 3).blk t).view.emb y 2 = y 2 := Fin.ext (by blk_simp [places0 t])
  have ey : y = ix3 0 (y 1) (y 2) := funext (Fin.forall_fin_succ.mpr ⟨Subsingleton.elim (α := Fin 1) _ _, Fin.forall_fin_two.mpr ⟨rfl, rfl⟩⟩)
  blk_simp
  refine (congrArg _ ey).trans ((block0 m ρ c t (y 1) (y 2) _ e0).trans ?_)
  unfold stored
  exact (congrArg₂ (memory m c _) e1 e2).symm

theorem entry_stored : V3 m ρ c main_v2 = stored m c :=
  (W3_of m ρ c main_v2 (by decide)).trans ((W2_arr m ρ c 3).trans (final0 m ρ c))

theorem entry_queries : V3 m ρ c main_v3 = shapeCast S4x8192x7168 (m ((c : Thread nD τ).loc main_arg0)) shapeCasts_S32768x7168_S4x8192x7168 := by
  have e : W2 m ρ c (Proc.devRef .tc main_arg0) = m ((c : Thread nD τ).loc main_arg0) := W2_args m ρ c _ (by simp)
  rw [← e]
  show StableHlo.after hostOps1 (W2 m ρ c) (Proc.devRef .tc main_v3) = _
  simp only [hostOps1, StableHlo.after_cons, StableHlo.after_nil]
  after_results_simp
  rfl

theorem queries_cast (Z : FVec Ideal S32768x7168 .bf16) (b : Fin 4) (l : Fin 8192) (T : Fin 32768) (n : Fin 7168)
    (e : T.val = 8192 * b.val + l.val) :
    shapeCast S4x8192x7168 Z shapeCasts_S32768x7168_S4x8192x7168 (ix3 b l n) = Z (ix2 T n) := by
  refine shapeCast_apply Z shapeCasts_S32768x7168_S4x8192x7168 _ _ ?_
  rewrite [Shape.rowMajor_val_two, Shape.rowMajor_val_three]
  show T.val * 7168 + n.val = (b.val * 8192 + l.val) * 7168 + n.val
  omega

theorem queries_apply (t : Fin cfg1.N) (r : Fin 1024) (d : Fin 512) (T : Fin 32768) (n : Fin 7168)
    (eT : T.val = 1024 * t.val + r.val) (en : n.val = 3584 + d.val) :
    (iblk1 (V3 m ρ) c 0 t : Vec Ideal S1x1024x512 .bf16) (ix3 0 r d) = m ((c : Thread nD τ).loc main_arg0) (ix2 T n) := by
  have ht : t.val < 32 := t.isLt
  have e : V3 m ρ c main_v3 (ix3 ⟨t.val / 8, by omega⟩ ⟨1024 * (t.val % 8) + r.val, by omega⟩ n) = m ((c : Thread nD τ).loc main_arg0) (ix2 T n) := by
    rw [entry_queries]
    exact queries_cast _ _ _ _ _ (by simp only; omega)
  rw [← e]
  blk_ext [iblk1, places1 t]

theorem stored_apply (t : Fin cfg1.N) (n : Fin 256) (j : Fin 1024) (b : Fin 4) (e : b.val = t.val / 8) :
    (iblk1 (V3 m ρ) c 1 t : Vec Ideal S1x256x1024 .bf16) (ix3 0 n j) = memory m c b n j := by
  have h : V3 m ρ c main_v2 (ix3 b n j) = memory m c b n j := congrFun (entry_stored m ρ c) _
  rw [← h]
  blk_ext [iblk1, places1 t]

/-- What the second call leaves. -/
def result (i : S4x8192x512.Idx) : EReal :=
  crossAt (fun t n => m ((c : Thread nD τ).loc main_arg0) (ix2 t n)) (memory m c) (i 0) (i 1)
    ⟨(i 2).val / 128, by have h : (i 2).val < 512 := (i 2).isLt; omega⟩ ⟨(i 2).val % 128, Nat.mod_lt _ (by norm_num)⟩

/-- The body reads head `h` at channel 128 h of the queries and keys and the values at 512 on. -/
theorem parts_apply (X : Vec Ideal S1x1024x512 .bf16) (Y : Vec Ideal S1x256x1024 .bf16) (r : Fin 1024) (h : Fin 4) (l : Fin 128) :
    heads (k1_pay2 (View.ld X r1_0) (View.ld Y r1_1) (View.ld Y r1_2))
      (k1_pay5 (k1_pay3 (View.ld X r1_3) (View.ld Y r1_4)) (k1_pay4 (View.ld X r1_3) (View.ld Y r1_4)) (View.ld Y r1_5))
      (k1_pay6 (View.ld X r1_6) (View.ld Y r1_7) (View.ld Y r1_8)) (k1_pay7 (View.ld X r1_9) (View.ld Y r1_10)) (View.ld Y r1_11) r h l =
    headAt (fun d => X (ix3 0 r ⟨128 * h.val + d.val, by omega⟩)) (fun n d => Y (ix3 0 n ⟨128 * h.val + d.val, by omega⟩))
      (fun n => Y (ix3 0 n ⟨512 + (128 * h.val + l.val), by omega⟩)) := by
  match h with
  | 0 =>
    refine (first_apply _ _ _ r l).trans (headAt_congr (fun d => ?_) (fun n d => ?_) fun n => ?_) <;>
      exact View.ld_unit_apply_of _ _ _ _ _ _ (by intro a; fin_cases a <;> simp [ix3])
  | 1 =>
    refine (second_apply _ _ _ r l).trans (headAt_congr (fun d => ?_) (fun n d => ?_) fun n => ?_) <;>
      exact View.ld_unit_apply_of _ _ _ _ _ _ (by intro a; fin_cases a <;> simp [ix3] <;> omega)
  | 2 =>
    refine (third_apply _ _ _ r l).trans (headAt_congr (fun d => ?_) (fun n d => ?_) fun n => ?_) <;>
      exact View.ld_unit_apply_of _ _ _ _ _ _ (by intro a; fin_cases a <;> simp [ix3] <;> omega)
  | 3 =>
    refine (last_apply _ _ _ r l).trans (headAt_congr (fun d => ?_) (fun n d => ?_) fun n => ?_) <;>
      exact View.ld_unit_apply_of _ _ _ _ _ _ (by intro a; fin_cases a <;> simp [ix3] <;> omega)

theorem block1 (t : Fin cfg1.N) (r : Fin 1024) (h : Fin 4) (l : Fin 128) (b : Fin 4) (T : Fin 8192) (eb : b.val = t.val / 8)
    (eT : T.val = 1024 * (t.val % 8) + r.val) :
    (dat1 (V3 m ρ) c).after 2 t (ix3 0 r ⟨128 * h.val + l.val, by omega⟩) =
      crossAt (fun t n => m ((c : Thread nD τ).loc main_arg0) (ix2 t n)) (memory m c) b T h l := by
  rw [after1_2]
  frame_out
  refine (row_apply _ _ _ _ _ r h l).trans ((parts_apply _ _ r h l).trans ?_)
  unfold crossAt
  exact headAt_congr
    (fun d => queries_apply m ρ c t r ⟨128 * h.val + d.val, by omega⟩ ⟨8192 * b.val + T.val, by omega⟩
      ⟨3584 + (128 * h.val + d.val), by omega⟩ (by simp only; omega) rfl)
    (fun n d => stored_apply m ρ c t n _ b eb) (fun n => stored_apply m ρ c t n _ b eb)

theorem final1 : (dat1 (V3 m ρ) c).arrAt 2 cfg1.N = result m c := by
  refine (dat1 (V3 m ρ) c).arrAt_eq_of_covers 2 _ (by decide +kernel) fun t _ y => ?_
  have h0 : (y 0).val < 1 := (y 0).isLt
  have h2 : (y 2).val < 512 := (y 2).isLt
  have e0 : (((cfg1.win 2).blk t).view.emb y 0).val = t.val / 8 := by blk_simp [places1 t]
  have e1 : (((cfg1.win 2).blk t).view.emb y 1).val = 1024 * (t.val % 8) + (y 1).val := by blk_simp [places1 t]; omega
  have e2 : (((cfg1.win 2).blk t).view.emb y 2).val = (y 2).val := by blk_simp [places1 t]
  have ey : y = ix3 0 (y 1) ⟨128 * ((y 2).val / 128) + (y 2).val % 128, by omega⟩ := funext (Fin.forall_fin_succ.mpr
    ⟨Subsingleton.elim (α := Fin 1) _ _, Fin.forall_fin_two.mpr ⟨rfl, Fin.ext (Nat.div_add_mod _ _).symm⟩⟩)
  blk_simp
  refine (congrArg _ ey).trans ((block1 m ρ c t (y 1) ⟨(y 2).val / 128, by omega⟩ ⟨(y 2).val % 128, Nat.mod_lt _ (by norm_num)⟩ _ _ e0 e1).trans ?_)
  unfold result
  congr 1 <;> exact Fin.ext (by simp only; rw [e2])

end Cert.Kernel5Ideal.Mem

end
-- ==== Proof.MemRef.lean ====
/-
  The memory cross-attention of the reference.
-/
module

public import proofs.«01_k».proof.Proof.MemMath
public import proofs.«01_k».proof.Proof.Gen.Reference5Ideal.Read
public import Idealize.ShloMosaic.Lib.Pipeline.ValueKit

@[expose] public section

set_option maxRecDepth 16384
set_option maxHeartbeats 400000

noncomputable section

namespace Cert.Reference5Ideal.Read

open Cert.Reference5Ideal Cert.Reference5Ideal.Gen Cert.Layer Idealize.ShloMosaic

variable (z : FVec Ideal S32768x7168 .bf16) (x : FVec Ideal S4x256x1024 .f32) (g : FVec Ideal S1024 .f32) (w : FVec Ideal S1024x1024 .f32)

/-- The memory's keys and values, of the arguments. -/
abbrev memory : Fin 4 → Fin 256 → Fin 1024 → EReal :=
  memoryAt (fun b n k => x (ix3 b n k)) (fun k => g (ix1 k)) (fun k j => w (ix2 k j))

theorem memory_apply (b : Fin 4) (n : Fin 256) (j : Fin 1024) : val_main_v13 (F := Ideal) x g w (ix3 b n j) = memory x g w b n j := by
  pointwise [val_main_v13, val_main_v12, val_main_v11, val_main_v10, val_main_v9, val_main_v8, val_main_v7, val_main_v6, val_main_v5,
    val_main_v4, val_main_v3, val_main_v2, val_main_v1, val_main_v0, val_main_cst, val_main_cst_0, val_main_cst_1, memoryAt, normed, rowScale]

theorem query_apply (b : Fin 4) (t : Fin 8192) (h : Fin 4) (d : Fin 128) : val_main_v16 (F := Ideal) z (ix4 b t h d) =
    z (ix2 ⟨8192 * b.val + t.val, by omega⟩ ⟨3584 + (128 * h.val + d.val), by omega⟩) := by
  pointwise [val_main_v16, val_main_v15, val_main_v14]
  exact congrArg _ (congrArg₂ ix2 (Fin.ext (by simp only; omega)) (Fin.ext (by simp only; omega)))

theorem key_apply (b : Fin 4) (n : Fin 256) (h : Fin 4) (d : Fin 128) : val_main_v18 (F := Ideal) x g w (ix4 b n h d) =
    memory x g w b n ⟨128 * h.val + d.val, by omega⟩ := by
  rw [← memory_apply]
  pointwise [val_main_v18, val_main_v17]
  exact congrArg (fun k => val_main_v13 (F := Ideal) x g w (ix3 b n k)) (Fin.ext (by simp only; omega))

theorem value_apply (b : Fin 4) (n : Fin 256) (h : Fin 4) (d : Fin 128) : val_main_v20 (F := Ideal) x g w (ix4 b n h d) =
    memory x g w b n ⟨512 + (128 * h.val + d.val), by omega⟩ := by
  rw [← memory_apply]
  pointwise [val_main_v20, val_main_v19]
  exact congrArg (fun k => val_main_v13 (F := Ideal) x g w (ix3 b n k)) (Fin.ext (by simp only; omega))

/-- A head's scores of a token. -/
def scores (b : Fin 4) (t : Fin 8192) (h : Fin 4) (n : Fin 256) : EReal :=
  (∑ d : Fin 128, z (ix2 ⟨8192 * b.val + t.val, by omega⟩ ⟨3584 + (128 * h.val + d.val), by omega⟩) *
    memory x g w b n ⟨128 * h.val + d.val, by omega⟩) * Ideal.ofBits .f32 0x3DB504F3#32

theorem scores_apply (b h : Fin 4) (t : Fin 8192) (n : Fin 256) : val_main_v23 (F := Ideal) z x g w (ix4 b h t n) = scores z x g w b t h n := by
  pointwise [val_main_v23, val_main_v22, val_main_v21, val_main_cst_2]
  simp only [query_apply, key_apply]
  rfl

theorem greatest_apply (b h : Fin 4) (t : Fin 8192) : val_main_v24 (F := Ideal) z x g w (ix3 b h t) =
    Finset.univ.fold max ⊥ (scores z x g w b t h) := by
  unfold val_main_v24
  refine (Host.reduce_eq_fold_single (α := Ideal .f32) (FloatOps.maximumf (φ := .f32)) (val_main_v23 (F := Ideal) z x g w)
    (val_main_cst_3 (F := Ideal)) reducesTo_S4x4x8192x256_S4x4x8192_d3 (by decide) h_S_ (ix3 b h t)).trans ?_
  refine congrArg₂ (fun c f => Finset.fold max c f (Finset.univ : Finset (Fin 256))) lowest_word (funext fun k => ?_)
  exact scores_apply z x g w b h t k

theorem weight_apply (b h : Fin 4) (t : Fin 8192) (n : Fin 256) : val_main_v28 (F := Ideal) z x g w (ix4 b h t n) =
    Ideal.exp (scores z x g w b t h n - Finset.univ.fold max ⊥ (scores z x g w b t h)) := by
  pointwise [val_main_v28, val_main_v27, val_main_v26, val_main_v25]
  rw [scores_apply, greatest_apply]

theorem total_apply (b h : Fin 4) (t : Fin 8192) : val_main_v29 (F := Ideal) z x g w (ix3 b h t) =
    ∑ n, Ideal.exp (scores z x g w b t h n - Finset.univ.fold max ⊥ (scores z x g w b t h)) := by
  pointwise [val_main_v29, val_main_cst_4]
  simp only [weight_apply]

theorem weighted_apply (b h : Fin 4) (t : Fin 8192) (l : Fin 128) : val_main_v32 (F := Ideal) z x g w (ix4 b h l t) =
    ∑ n, Ideal.exp (scores z x g w b t h n - Finset.univ.fold max ⊥ (scores z x g w b t h)) *
      memory x g w b n ⟨512 + (128 * h.val + l.val), by omega⟩ := by
  pointwise [val_main_v32]
  simp only [weight_apply, value_apply]
  exact Finset.sum_congr rfl fun n _ => mul_comm _ _

theorem result_at (b : Fin 4) (t : Fin 8192) (j : Fin 512) : val_main_v37 (F := Ideal) z x g w (ix3 b t j) =
    crossAt (fun t n => z (ix2 t n)) (memory x g w) b t ⟨j.val / 128, by omega⟩ ⟨j.val % 128, Nat.mod_lt _ (by norm_num)⟩ := by
  pointwise [val_main_v37, val_main_v36, val_main_v35, val_main_v34, val_main_v33, val_main_v31, val_main_v30]
  rw [weighted_apply, total_apply]
  rfl

theorem result_apply (i : S4x8192x512.Idx) : val_main_v37 (F := Ideal) z x g w i =
    crossAt (fun t n => z (ix2 t n)) (memory x g w) (i 0) (i 1)
      ⟨(i 2).val / 128, by have h : (i 2).val < 512 := (i 2).isLt; omega⟩ ⟨(i 2).val % 128, Nat.mod_lt _ (by norm_num)⟩ := by
  have e : i = ix3 (i 0) (i 1) (i 2) := funext (Fin.forall_fin_succ.mpr ⟨rfl, Fin.forall_fin_two.mpr ⟨rfl, rfl⟩⟩)
  exact (congrArg _ e).trans (result_at z x g w (i 0) (i 1) (i 2))

end Cert.Reference5Ideal.Read

end
-- ==== Proof.SampleMath.lean ====
/-
  The feed-forward at one token of the sample batch, which has eight sequences of 2048.
-/
module

public import proofs.«01_k».proof.Proof.FfnMath

@[expose] public section

noncomputable section

namespace Cert.Layer

open Idealize.ShloMosaic

/-- The normed row at place `l` of sequence `b`, places counted from one before the sequence; zero outside it. -/
def sampleNear (X : Fin 16384 → Fin 1024 → EReal) (g : Fin 1024 → EReal) (b : Fin 8) (l : ℕ) (k : Fin 1024) : EReal :=
  if h : 1 ≤ l ∧ l ≤ 2048 then normed (X ⟨b.val * 2048 + (l - 1), by omega⟩) g k else 0

/-- Hidden unit `j` of token `l` of sequence `b`. -/
def sampleUnit (X : Fin 16384 → Fin 1024 → EReal) (g : Fin 1024 → EReal) (W : Fin 1024 → Fin 5632 → EReal)
    (cw : Fin 3 → Fin 5632 → EReal) (cb : Fin 5632 → EReal) (b : Fin 8) (l : ℕ) (j : Fin 2816) : EReal :=
  Layer.hidden (sampleNear X g b l) (sampleNear X g b (l + 1)) (sampleNear X g b (l + 2)) (fun k => W k ⟨j.val, by omega⟩)
    (fun k => W k ⟨2816 + j.val, by omega⟩) (fun d => cw d ⟨j.val, by omega⟩) (fun d => cw d ⟨2816 + j.val, by omega⟩)
    (cb ⟨j.val, by omega⟩) (cb ⟨2816 + j.val, by omega⟩)

/-- The feed-forward's output at a token and a column: the residual sum, normed. -/
def sampleFed (X : Fin 16384 → Fin 1024 → EReal) (g : Fin 1024 → EReal) (W : Fin 1024 → Fin 5632 → EReal)
    (cw : Fin 3 → Fin 5632 → EReal) (cb : Fin 5632 → EReal) (Wd : Fin 2816 → Fin 1024 → EReal) (fg : Fin 1024 → EReal)
    (T : Fin 16384) (n : Fin 1024) : EReal :=
  normed (fun n => X T n + ∑ j, sampleUnit X g W cw cb ⟨T.val / 2048, by omega⟩ (T.val % 2048) j * Wd j n) fg n

end Cert.Layer

end
-- ==== Proof.SamplePart.lean ====
/-
  The sample batch's feed-forward, its arithmetic on 512 rows: one chain of operations, at every part and in every case of the body.
-/
module

public import proofs.«01_k».proof.Proof.SampleMath
public import proofs.«01_k».proof.Proof.Gen.Kernel6Ideal.Frame
public import Idealize.ShloMosaic.Lib.Pointwise
public import Idealize.ShloMosaic.Lib.WholeRead
public import Idealize.ShloMosaic.Lib.Pipeline.ValueKit

@[expose] public section

set_option maxRecDepth 16384
set_option maxHeartbeats 400000

noncomputable section

namespace Cert.Kernel6Ideal.Ffn

open Cert.Kernel6Ideal Cert.Kernel6Ideal.Gen Cert.Layer Idealize.ShloMosaic Idealize.ShloMosaic.TcCoe Idealize.SL.Sem

variable (h : Vec Ideal S528x1024 .bf16) (wv wg : Vec Ideal S1024x256 .bf16) (cv cg : Vec Ideal S3x256 .f32)
  (bv bg : Vec Ideal S1x256 .f32) (wd : Vec Ideal S256x1024 .bf16) (x acc : Vec Ideal S512x1024 .f32) (fg : Vec Ideal S1x1024 .f32)

/-- What 256 hidden columns add to 512 rows. -/
def part : FVec Ideal S512x1024 .f32 := k0_pay22 (k0_pay8 h wg) (k0_pay21 (k0_pay7 h wv) cv bv) cg bg wd

/-- The last case's rows: the residual sum, normed. -/
def closing : FVec Ideal S512x1024 .f32 := k0_pay2 (addf x (addf acc (part h wv wg cv cg bv bg wd))) fg

theorem first0 : k0_pay22 (k0_pay8 h wg) (k0_pay21 (k0_pay7 h wv) cv bv) cg bg wd = part h wv wg cv cg bv bg wd := rfl

theorem first1 : k0_pay27 (k0_pay11 h wg) (k0_pay23 bv) (k0_pay24 (k0_pay10 h wv) cv) (k0_pay25 (k0_pay10 h wv)) (k0_pay26 cv) cg bg wd =
    part h wv wg cv cg bv bg wd := by
  simp only [part, k0_pay7, k0_pay8, k0_pay10, k0_pay11, k0_pay21, k0_pay22, k0_pay23, k0_pay24, k0_pay25, k0_pay26, k0_pay27, shapeCast_id]

theorem first2 : k0_pay31 (k0_pay13 h wv) (k0_pay14 h wg) cv (k0_pay28 bv) (k0_pay29 (k0_pay13 h wv)) (k0_pay30 cv) cg bg wd =
    part h wv wg cv cg bv bg wd := by
  simp only [part, k0_pay7, k0_pay8, k0_pay13, k0_pay14, k0_pay21, k0_pay22, k0_pay28, k0_pay29, k0_pay30, k0_pay31, shapeCast_id]

theorem first3 : k0_pay1 (k0_pay32 (k0_pay19 h wv) (k0_pay20 h wg) cv bv cg bg) (k0_pay33 wd) = part h wv wg cv cg bv bg wd := by
  simp only [part, k0_pay1, k0_pay7, k0_pay8, k0_pay19, k0_pay20, k0_pay21, k0_pay22, k0_pay32, k0_pay33, shapeCast_id]

theorem next0 : k0_pay43 (k0_pay42 (k0_pay34 h wv) (k0_pay35 h wg) cv bv cg bg) wd acc =
    addf acc (part h wv wg cv cg bv bg wd) := by
  simp only [part, k0_pay7, k0_pay8, k0_pay21, k0_pay22, k0_pay34, k0_pay35, k0_pay42, k0_pay43, shapeCast_id]

theorem next1 : k0_pay47 (k0_pay37 h wg) (k0_pay44 (k0_pay36 h wv) cv bv) cg (k0_pay45 bg) (k0_pay46 (k0_pay37 h wg) cg) 527#32 wd acc =
    addf acc (part h wv wg cv cg bv bg wd) := by
  simp only [part, k0_pay7, k0_pay8, k0_pay21, k0_pay22, k0_pay36, k0_pay37, k0_pay44, k0_pay45, k0_pay46, k0_pay47, shapeCast_id]

theorem next2 : k0_pay49 (k0_pay39 h wg) (k0_pay48 (k0_pay38 h wv) cv bv) cg bg wd acc = addf acc (part h wv wg cv cg bv bg wd) := by
  simp only [part, k0_pay7, k0_pay8, k0_pay21, k0_pay22, k0_pay38, k0_pay39, k0_pay48, k0_pay49, shapeCast_id]

theorem next3 : k0_pay52 (k0_pay40 h wv) (k0_pay41 h wg) cv (k0_pay50 bv) (k0_pay51 (k0_pay40 h wv) cv) cg bg wd acc =
    addf acc (part h wv wg cv cg bv bg wd) := by
  simp only [part, k0_pay7, k0_pay8, k0_pay21, k0_pay22, k0_pay40, k0_pay41, k0_pay50, k0_pay51, k0_pay52, shapeCast_id]

theorem last0 : k0_pay62 (k0_pay61 (k0_pay53 h wv) (k0_pay54 h wg) cv bv cg bg) wd x acc fg =
    closing h wv wg cv cg bv bg wd x acc fg := by
  simp only [part, closing, k0_pay2, k0_pay7, k0_pay8, k0_pay21, k0_pay22, k0_pay53, k0_pay54, k0_pay61, k0_pay62, shapeCast_id]

theorem last1 : k0_pay69 (k0_pay65 (k0_pay56 h wg) (k0_pay63 bv) (k0_pay64 (k0_pay55 h wv) cv) cg bg wd x acc) (k0_pay66 fg)
    (k0_pay67 (k0_pay56 h wg) (k0_pay63 bv) (k0_pay64 (k0_pay55 h wv) cv) cg bg wd x acc) k0_pay68 =
    closing h wv wg cv cg bv bg wd x acc fg := by
  simp only [part, closing, k0_pay2, k0_pay7, k0_pay8, k0_pay21, k0_pay22, k0_pay55, k0_pay56, k0_pay63, k0_pay64, k0_pay65, k0_pay66,
    k0_pay67, k0_pay68, k0_pay69, shapeCast_id]

theorem last2 : k0_pay75 (k0_pay70 (k0_pay57 h wv) cv bv) (k0_pay71 bg) (k0_pay72 (k0_pay58 h wg) cg) (k0_pay73 (k0_pay58 h wg))
    (k0_pay74 cg) wd x acc fg = closing h wv wg cv cg bv bg wd x acc fg := by
  simp only [part, closing, k0_pay2, k0_pay7, k0_pay8, k0_pay21, k0_pay22, k0_pay57, k0_pay58, k0_pay70, k0_pay71, k0_pay72, k0_pay73,
    k0_pay74, k0_pay75, shapeCast_id]

theorem last3 : k0_pay2 (k0_pay80 (k0_pay59 h wv) (k0_pay60 h wg) cv (k0_pay76 bv) (k0_pay77 (k0_pay59 h wv) cv)
    (k0_pay78 (k0_pay59 h wv)) (k0_pay79 cv) cg bg wd x acc) fg = closing h wv wg cv cg bv bg wd x acc fg := by
  simp only [part, closing, k0_pay2, k0_pay7, k0_pay8, k0_pay21, k0_pay22, k0_pay59, k0_pay60, k0_pay76, k0_pay77, k0_pay78, k0_pay79,
    k0_pay80, shapeCast_id]

theorem part_apply (r : Fin 512) (n : Fin 1024) : part h wv wg cv cg bv bg wd (ix2 r n) =
    ∑ j : Fin 256, Layer.hidden (fun k => h (ix2 ⟨r.val + 7, by omega⟩ k)) (fun k => h (ix2 ⟨r.val + 8, by omega⟩ k))
      (fun k => h (ix2 ⟨r.val + 9, by omega⟩ k)) (fun k => wv (ix2 k j)) (fun k => wg (ix2 k j)) (fun d => cv (ix2 d j))
      (fun d => cg (ix2 d j)) (bv (ix2 0 j)) (bg (ix2 0 j)) * wd (ix2 j n) := by
  have e7 : (r.val + 8 + 528 - 1) % 528 = r.val + 7 := by omega
  have e8 : 8 + r.val = r.val + 8 := by omega
  have e9 : (r.val + 8 + 528 - 527) % 528 = r.val + 9 := by omega
  pointwise [part, k0_pay22, k0_pay8, k0_pay21, k0_pay7, Layer.hidden, taps, gated]
  simp only [e8, e7, e9]

theorem closing_apply (r : Fin 512) (n : Fin 1024) : closing h wv wg cv cg bv bg wd x acc fg (ix2 r n) =
    normed (fun k => x (ix2 r k) + (acc (ix2 r k) + part h wv wg cv cg bv bg wd (ix2 r k))) (fun k => fg (ix2 0 k)) n := by
  unfold closing
  generalize part h wv wg cv cg bv bg wd = p
  pointwise [k0_pay2, normed, rowScale]

/-- What 256 hidden columns add to a row and a column of the block, from the block's normed rows. -/
def added (H : FVec Ideal S2064x1024 .bf16) (r : Fin 2048) (n : Fin 1024) : EReal :=
  ∑ j : Fin 256, Layer.hidden (fun k => H (ix2 ⟨r.val + 7, by omega⟩ k)) (fun k => H (ix2 ⟨r.val + 8, by omega⟩ k))
    (fun k => H (ix2 ⟨r.val + 9, by omega⟩ k)) (fun k => wv (ix2 k j)) (fun k => wg (ix2 k j)) (fun d => cv (ix2 d j))
    (fun d => cg (ix2 d j)) (bv (ix2 0 j)) (bg (ix2 0 j)) * wd (ix2 j n)

variable (H : FVec Ideal S2064x1024 .bf16) (X A : Vec Ideal S2048x1024 .f32)

/-- A part whose rows are the block's from `o` on. -/
theorem part_added (o : ℕ) (ho : o ≤ 1536)
    (e : ∀ (j : S528x1024.Idx) (z : S2064x1024.Idx), (z 0).val = o + (j 0).val → (z 1).val = (j 1).val → h j = H z)
    (i : S512x1024.Idx) (y : S2048x1024.Idx) (e0 : (y 0).val = o + (i 0).val) (e1 : (y 1).val = (i 1).val) :
    part h wv wg cv cg bv bg wd i = added wv wg cv cg bv bg wd H (y 0) (y 1) := by
  have hr : (i 0).val < 512 := (i 0).isLt
  have hy : (y 0).val < 2048 := (y 0).isLt
  have e' (d : ℕ) (hd : d ≤ 9) : (fun k => h (ix2 (⟨(i 0).val + d, by omega⟩ : Fin 528) k)) =
      fun k => H (ix2 ⟨(y 0).val + d, by omega⟩ k) := funext fun k =>
    e (ix2 ⟨(i 0).val + d, by omega⟩ k) (ix2 ⟨(y 0).val + d, by omega⟩ k)
      (by show (y 0).val + d = o + ((i 0).val + d); omega) rfl
  refine (congrArg _ (eq_ix2 i)).trans ((part_apply h wv wg cv cg bv bg wd (i 0) (i 1)).trans ?_)
  unfold added
  rw [e' 7 (by omega), e' 8 (by omega), e' 9 (by omega), show (y 1 : Fin 1024) = i 1 from Fin.ext e1]

/-- A part added to the sum's rows from `o` on. -/
theorem next_added (o : ℕ) (ho : o ≤ 1536)
    (ea : ∀ (j : S512x1024.Idx) (z : S2048x1024.Idx), (z 0).val = o + (j 0).val → (z 1).val = (j 1).val → acc j = A z)
    (e : ∀ (j : S528x1024.Idx) (z : S2064x1024.Idx), (z 0).val = o + (j 0).val → (z 1).val = (j 1).val → h j = H z)
    (i : S512x1024.Idx) (y : S2048x1024.Idx) (e0 : (y 0).val = o + (i 0).val) (e1 : (y 1).val = (i 1).val) :
    addf acc (part h wv wg cv cg bv bg wd) i = (show EReal from A y) + added wv wg cv cg bv bg wd H (y 0) (y 1) :=
  congrArg₂ (fun a b : EReal => a + b) (ea i y e0 e1) (part_added h wv wg cv cg bv bg wd H o ho e i y e0 e1)

/-- The last case's rows from `o` on. -/
theorem closing_added (o : ℕ) (ho : o ≤ 1536)
    (ex : ∀ (j : S512x1024.Idx) (z : S2048x1024.Idx), (z 0).val = o + (j 0).val → (z 1).val = (j 1).val → x j = X z)
    (ea : ∀ (j : S512x1024.Idx) (z : S2048x1024.Idx), (z 0).val = o + (j 0).val → (z 1).val = (j 1).val → acc j = A z)
    (e : ∀ (j : S528x1024.Idx) (z : S2064x1024.Idx), (z 0).val = o + (j 0).val → (z 1).val = (j 1).val → h j = H z)
    (i : S512x1024.Idx) (y : S2048x1024.Idx) (e0 : (y 0).val = o + (i 0).val) (e1 : (y 1).val = (i 1).val) :
    closing h wv wg cv cg bv bg wd x acc fg i =
      normed (fun k => X (ix2 (y 0) k) + (A (ix2 (y 0) k) + added wv wg cv cg bv bg wd H (y 0) k)) (fun k => fg (ix2 0 k)) (y 1) := by
  refine (congrArg _ (eq_ix2 i)).trans ((closing_apply h wv wg cv cg bv bg wd x acc fg (i 0) (i 1)).trans ?_)
  rw [show (y 1 : Fin 1024) = i 1 from Fin.ext e1]
  refine congrArg (fun v => normed v (fun k => fg (ix2 0 k)) (i 1)) (funext fun k => ?_)
  rw [ex (ix2 (i 0) k) (ix2 (y 0) k) e0 rfl, ea (ix2 (i 0) k) (ix2 (y 0) k) e0 rfl]
  exact congrArg _ (congrArg _ (part_added h wv wg cv cg bv bg wd H o ho e (ix2 (i 0) k) (ix2 (y 0) k) e0 rfl))

end Cert.Kernel6Ideal.Ffn

end
-- ==== Proof.SampleRows.lean ====
/-
  The normed rows a sequence's first point leaves in the buffer, with eight rows of zeros before and after them: a block is a
  whole sequence here.
-/
module

public import proofs.«01_k».proof.Proof.SamplePart

@[expose] public section

set_option maxRecDepth 16384
set_option maxHeartbeats 400000

noncomputable section

namespace Cert.Kernel6Ideal.Ffn

open Cert.Kernel6Ideal Cert.Kernel6Ideal.Gen Cert.Layer Idealize.ShloMosaic Idealize.ShloMosaic.TcCoe Idealize.SL.Sem

/-- A row block's place in its sequence, as the kernel computes it. -/
def place (w : BitVec 32) : BitVec 32 :=
  Scalar.select (Scalar.andi (Scalar.xori (Scalar.cmpi .slt (Scalar.remsi w 1#32) 0#32) 0#1) (Scalar.cmpi .ne (Scalar.remsi w 1#32) 0#32))
    (Scalar.addi (Scalar.remsi w 1#32) 1#32) (Scalar.remsi w 1#32)

theorem place_word : ∀ t : Fin cfg0.N, Scalar.cmpi .eq (place (BitVec.ofNat 32 (grid0.coords t 0).val)) 0#32 = 1#1 :=
  (by decide +kernel : ∀ t : Fin grid0.N, _)

variable (g : Vec Ideal S1x1024 .f32)

theorem before_apply (w : BitVec 32) (b : Vec Ideal S8x1024 .f32) (i : S8x1024.Idx) : k0_pay4 w g b i =
    if Scalar.cmpi .eq (place w) 0#32 = 1#1 then 0 else normed (fun k => b (ix2 (i 0) k)) (fun k => g (ix2 0 k)) (i 1) := by
  have e4 : Scalar.select (Scalar.cmpi .eq 1#32 0#32) 1#32 1#32 = 1#32 := rfl
  have e0 : Scalar.cmpi .slt 1#32 0#32 = 0#1 := rfl
  pointwise [k0_pay4, k0_pay3, normed, rowScale]
  simp only [e4, e0]
  rfl

theorem after_apply (e : BitVec 1) (b : Vec Ideal S8x1024 .f32) (i : S8x1024.Idx) : k0_pay18 (k0_pay15 g) e b (k0_pay17 b) i =
    if e = 1#1 then 0 else normed (fun k => b (ix2 (i 0) k)) (fun k => g (ix2 0 k)) (i 1) := by
  pointwise [k0_pay18, k0_pay15, k0_pay17, normed, rowScale]
  rfl

theorem own0_apply (b : Vec Ideal S520x1024 .f32) (i : S520x1024.Idx) : k0_pay6 (k0_pay3 g) b (k0_pay5 b) i =
    normed (fun k => b (ix2 (i 0) k)) (fun k => g (ix2 0 k)) (i 1) := by
  pointwise [k0_pay6, k0_pay3, k0_pay5, normed, rowScale]

theorem own1_apply (b : Vec Ideal S512x1024 .f32) (i : S512x1024.Idx) : k0_pay9 g b i =
    normed (fun k => b (ix2 (i 0) k)) (fun k => g (ix2 0 k)) (i 1) := by
  pointwise [k0_pay9, normed, rowScale]

theorem own2_apply (b : Vec Ideal S512x1024 .f32) (i : S512x1024.Idx) : k0_pay12 g b i =
    normed (fun k => b (ix2 (i 0) k)) (fun k => g (ix2 0 k)) (i 1) := by
  pointwise [k0_pay12, normed, rowScale]

theorem own3_apply (b : Vec Ideal S504x1024 .f32) (i : S504x1024.Idx) : k0_pay16 g b i =
    normed (fun k => b (ix2 (i 0) k)) (fun k => g (ix2 0 k)) (i 1) := by
  pointwise [k0_pay16, k0_pay15, normed, rowScale]

/-- The normed rows of a sequence, from eight before it to eight after it, which are zero. -/
def rows (b : Vec Ideal S2048x1024 .f32) : FVec Ideal S2064x1024 .bf16 := fun y =>
  if (y 0).val < 8 then 0
  else if (y 0).val < 2056 then
    normed (fun k => b (ix2 ⟨((y 0).val - 8) % 2048, Nat.mod_lt _ (by decide)⟩ k)) (fun k => g (ix2 0 k)) (y 1)
  else 0

theorem rows_before (b : Vec Ideal S2048x1024 .f32) (y : S2064x1024.Idx) (e : (y 0).val < 8) : rows g b y = 0 := if_pos e

theorem rows_own (b : Vec Ideal S2048x1024 .f32) (r : Fin 2048) (y : S2064x1024.Idx)
    (e : (y 0).val = 8 + r.val) : rows g b y = normed (fun k => b (ix2 r k)) (fun k => g (ix2 0 k)) (y 1) := by
  have hr : (⟨((y 0).val - 8) % 2048, Nat.mod_lt _ (by decide)⟩ : Fin 2048) = r := Fin.ext (by simp only; omega)
  unfold rows
  rw [if_neg (by omega), if_pos (by omega), hr]

theorem rows_after (b : Vec Ideal S2048x1024 .f32) (y : S2064x1024.Idx) (e : 2056 ≤ (y 0).val) : rows g b y = 0 := by
  unfold rows
  rw [if_neg (by omega), if_neg (by omega)]

/-- A row of a slice of the block, normed, is the row the buffer is to hold. -/
theorem own_rows (b : Vec Ideal S2048x1024 .f32) (v : Fin 1024 → EReal) (k : Fin 1024)
    (y : S2064x1024.Idx) (r : Fin 2048) (e0 : (y 0).val = 8 + r.val) (e1 : (y 1).val = k.val) (ev : ∀ k, v k = b (ix2 r k)) :
    normed v (fun k => g (ix2 0 k)) k = rows g b y := by
  rw [rows_own g b r y e0, funext ev]
  exact congrArg _ (Fin.ext e1.symm)

variable (m : (ℓ : Loc nD τ sig) → Buf (Elt Ideal) ℓ) (c : Dev nD)

/-- The normed rows of point `t`'s block. -/
abbrev blockRows (t : Fin cfg0.N) : FVec Ideal S2064x1024 .bf16 :=
  rows (iblk m c 3 t) (iblk m c 0 t)

theorem before_rows (t : Fin cfg0.N) (x : S8x1024.Idx) (y : S2064x1024.Idx) (e0 : (y 0).val = (x 0).val) :
    k0_pay4 (BitVec.ofNat 32 (grid0.coords t 0).val) (iblk m c 3 t) (iblk m c 1 t) x = blockRows m c t y := by
  have h : (x 0).val < 8 := (x 0).isLt
  exact ((before_apply _ _ _ x).trans (if_pos (place_word t))).trans (rows_before _ _ y (by omega)).symm

theorem after_rows (t : Fin cfg0.N) (x : S8x1024.Idx) (y : S2064x1024.Idx) (e0 : (y 0).val = 2056 + (x 0).val) :
    k0_pay18 (k0_pay15 (iblk m c 3 t)) (Scalar.cmpi .eq (place (BitVec.ofNat 32 (grid0.coords t 0).val)) 0#32) (iblk m c 2 t)
      (k0_pay17 (iblk m c 2 t)) x = blockRows m c t y :=
  ((after_apply _ _ _ x).trans (if_pos (place_word t))).trans (rows_after _ _ y (by omega)).symm

theorem own0_rows (t : Fin cfg0.N) (b : Vec Ideal S520x1024 .f32) (x : S520x1024.Idx) (y : S2064x1024.Idx) (r : Fin 2048)
    (e0 : (y 0).val = 8 + r.val) (e1 : (y 1).val = (x 1).val)
    (eb : ∀ q : Fin 520, q.val = (x 0).val → ∀ k, b (ix2 q k) = (iblk m c 0 t : Vec Ideal S2048x1024 .f32) (ix2 r k)) :
    k0_pay6 (k0_pay3 (iblk m c 3 t)) b (k0_pay5 b) x = blockRows m c t y :=
  (own0_apply _ b x).trans (own_rows _ _ _ (x 1) y r e0 e1 (eb (x 0) rfl))

theorem own1_rows (t : Fin cfg0.N) (b : Vec Ideal S512x1024 .f32) (x : S512x1024.Idx) (y : S2064x1024.Idx) (r : Fin 2048)
    (e0 : (y 0).val = 8 + r.val) (e1 : (y 1).val = (x 1).val)
    (eb : ∀ q : Fin 512, q.val = (x 0).val → ∀ k, b (ix2 q k) = (iblk m c 0 t : Vec Ideal S2048x1024 .f32) (ix2 r k)) :
    k0_pay9 (iblk m c 3 t) b x = blockRows m c t y :=
  (own1_apply _ b x).trans (own_rows _ _ _ (x 1) y r e0 e1 (eb (x 0) rfl))

theorem own2_rows (t : Fin cfg0.N) (b : Vec Ideal S512x1024 .f32) (x : S512x1024.Idx) (y : S2064x1024.Idx) (r : Fin 2048)
    (e0 : (y 0).val = 8 + r.val) (e1 : (y 1).val = (x 1).val)
    (eb : ∀ q : Fin 512, q.val = (x 0).val → ∀ k, b (ix2 q k) = (iblk m c 0 t : Vec Ideal S2048x1024 .f32) (ix2 r k)) :
    k0_pay12 (iblk m c 3 t) b x = blockRows m c t y :=
  (own2_apply _ b x).trans (own_rows _ _ _ (x 1) y r e0 e1 (eb (x 0) rfl))

theorem own3_rows (t : Fin cfg0.N) (b : Vec Ideal S504x1024 .f32) (x : S504x1024.Idx) (y : S2064x1024.Idx) (r : Fin 2048)
    (e0 : (y 0).val = 8 + r.val) (e1 : (y 1).val = (x 1).val)
    (eb : ∀ q : Fin 504, q.val = (x 0).val → ∀ k, b (ix2 q k) = (iblk m c 0 t : Vec Ideal S2048x1024 .f32) (ix2 r k)) :
    k0_pay16 (iblk m c 3 t) b x = blockRows m c t y :=
  (own3_apply _ b x).trans (own_rows _ _ _ (x 1) y r e0 e1 (eb (x 0) rfl))

theorem first_rows (t : Fin cfg0.N) (e0 : t.val % 11 = 0) (e1 : ¬(1 ≤ t.val % 11 ∧ t.val % 11 ≤ 9)) (e2 : ¬t.val % 11 = 10) :
    (outsAt0 m c t.val t.isLt).2.1 = blockRows m c t := by
  funext y
  have y0_lt : (y 0).val < 2064 := (y 0).isLt
  have y1_lt : (y 1).val < 1024 := (y 1).isLt
  rw [outsAt0_A m c t e0 e1 e2]
  frame_out
  canon_tiles x h using by
    simp only [List.mem_cons, List.not_mem_nil, or_false, exists_eq_or_imp, exists_eq_left, Rect.mem_set_unit, Fin.forall_fin_two]
    simp
    omega
  · exact after_rows m c t x y h0
  · refine own3_rows m c t _ x y ⟨1544 + (x 0).val, by omega⟩ (by simp only; omega) h1 fun q eq k => ?_
    exact View.ld_unit_apply_of _ _ _ _ _ _
      (Fin.forall_fin_two.mpr ⟨by simp [ix2]; omega, by simp [ix2]⟩)
  · refine own2_rows m c t _ x y ⟨1032 + (x 0).val, by omega⟩ (by simp only; omega) h1 fun q eq k => ?_
    exact View.ld_unit_apply_of _ _ _ _ _ _
      (Fin.forall_fin_two.mpr ⟨by simp [ix2]; omega, by simp [ix2]⟩)
  · refine own1_rows m c t _ x y ⟨520 + (x 0).val, by omega⟩ (by simp only; omega) h1 fun q eq k => ?_
    exact View.ld_unit_apply_of _ _ _ _ _ _
      (Fin.forall_fin_two.mpr ⟨by simp [ix2]; omega, by simp [ix2]⟩)
  · refine own0_rows m c t _ x y ⟨(x 0).val, by omega⟩ h0 h1 fun q eq k => ?_
    exact View.ld_unit_apply_of _ _ _ _ _ _
      (Fin.forall_fin_two.mpr ⟨by simp [ix2]; omega, by simp [ix2]⟩)
  · exact before_rows m c t x y h0

end Cert.Kernel6Ideal.Ffn

end
-- ==== Proof.SampleOut.lean ====
/-
  The sample batch: what a grid point leaves in the sum's buffer and in the output, from the buffers before it.
-/
module

public import proofs.«01_k».proof.Proof.SampleRows

@[expose] public section

set_option maxRecDepth 16384
set_option maxHeartbeats 400000

noncomputable section

namespace Cert.Kernel6Ideal.Ffn

open Cert.Kernel6Ideal Cert.Kernel6Ideal.Gen Cert.Layer Idealize.ShloMosaic Idealize.ShloMosaic.TcCoe Idealize.SL.Sem

variable (m : (ℓ : Loc nD τ sig) → Buf (Elt Ideal) ℓ) (c : Dev nD)

/-- What point `t`'s hidden columns add to a row and a column, from the rows `H`. -/
abbrev addedAt (t : Fin cfg0.N) (H : FVec Ideal S2064x1024 .bf16) (r : Fin 2048) (n : Fin 1024) : EReal :=
  added (iblk m c 4 t) (iblk m c 5 t) (iblk m c 6 t) (iblk m c 7 t) (iblk m c 8 t) (iblk m c 9 t) (iblk m c 10 t) H r n

/-- The buffers as the point before left them. -/
abbrev rowsBefore (t : Fin cfg0.N) : Vec Ideal S2064x1024 .bf16 :=
  (outsAt0 m c (t.val - 1) (Nat.lt_of_le_of_lt (Nat.sub_le _ _) t.isLt)).2.1

abbrev sumBefore (t : Fin cfg0.N) : Vec Ideal S2048x1024 .f32 :=
  (outsAt0 m c (t.val - 1) (Nat.lt_of_le_of_lt (Nat.sub_le _ _) t.isLt)).2.2

theorem next_acc (t : Fin cfg0.N) (e0 : ¬t.val % 11 = 0) (e1 : 1 ≤ t.val % 11 ∧ t.val % 11 ≤ 9) (e2 : ¬t.val % 11 = 10) :
    (outsAt0 m c t.val t.isLt).2.2 = fun y => (show EReal from sumBefore m c t y) + addedAt m c t (rowsBefore m c t) (y 0) (y 1) := by
  funext y
  rw [outsAt0_B m c t e0 e1 e2]
  frame_out
  canon_tiles x h
  · rw [next3]
    refine next_added _ _ _ _ _ _ _ _ _ (rowsBefore m c t) (sumBefore m c t) 1536 (by omega) (fun j z z0 z1 => ?_)
      (fun j z z0 z1 => ?_) x y (by omega) h1
    · refine (View.ld_unit_apply_of _ _ _ _ _ z (Fin.forall_fin_two.mpr ⟨z0, z1.trans (Nat.zero_add _).symm⟩)).trans ?_
      exact congrFun (Memref.IsWhole.read_unread _ _) z
    · refine (View.ld_unit_apply_of _ _ _ _ _ z (Fin.forall_fin_two.mpr ⟨z0, z1.trans (Nat.zero_add _).symm⟩)).trans ?_
      exact congrFun (Memref.IsWhole.read_unread _ _) z
  · rw [next2]
    refine next_added _ _ _ _ _ _ _ _ _ (rowsBefore m c t) (sumBefore m c t) 1024 (by omega) (fun j z z0 z1 => ?_)
      (fun j z z0 z1 => ?_) x y (by omega) h1
    · refine (View.ld_unit_apply_of _ _ _ _ _ z (Fin.forall_fin_two.mpr ⟨z0, z1.trans (Nat.zero_add _).symm⟩)).trans ?_
      exact congrFun (Memref.IsWhole.read_unread _ _) z
    · refine (View.ld_unit_apply_of _ _ _ _ _ z (Fin.forall_fin_two.mpr ⟨z0, z1.trans (Nat.zero_add _).symm⟩)).trans ?_
      exact congrFun (Memref.IsWhole.read_unread _ _) z
  · rw [next1]
    refine next_added _ _ _ _ _ _ _ _ _ (rowsBefore m c t) (sumBefore m c t) 512 (by omega) (fun j z z0 z1 => ?_)
      (fun j z z0 z1 => ?_) x y (by omega) h1
    · refine (View.ld_unit_apply_of _ _ _ _ _ z (Fin.forall_fin_two.mpr ⟨z0, z1.trans (Nat.zero_add _).symm⟩)).trans ?_
      exact congrFun (Memref.IsWhole.read_unread _ _) z
    · refine (View.ld_unit_apply_of _ _ _ _ _ z (Fin.forall_fin_two.mpr ⟨z0, z1.trans (Nat.zero_add _).symm⟩)).trans ?_
      exact congrFun (Memref.IsWhole.read_unread _ _) z
  · rw [next0]
    refine next_added _ _ _ _ _ _ _ _ _ (rowsBefore m c t) (sumBefore m c t) 0 (by omega) (fun j z z0 z1 => ?_)
      (fun j z z0 z1 => ?_) x y (by omega) h1
    · refine (View.ld_unit_apply_of _ _ _ _ _ z (Fin.forall_fin_two.mpr ⟨z0.trans rfl, z1.trans (Nat.zero_add _).symm⟩)).trans ?_
      exact congrFun (Memref.IsWhole.read_unread _ _) z
    · refine (View.ld_unit_apply_of _ _ _ _ _ z (Fin.forall_fin_two.mpr ⟨z0.trans rfl, z1.trans (Nat.zero_add _).symm⟩)).trans ?_
      exact congrFun (Memref.IsWhole.read_unread _ _) z

theorem last_out (t : Fin cfg0.N) (e0 : ¬t.val % 11 = 0) (e1 : ¬(1 ≤ t.val % 11 ∧ t.val % 11 ≤ 9)) (e2 : t.val % 11 = 10) :
    (outsAt0 m c t.val t.isLt).1 = fun y => normed (fun k => (show EReal from (iblk m c 0 t : Vec Ideal S2048x1024 .f32) (ix2 (y 0) k)) +
      ((show EReal from sumBefore m c t (ix2 (y 0) k)) + addedAt m c t (rowsBefore m c t) (y 0) k))
      (fun k => (iblk m c 11 t : Vec Ideal S1x1024 .f32) (ix2 0 k)) (y 1) := by
  funext y
  rw [outsAt0_C m c t e0 e1 e2]
  frame_out
  canon_tiles x h
  · rw [last3]
    refine closing_added _ _ _ _ _ _ _ _ _ _ _ (rowsBefore m c t) (iblk m c 0 t) (sumBefore m c t) 1536 (by omega)
      (fun j z z0 z1 => ?_) (fun j z z0 z1 => ?_) (fun j z z0 z1 => ?_) x y (by omega) h1
    · exact View.ld_unit_apply_of _ _ _ _ _ _ (Fin.forall_fin_two.mpr ⟨z0, z1.trans (Nat.zero_add _).symm⟩)
    · refine (View.ld_unit_apply_of _ _ _ _ _ z (Fin.forall_fin_two.mpr ⟨z0, z1.trans (Nat.zero_add _).symm⟩)).trans ?_
      exact congrFun (Memref.IsWhole.read_unread _ _) z
    · refine (View.ld_unit_apply_of _ _ _ _ _ z (Fin.forall_fin_two.mpr ⟨z0, z1.trans (Nat.zero_add _).symm⟩)).trans ?_
      exact congrFun (Memref.IsWhole.read_unread _ _) z
  · rw [last2]
    refine closing_added _ _ _ _ _ _ _ _ _ _ _ (rowsBefore m c t) (iblk m c 0 t) (sumBefore m c t) 1024 (by omega)
      (fun j z z0 z1 => ?_) (fun j z z0 z1 => ?_) (fun j z z0 z1 => ?_) x y (by omega) h1
    · exact View.ld_unit_apply_of _ _ _ _ _ _ (Fin.forall_fin_two.mpr ⟨z0, z1.trans (Nat.zero_add _).symm⟩)
    · refine (View.ld_unit_apply_of _ _ _ _ _ z (Fin.forall_fin_two.mpr ⟨z0, z1.trans (Nat.zero_add _).symm⟩)).trans ?_
      exact congrFun (Memref.IsWhole.read_unread _ _) z
    · refine (View.ld_unit_apply_of _ _ _ _ _ z (Fin.forall_fin_two.mpr ⟨z0, z1.trans (Nat.zero_add _).symm⟩)).trans ?_
      exact congrFun (Memref.IsWhole.read_unread _ _) z
  · rw [last1]
    refine closing_added _ _ _ _ _ _ _ _ _ _ _ (rowsBefore m c t) (iblk m c 0 t) (sumBefore m c t) 512 (by omega)
      (fun j z z0 z1 => ?_) (fun j z z0 z1 => ?_) (fun j z z0 z1 => ?_) x y (by omega) h1
    · exact View.ld_unit_apply_of _ _ _ _ _ _ (Fin.forall_fin_two.mpr ⟨z0, z1.trans (Nat.zero_add _).symm⟩)
    · refine (View.ld_unit_apply_of _ _ _ _ _ z (Fin.forall_fin_two.mpr ⟨z0, z1.trans (Nat.zero_add _).symm⟩)).trans ?_
      exact congrFun (Memref.IsWhole.read_unread _ _) z
    · refine (View.ld_unit_apply_of _ _ _ _ _ z (Fin.forall_fin_two.mpr ⟨z0, z1.trans (Nat.zero_add _).symm⟩)).trans ?_
      exact congrFun (Memref.IsWhole.read_unread _ _) z
  · rw [last0]
    refine closing_added _ _ _ _ _ _ _ _ _ _ _ (rowsBefore m c t) (iblk m c 0 t) (sumBefore m c t) 0 (by omega)
      (fun j z z0 z1 => ?_) (fun j z z0 z1 => ?_) (fun j z z0 z1 => ?_) x y (by omega) h1
    · exact View.ld_unit_apply_of _ _ _ _ _ _ (Fin.forall_fin_two.mpr ⟨z0, z1.trans (Nat.zero_add _).symm⟩)
    · refine (View.ld_unit_apply_of _ _ _ _ _ z (Fin.forall_fin_two.mpr ⟨z0.trans rfl, z1.trans (Nat.zero_add _).symm⟩)).trans ?_
      exact congrFun (Memref.IsWhole.read_unread _ _) z
    · refine (View.ld_unit_apply_of _ _ _ _ _ z (Fin.forall_fin_two.mpr ⟨z0.trans rfl, z1.trans (Nat.zero_add _).symm⟩)).trans ?_
      exact congrFun (Memref.IsWhole.read_unread _ _) z

theorem first_acc (t : Fin cfg0.N) (e0 : t.val % 11 = 0) (e1 : ¬(1 ≤ t.val % 11 ∧ t.val % 11 ≤ 9)) (e2 : ¬t.val % 11 = 10) :
    (outsAt0 m c t.val t.isLt).2.2 = fun y => addedAt m c t (blockRows m c t) (y 0) (y 1) := by
  funext y
  rw [outsAt0_A m c t e0 e1 e2]
  frame_out
  canon_tiles x h
  · rw [first3]
    refine part_added _ _ _ _ _ _ _ _ (blockRows m c t) 1536 (by omega) (fun j z z0 z1 => ?_) x y (by omega) h1
    have ez : (Rect.unit (s := S2064x1024) ![1536, 0] ![528, 1024] inb_S2064x1024_S528x1024_1536_0).toLoadRect.idx j = z :=
      funext (Fin.forall_fin_two.mpr ⟨Fin.ext (by simp; omega), Fin.ext (by simp; omega)⟩)
    have j0_lt : (j 0).val < 528 := (j 0).isLt
    have z1_lt : (z 1).val < 1024 := (z 1).isLt
    rw [View.readCov_eq_canon']
    beta_reduce
    rw [ez]
    clear ez h0 h1
    canon_tiles q h using by
      simp only [List.mem_cons, List.not_mem_nil, or_false, exists_eq_or_imp, exists_eq_left, Rect.mem_set_unit, Fin.forall_fin_two]
      simp
      omega
    · exact after_rows m c t q z h0
    · refine own3_rows m c t _ q z ⟨1544 + (q 0).val, by omega⟩ (by simp only; omega) h1 fun p ep k => ?_
      exact View.ld_unit_apply_of _ _ _ _ _ _ (Fin.forall_fin_two.mpr ⟨by simp [ix2]; omega, by simp [ix2]⟩)
    · refine own2_rows m c t _ q z ⟨1032 + (q 0).val, by omega⟩ (by simp only; omega) h1 fun p ep k => ?_
      exact View.ld_unit_apply_of _ _ _ _ _ _ (Fin.forall_fin_two.mpr ⟨by simp [ix2]; omega, by simp [ix2]⟩)
    · refine own1_rows m c t _ q z ⟨520 + (q 0).val, by omega⟩ (by simp only; omega) h1 fun p ep k => ?_
      exact View.ld_unit_apply_of _ _ _ _ _ _ (Fin.forall_fin_two.mpr ⟨by simp [ix2]; omega, by simp [ix2]⟩)
    · refine own0_rows m c t _ q z ⟨(q 0).val, by omega⟩ h0 h1 fun p ep k => ?_
      exact View.ld_unit_apply_of _ _ _ _ _ _ (Fin.forall_fin_two.mpr ⟨by simp [ix2]; omega, by simp [ix2]⟩)
    · exact before_rows m c t q z h0
  · rw [first2]
    refine part_added _ _ _ _ _ _ _ _ (blockRows m c t) 1024 (by omega) (fun j z z0 z1 => ?_) x y (by omega) h1
    have ez : (Rect.unit (s := S2064x1024) ![1024, 0] ![528, 1024] inb_S2064x1024_S528x1024_1024_0).toLoadRect.idx j = z :=
      funext (Fin.forall_fin_two.mpr ⟨Fin.ext (by simp; omega), Fin.ext (by simp; omega)⟩)
    have j0_lt : (j 0).val < 528 := (j 0).isLt
    have z1_lt : (z 1).val < 1024 := (z 1).isLt
    rw [View.readCov_eq_canon']
    beta_reduce
    rw [ez]
    clear ez h0 h1
    canon_tiles q h using by
      simp only [List.mem_cons, List.not_mem_nil, or_false, exists_eq_or_imp, exists_eq_left, Rect.mem_set_unit, Fin.forall_fin_two]
      simp
      omega
    · refine own2_rows m c t _ q z ⟨1032 + (q 0).val, by omega⟩ (by simp only; omega) h1 fun p ep k => ?_
      exact View.ld_unit_apply_of _ _ _ _ _ _ (Fin.forall_fin_two.mpr ⟨by simp [ix2]; omega, by simp [ix2]⟩)
    · refine own1_rows m c t _ q z ⟨520 + (q 0).val, by omega⟩ (by simp only; omega) h1 fun p ep k => ?_
      exact View.ld_unit_apply_of _ _ _ _ _ _ (Fin.forall_fin_two.mpr ⟨by simp [ix2]; omega, by simp [ix2]⟩)
    · refine own0_rows m c t _ q z ⟨(q 0).val, by omega⟩ h0 h1 fun p ep k => ?_
      exact View.ld_unit_apply_of _ _ _ _ _ _ (Fin.forall_fin_two.mpr ⟨by simp [ix2]; omega, by simp [ix2]⟩)
    · exact before_rows m c t q z h0
  · rw [first1]
    refine part_added _ _ _ _ _ _ _ _ (blockRows m c t) 512 (by omega) (fun j z z0 z1 => ?_) x y (by omega) h1
    have ez : (Rect.unit (s := S2064x1024) ![512, 0] ![528, 1024] inb_S2064x1024_S528x1024_512_0).toLoadRect.idx j = z :=
      funext (Fin.forall_fin_two.mpr ⟨Fin.ext (by simp; omega), Fin.ext (by simp; omega)⟩)
    have j0_lt : (j 0).val < 528 := (j 0).isLt
    have z1_lt : (z 1).val < 1024 := (z 1).isLt
    rw [View.readCov_eq_canon']
    beta_reduce
    rw [ez]
    clear ez h0 h1
    canon_tiles q h using by
      simp only [List.mem_cons, List.not_mem_nil, or_false, exists_eq_or_imp, exists_eq_left, Rect.mem_set_unit, Fin.forall_fin_two]
      simp
      omega
    · refine own1_rows m c t _ q z ⟨520 + (q 0).val, by omega⟩ (by simp only; omega) h1 fun p ep k => ?_
      exact View.ld_unit_apply_of _ _ _ _ _ _ (Fin.forall_fin_two.mpr ⟨by simp [ix2]; omega, by simp [ix2]⟩)
    · refine own0_rows m c t _ q z ⟨(q 0).val, by omega⟩ h0 h1 fun p ep k => ?_
      exact View.ld_unit_apply_of _ _ _ _ _ _ (Fin.forall_fin_two.mpr ⟨by simp [ix2]; omega, by simp [ix2]⟩)
    · exact before_rows m c t q z h0
  · rw [first0]
    refine part_added _ _ _ _ _ _ _ _ (blockRows m c t) 0 (by omega) (fun j z z0 z1 => ?_) x y (by omega) h1
    have ez : (Rect.unit (s := S2064x1024) ![0, 0] ![528, 1024] inb_S2064x1024_S528x1024_0_0).toLoadRect.idx j = z :=
      funext (Fin.forall_fin_two.mpr ⟨Fin.ext (by simp; omega), Fin.ext (by simp; omega)⟩)
    have j0_lt : (j 0).val < 528 := (j 0).isLt
    have z1_lt : (z 1).val < 1024 := (z 1).isLt
    rw [View.readCov_eq_canon']
    beta_reduce
    rw [ez]
    clear ez h0 h1
    canon_tiles q h using by
      simp only [List.mem_cons, List.not_mem_nil, or_false, exists_eq_or_imp, exists_eq_left, Rect.mem_set_unit, Fin.forall_fin_two]
      simp
      omega
    · refine own0_rows m c t _ q z ⟨(q 0).val, by omega⟩ h0 h1 fun p ep k => ?_
      exact View.ld_unit_apply_of _ _ _ _ _ _ (Fin.forall_fin_two.mpr ⟨by simp [ix2]; omega, by simp [ix2]⟩)
    · exact before_rows m c t q z h0

end Cert.Kernel6Ideal.Ffn

end
-- ==== Proof.SampleBlocks.lean ====
/-
  The sample batch's feed-forward: the sum over the hidden columns' blocks, and the array the kernel leaves.
-/
module

public import proofs.«01_k».proof.Proof.SampleOut
public import Idealize.ShloMosaic.Lib.Claim

@[expose] public section

set_option maxRecDepth 16384
set_option maxHeartbeats 400000

noncomputable section

namespace Cert.Kernel6Ideal.Ffn

open Cert.Kernel6Ideal Cert.Kernel6Ideal.Gen Cert.Layer Idealize.ShloMosaic Idealize.ShloMosaic.TcCoe Idealize.SL.Sem
open Idealize.ShloMosaic.Pipeline (Dat)

/-- The windows' places at the grid points. -/
theorem places : ∀ t : Fin cfg0.N,
    win0_0.index t = ![t.val / 11, 0] ∧ win0_1.index t = ![t.val / 11 * 256 - 1, 0] ∧
    win0_2.index t = ![min (t.val / 11 * 256 + 256) 2047, 0] ∧ win0_3.index t = ![0, 0] ∧
    win0_4.index t = ![0, t.val % 11] ∧ win0_5.index t = ![0, 11 + t.val % 11] ∧
    win0_6.index t = ![0, t.val % 11] ∧ win0_7.index t = ![0, 11 + t.val % 11] ∧
    win0_8.index t = ![0, t.val % 11] ∧ win0_9.index t = ![0, 11 + t.val % 11] ∧
    win0_10.index t = ![t.val % 11, 0] ∧ win0_11.index t = ![0, 0] ∧ win0_12.index t = ![t.val / 11, 0] :=
  (by decide +kernel : ∀ t : Fin grid0.N, _)

variable (m : (ℓ : Loc nD τ sig) → Buf (Elt Ideal) ℓ) (c : Dev nD)

/-- The arguments' arrays. -/
abbrev stream (T : Fin 16384) (k : Fin 1024) : EReal := m ((c : Thread nD τ).loc main_arg0) (ix2 T k)
abbrev gain (k : Fin 1024) : EReal := m ((c : Thread nD τ).loc main_arg1) (ix1 k)
abbrev wup (k : Fin 1024) (j : Fin 5632) : EReal := m ((c : Thread nD τ).loc main_arg2) (ix2 k j)
abbrev conv (d : Fin 3) (j : Fin 5632) : EReal := m ((c : Thread nD τ).loc main_arg3) (ix2 d j)
abbrev bias (j : Fin 5632) : EReal := m ((c : Thread nD τ).loc main_arg4) (ix1 j)
abbrev wdown (j : Fin 2816) (n : Fin 1024) : EReal := m ((c : Thread nD τ).loc main_arg5) (ix2 j n)
abbrev lastGain (k : Fin 1024) : EReal := m ((c : Thread nD τ).loc main_arg6) (ix1 k)

section Reads

variable (t : Fin cfg0.N)

theorem own_read (r : Fin 2048) (k : Fin 1024) (T : Fin 16384) (e : T.val = 2048 * (t.val / 11) + r.val) :
    (iblk m c 0 t : Vec Ideal S2048x1024 .f32) (ix2 r k) = stream m c T k := by
  blk_ext [iblk, V, places t]

theorem gain_read (k : Fin 1024) : (iblk m c 3 t : Vec Ideal S1x1024 .f32) (ix2 0 k) = gain m c k := by
  blk_simp [iblk]
  entry_read
  pointwise
  blk_ext [places t]

theorem value_weight (k : Fin 1024) (j : Fin 256) (j' : Fin 5632) (e : j'.val = 256 * (t.val % 11) + j.val) :
    (iblk m c 4 t : Vec Ideal S1024x256 .bf16) (ix2 k j) = wup m c k j' := by
  blk_simp [iblk]
  entry_read
  pointwise
  blk_ext [places t]

theorem gate_weight (k : Fin 1024) (j : Fin 256) (j' : Fin 5632) (e : j'.val = 256 * (11 + t.val % 11) + j.val) :
    (iblk m c 5 t : Vec Ideal S1024x256 .bf16) (ix2 k j) = wup m c k j' := by
  blk_simp [iblk]
  entry_read
  pointwise
  blk_ext [places t]

theorem value_conv (d : Fin 3) (j : Fin 256) (j' : Fin 5632) (e : j'.val = 256 * (t.val % 11) + j.val) :
    (iblk m c 6 t : Vec Ideal S3x256 .f32) (ix2 d j) = conv m c d j' := by
  blk_ext [iblk, V, places t]

theorem gate_conv (d : Fin 3) (j : Fin 256) (j' : Fin 5632) (e : j'.val = 256 * (11 + t.val % 11) + j.val) :
    (iblk m c 7 t : Vec Ideal S3x256 .f32) (ix2 d j) = conv m c d j' := by
  blk_ext [iblk, V, places t]

theorem value_bias (j : Fin 256) (j' : Fin 5632) (e : j'.val = 256 * (t.val % 11) + j.val) :
    (iblk m c 8 t : Vec Ideal S1x256 .f32) (ix2 0 j) = bias m c j' := by
  blk_simp [iblk]
  entry_read
  pointwise
  blk_ext [places t]

theorem gate_bias (j : Fin 256) (j' : Fin 5632) (e : j'.val = 256 * (11 + t.val % 11) + j.val) :
    (iblk m c 9 t : Vec Ideal S1x256 .f32) (ix2 0 j) = bias m c j' := by
  blk_simp [iblk]
  entry_read
  pointwise
  blk_ext [places t]

theorem down_read (j : Fin 256) (n : Fin 1024) (j' : Fin 2816) (e : j'.val = 256 * (t.val % 11) + j.val) :
    (iblk m c 10 t : Vec Ideal S256x1024 .bf16) (ix2 j n) = wdown m c j' n := by
  blk_simp [iblk]
  entry_read
  pointwise
  blk_ext [places t]

theorem last_gain_read (k : Fin 1024) : (iblk m c 11 t : Vec Ideal S1x1024 .f32) (ix2 0 k) = lastGain m c k := by
  blk_simp [iblk]
  entry_read
  pointwise
  blk_ext [places t]

/-- The buffer's row `q` is the normed row at its place of the sequence. -/
theorem rows_near (b : Fin 8) (l : ℕ) (q : Fin 2064) (k : Fin 1024) (hb : b.val = t.val / 11)
    (hl : l = q.val - 7) : blockRows m c t (ix2 q k) = sampleNear (stream m c) (gain m c) b l k := by
  have ht : t.val < 88 := t.isLt
  have hg : (fun k => (iblk m c 3 t : Vec Ideal S1x1024 .f32) (ix2 0 k)) = gain m c := funext fun k => gain_read m c t k
  unfold sampleNear
  by_cases h8 : q.val < 8
  · rw [dif_neg (by omega)]
    exact rows_before (iblk m c 3 t) (iblk m c 0 t) (ix2 q k) h8
  · by_cases h2056 : q.val < 2056
    · refine (rows_own (iblk m c 3 t) (iblk m c 0 t) ⟨q.val - 8, by omega⟩ (ix2 q k) (by simp only [ix2_0]; omega)).trans ?_
      rw [dif_pos (by omega), hg]
      exact congrArg (fun v => normed v (gain m c) k) (funext fun k => own_read m c t ⟨q.val - 8, by omega⟩ k _ (by simp only; omega))
    · rw [dif_neg (by omega)]
      exact rows_after (iblk m c 3 t) (iblk m c 0 t) (ix2 q k) (by simp only [ix2_0]; omega)

/-- Hidden unit `j`'s share of column `n`. -/
def share (b : Fin 8) (l : ℕ) (n : Fin 1024) (j : ℕ) : EReal :=
  if h : j < 2816 then
    sampleUnit (stream m c) (gain m c) (wup m c) (conv m c) (bias m c) b l ⟨j, h⟩ * wdown m c ⟨j, h⟩ n
  else 0

/-- A point adds the shares of its hidden columns. -/
theorem added_shares (b : Fin 8) (l : ℕ) (r : Fin 2048) (n : Fin 1024) (hb : b.val = t.val / 11)
    (hl : l = r.val) :
    addedAt m c t (blockRows m c t) r n = ∑ q : Fin 256, share m c b l n (t.val % 11 * 256 + q.val) := by
  unfold addedAt added
  refine Finset.sum_congr rfl fun q _ => ?_
  have hq : t.val % 11 * 256 + q.val < 2816 := by omega
  unfold share sampleUnit
  rw [dif_pos hq,
    show (fun k => blockRows m c t (ix2 ⟨r.val + 7, by omega⟩ k)) = sampleNear (stream m c) (gain m c) b l from
      funext fun k => rows_near m c t b l _ k hb (by simp only; omega),
    show (fun k => blockRows m c t (ix2 ⟨r.val + 8, by omega⟩ k)) = sampleNear (stream m c) (gain m c) b (l + 1) from
      funext fun k => rows_near m c t b (l + 1) _ k hb (by simp only; omega),
    show (fun k => blockRows m c t (ix2 ⟨r.val + 9, by omega⟩ k)) = sampleNear (stream m c) (gain m c) b (l + 2) from
      funext fun k => rows_near m c t b (l + 2) _ k hb (by simp only; omega),
    funext fun k => value_weight m c t k q ⟨t.val % 11 * 256 + q.val, by omega⟩ (by simp only; omega),
    funext fun k => gate_weight m c t k q ⟨2816 + (t.val % 11 * 256 + q.val), by omega⟩ (by simp only; omega),
    funext fun d => value_conv m c t d q ⟨t.val % 11 * 256 + q.val, by omega⟩ (by simp only; omega),
    funext fun d => gate_conv m c t d q ⟨2816 + (t.val % 11 * 256 + q.val), by omega⟩ (by simp only; omega),
    value_bias m c t q ⟨t.val % 11 * 256 + q.val, by omega⟩ (by simp only; omega),
    gate_bias m c t q ⟨2816 + (t.val % 11 * 256 + q.val), by omega⟩ (by simp only; omega),
    down_read m c t q n ⟨t.val % 11 * 256 + q.val, by omega⟩ (by simp only; omega)]

end Reads

/-- The point before has the same block. -/
theorem rows_same (n : ℕ) (h : n + 1 < cfg0.N) (h' : n < cfg0.N) (e : ¬(n + 1) % 11 = 0) :
    blockRows m c ⟨n + 1, h⟩ = blockRows m c ⟨n, h'⟩ := by
  have hn : n + 1 < 88 := h
  funext z
  have hb : n / 11 < 8 := by omega
  rw [eq_ix2 z]
  exact (rows_near m c ⟨n + 1, h⟩ ⟨n / 11, hb⟩ _ (z 0) (z 1) (by simp only; omega) rfl).trans
    (rows_near m c ⟨n, h'⟩ ⟨n / 11, hb⟩ _ (z 0) (z 1) rfl rfl).symm

/-- A point that is not a row block's first leaves the rows as they were. -/
theorem kept (t : Fin cfg0.N) (e : ¬t.val % 11 = 0) : (outsAt0 m c t.val t.isLt).2.1 = rowsBefore m c t := by
  by_cases e2 : t.val % 11 = 10
  · rw [outsAt0_C m c t e (by omega) e2]
    unfold sout0_C_0
    rfl
  · rw [outsAt0_B m c t e (by omega) e2]
    unfold sout0_B_0
    rfl

/-- The buffer holds the block's rows at every point. -/
theorem held (n : ℕ) (h : n < cfg0.N) : (outsAt0 m c n h).2.1 = blockRows m c ⟨n, h⟩ := by
  induction n with
  | zero => exact first_rows m c ⟨0, h⟩ (Nat.zero_mod 11) (by simp) (by simp)
  | succ n ih =>
    by_cases e : (n + 1) % 11 = 0
    · exact first_rows m c ⟨n + 1, h⟩ e (by simp only; omega) (by simp only; omega)
    · exact (kept m c ⟨n + 1, h⟩ e).trans ((ih (by omega)).trans (rows_same m c n h (by omega) e).symm)

/-- The sum after the points of a row block up to `n`. -/
theorem summed (n : ℕ) (h : n < cfg0.N) (hn : n % 11 ≤ 9) (b : Fin 8) (l : ℕ) (y : S2048x1024.Idx) (hb : b.val = n / 11)
    (hl : l = (y 0).val) : (outsAt0 m c n h).2.2 y =
      ∑ s ∈ Finset.range (n % 11 + 1), ∑ q : Fin 256, share m c b l (y 1) (s * 256 + q.val) := by
  have first (n : ℕ) (h : n < cfg0.N) (e : n % 11 = 0) (hb : b.val = n / 11) (hl : l = (y 0).val) :
      (outsAt0 m c n h).2.2 y = ∑ s ∈ Finset.range (n % 11 + 1), ∑ q : Fin 256, share m c b l (y 1) (s * 256 + q.val) := by
    refine (congrFun (first_acc m c ⟨n, h⟩ e (by simp only; omega) (by simp only; omega)) y).trans ?_
    refine (added_shares m c ⟨n, h⟩ b l (y 0) (y 1) hb hl).trans ?_
    simp only [e, Nat.zero_add, Finset.range_one, Finset.sum_singleton]
  induction n with
  | zero => exact first 0 h (Nat.zero_mod 11) hb hl
  | succ n ih =>
    by_cases e : (n + 1) % 11 = 0
    · exact first (n + 1) h e hb hl
    · refine (congrFun (next_acc m c ⟨n + 1, h⟩ e (by simp only; omega) (by simp only; omega)) y).trans ?_
      have e' : (n + 1) % 11 = n % 11 + 1 := by omega
      have hr : rowsBefore m c ⟨n + 1, h⟩ = blockRows m c ⟨n + 1, h⟩ :=
        (held m c n (by omega)).trans (rows_same m c n h (by omega) e).symm
      rw [Finset.sum_range_succ, hr]
      refine congrArg₂ (fun a b : EReal => a + b) ?_ (added_shares m c ⟨n + 1, h⟩ b l (y 0) (y 1) hb hl)
      rw [e']
      exact ih (by omega) (by omega) (by omega)

/-- What the kernel leaves. -/
def result (i : S16384x1024.Idx) : EReal :=
  sampleFed (stream m c) (gain m c) (wup m c) (conv m c) (bias m c) (wdown m c) (lastGain m c) (i 0) (i 1)

/-- The shares of a row block's points are those of every hidden unit. -/
theorem shares (b : Fin 8) (l : ℕ) (n : Fin 1024) : ∑ s ∈ Finset.range 11, ∑ q : Fin 256, share m c b l n (s * 256 + q.val) =
    ∑ j : Fin 2816, sampleUnit (stream m c) (gain m c) (wup m c) (conv m c) (bias m c) b l j * wdown m c j n := by
  rw [Finset.sum_range]
  exact Fin.sum_mul_add_congr (S := 11) (n := 256) fun s k hl => dif_pos hl

theorem block (t : Fin cfg0.N) (e : t.val % 11 = 10) (y : S2048x1024.Idx) (T : Fin 16384)
    (hT : T.val = 2048 * (t.val / 11) + (y 0).val) : (outsAt0 m c t.val t.isLt).1 y =
      sampleFed (stream m c) (gain m c) (wup m c) (conv m c) (bias m c) (wdown m c) (lastGain m c) T (y 1) := by
  obtain ⟨n, hn⟩ := t
  obtain _ | n := n
  · simp at e
  have hy : (y 0).val < 2048 := (y 0).isLt
  simp only at e hT
  have hr : rowsBefore m c ⟨n + 1, hn⟩ = blockRows m c ⟨n + 1, hn⟩ :=
    (held m c n (by omega)).trans (rows_same m c n hn (by omega) (by omega)).symm
  refine (congrFun (last_out m c ⟨n + 1, hn⟩ (by simp only; omega) (by simp only; omega) e) y).trans ?_
  unfold sampleFed
  refine congrArg₂ (fun v g => normed v g (y 1)) (funext fun k => ?_) (funext fun k => last_gain_read m c ⟨n + 1, hn⟩ k)
  refine congrArg₂ (fun a b : EReal => a + b) (own_read m c ⟨n + 1, hn⟩ (y 0) k T hT) ?_
  rw [← shares, Finset.sum_range_succ, hr]
  refine congrArg₂ (fun a b : EReal => a + b) ?_ ?_
  · have e' : n % 11 + 1 = 10 := by omega
    rw [← e']
    exact summed m c n (by omega) (by omega) _ _ (ix2 (y 0) k) (by simp only; omega)
      (by show T.val % 2048 = (y 0).val; omega)
  · refine (added_shares m c ⟨n + 1, hn⟩ ⟨T.val / 2048, by omega⟩ (T.val % 2048) (y 0) k (by simp only; omega) (by omega)).trans ?_
    simp only [e]

theorem final : (dats m 0 c).arrAt 12 cfg0.N = result m c := by
  refine (dats m 0 c).arrAt_eq_of_covers 12 _ (by decide +kernel) fun t hf y => ?_
  have e : t.val % 11 = 10 := (flush0_12 t).mp hf
  blk_simp
  rw [after0_12]
  have e0 : (((cfg0.win 12).blk t).view.emb y 0).val = 2048 * (t.val / 11) + (y 0).val := by blk_simp [places t]; omega
  have e1 : (((cfg0.win 12).blk t).view.emb y 1).val = (y 1).val := by blk_simp [places t]
  refine (block m c t e y _ e0).trans ?_
  unfold result
  exact congrArg _ (Fin.ext e1.symm)

end Cert.Kernel6Ideal.Ffn

end
-- ==== Proof.SampleRef.lean ====
/-
  The sample batch's feed-forward of the reference.
-/
module

public import proofs.«01_k».proof.Proof.SampleMath
public import proofs.«01_k».proof.Proof.Gen.Reference6Ideal.Read
public import Idealize.ShloMosaic.Lib.Pointwise
public import Idealize.ShloMosaic.Lib.Pipeline.ValueKit

@[expose] public section

set_option maxRecDepth 16384
set_option maxHeartbeats 400000

noncomputable section

namespace Cert.Reference6Ideal.Read

open Cert.Reference6Ideal Cert.Reference6Ideal.Gen Cert.Layer Idealize.ShloMosaic

variable (x : FVec Ideal S16384x1024 .f32) (g : FVec Ideal S1024 .f32) (w : FVec Ideal S1024x5632 .f32)
  (cw : FVec Ideal S3x5632 .f32) (cb : FVec Ideal S5632 .f32) (wd : FVec Ideal S2816x1024 .f32) (fg : FVec Ideal S1024 .f32)

theorem row_apply (b : Fin 8) (l : Fin 2048) (k : Fin 1024) : val_main_v13 (F := Ideal) x g (ix3 b l k) =
    normed (fun k => x (ix2 ⟨b.val * 2048 + l.val, by omega⟩ k)) (fun k => g (ix1 k)) k := by
  pointwise [val_main_v13, val_main_v12, val_main_v11, val_main_v10, val_main_v9, val_main_v8, val_main_v7, val_main_v6, val_main_cst_1,
    val_main_v5, val_main_v4, val_main_cst_0, val_main_v3, val_main_v2, val_main_cst, val_main_v1, val_main_v0, normed, rowScale]

theorem padded_apply (b : Fin 8) (l : Fin 2050) (c : Fin 5632) : val_main_v15 (F := Ideal) x g w (ix3 b l c) =
    ∑ k : Fin 1024, sampleNear (fun t k => x (ix2 t k)) (fun k => g (ix1 k)) b l.val k * w (ix2 k c) := by
  pointwise [val_main_v15, val_main_v14, val_main_call0_v0, val_main_c]
  by_cases e : 1 ≤ l.val ∧ l.val ≤ 2048
  · rw [dif_pos ⟨e.1, by omega⟩]
    refine Finset.sum_congr rfl fun k _ => ?_
    rw [row_apply]
    unfold sampleNear
    rw [dif_pos e]
  · rw [dif_neg (by omega)]
    unfold sampleNear
    simp only [dif_neg e, zero_mul, Finset.sum_const_zero]
    show (((0#32 : BitVec 32).toInt : ℝ) : EReal) = 0
    simp

theorem taps_apply (b : Fin 8) (l : Fin 2048) (c : Fin 5632) : val_main_v38 (F := Ideal) x g w cw cb (ix3 b l c) =
    taps (∑ k : Fin 1024, sampleNear (fun t k => x (ix2 t k)) (fun k => g (ix1 k)) b l.val k * w (ix2 k c))
      (∑ k : Fin 1024, sampleNear (fun t k => x (ix2 t k)) (fun k => g (ix1 k)) b (l.val + 1) k * w (ix2 k c))
      (∑ k : Fin 1024, sampleNear (fun t k => x (ix2 t k)) (fun k => g (ix1 k)) b (l.val + 2) k * w (ix2 k c))
      (fun d => cw (ix2 d c)) (cb (ix1 c)) := by
  pointwise [val_main_v38, val_main_v37, val_main_v36, val_main_v35, val_main_v34, val_main_v33, val_main_v32, val_main_v31, val_main_v30,
    val_main_v29, val_main_v28, val_main_v27, val_main_v26, val_main_v25, val_main_v24, val_main_v23, val_main_v22, val_main_v21,
    val_main_v20, val_main_v19, val_main_v18, val_main_v17, val_main_v16, taps]
  rw [padded_apply, padded_apply, padded_apply]
  simp only [Nat.add_comm 1, Nat.add_comm 2]

theorem unit_apply (b : Fin 8) (l : Fin 2048) (j : Fin 2816) : val_main_v48 (F := Ideal) x g w cw cb (ix3 b l j) =
    sampleUnit (fun t k => x (ix2 t k)) (fun k => g (ix1 k)) (fun k c => w (ix2 k c)) (fun d c => cw (ix2 d c)) (fun c => cb (ix1 c)) b l.val j := by
  pointwise [val_main_v48, val_main_v47, val_main_v46, val_main_v45, val_main_cst_3, val_main_v44, val_main_v43, val_main_cst_2,
    val_main_v42, val_main_v41, val_main_v40, val_main_v39, sampleUnit, Layer.hidden, gated]
  rw [taps_apply, taps_apply]
  unfold Ideal.logistic
  rfl

theorem result_apply (i : S16384x1024.Idx) : val_main_v64 (F := Ideal) x g w cw cb wd fg i =
    sampleFed (fun t k => x (ix2 t k)) (fun k => g (ix1 k)) (fun k c => w (ix2 k c)) (fun d c => cw (ix2 d c)) (fun c => cb (ix1 c))
      (fun j n => wd (ix2 j n)) (fun k => fg (ix1 k)) (i 0) (i 1) := by
  pointwise [val_main_v64, val_main_v63, val_main_v62, val_main_v61, val_main_v60, val_main_v59, val_main_v58, val_main_v57, val_main_v56,
    val_main_cst_6, val_main_v55, val_main_v54, val_main_cst_5, val_main_v53, val_main_v52, val_main_cst_4, val_main_v51, val_main_v50,
    val_main_v49, val_main_v0, sampleFed, normed, rowScale]
  simp only [unit_apply]

end Cert.Reference6Ideal.Read

end
-- ==== Proof.lean ====
module

public import proofs.«01_k».proof.Defs
public import proofs.«01_k».proof.Proof.Gen.Kernel.Frame
public import proofs.«01_k».proof.Proof.Gen.KernelIdeal.Frame
public import proofs.«01_k».proof.Proof.Gen.KernelIdeal.Value
public import proofs.«01_k».proof.Proof.Gen.Kernel2.Frame
public import proofs.«01_k».proof.Proof.Gen.Kernel2Ideal.Frame
public import proofs.«01_k».proof.Proof.Gen.Kernel2Ideal.Value
public import proofs.«01_k».proof.Proof.Gen.Reference2Ideal.Read
public import proofs.«01_k».proof.Proof.Gen.Kernel3.Frame
public import proofs.«01_k».proof.Proof.Gen.Kernel3Ideal.Frame
public import proofs.«01_k».proof.Proof.Gen.Reference3Ideal.Read
public import proofs.«01_k».proof.Proof.Gen.Kernel4.Frame
public import proofs.«01_k».proof.Proof.Gen.Kernel4Ideal.Frame
public import proofs.«01_k».proof.Proof.Gen.Kernel4Ideal.Value
public import proofs.«01_k».proof.Proof.Gen.Reference4Ideal.Read
public import proofs.«01_k».proof.Proof.Gen.Kernel5.Frame
public import proofs.«01_k».proof.Proof.Gen.Kernel5Ideal.Frame
public import proofs.«01_k».proof.Proof.Gen.Reference5Ideal.Read
public import proofs.«01_k».proof.Proof.Gen.Kernel6.Frame
public import proofs.«01_k».proof.Proof.Gen.Kernel6Ideal.Frame
public import proofs.«01_k».proof.Proof.Gen.Reference6Ideal.Read
public import proofs.«01_k».proof.Proof.Blocks
public import proofs.«01_k».proof.Proof.Ref
public import proofs.«01_k».proof.Proof.ProjBlocks
public import proofs.«01_k».proof.Proof.ProjRef
public import proofs.«01_k».proof.Proof.FfnBlocks
public import proofs.«01_k».proof.Proof.FfnRef
public import proofs.«01_k».proof.Proof.MergeBlocks
public import proofs.«01_k».proof.Proof.MergeRef
public import proofs.«01_k».proof.Proof.MemBlocks
public import proofs.«01_k».proof.Proof.MemRun
public import proofs.«01_k».proof.Proof.MemRef
public import proofs.«01_k».proof.Proof.SampleBlocks
public import proofs.«01_k».proof.Proof.SampleRef

@[expose] public section

noncomputable section

namespace Cert.Proof

open Idealize.ShloMosaic Idealize.SL.Sem

/-- The reference's run; it has no semaphore to leave at another count. -/
theorem reference_frame : Cert.quiescent_ReferenceIdeal (hReferenceIdeal := Cert.ReferenceIdeal.Gen.facts) := fun m ρ _ =>
  (θ_run _ _ _).mono (fun _ h => ⟨fun c => (h c).2, funext fun s => nomatch s⟩) (Cert.ReferenceIdeal.Value.run m ρ)

/-- From the same arguments the reference's output is the array the kernel leaves. -/
theorem outputs (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h0 : m' ((c.tc : Thread Cert.ReferenceIdeal.nD Cert.ReferenceIdeal.τ).loc Cert.ReferenceIdeal.main_arg0) =
      m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) =
      m ((c.tc : Thread Cert.KernelIdeal.nD Cert.KernelIdeal.τ).loc Cert.KernelIdeal.main_arg1)) :
    Cert.ReferenceIdeal.Value.res_main_v65 m' c = Cert.KernelIdeal.Blocks.result m c := by
  rw [Cert.ReferenceIdeal.Read.val_main_v65_eq, h0, h1]
  exact funext fun i => Cert.ReferenceIdeal.Read.result_apply _ _ i

theorem values : Cert.algebraic_KernelIdeal_ReferenceIdeal (hKernelIdeal := Cert.KernelIdeal.Gen.facts)
    (hReferenceIdeal := Cert.ReferenceIdeal.Gen.facts) := fun m g m' g' _ hm =>
  ⟨fun c => Cert.KernelIdeal.Blocks.result m c,
    (θ_run _ _ _).mono (fun _ h c => ⟨(h c).1.trans (Cert.KernelIdeal.Blocks.final m c), (h c).2⟩)
      (Cert.KernelIdeal.Value.run_blocks m g),
    (θ_run _ _ _).mono (fun _ h c => ⟨(h c).1.trans (outputs m m' c (hm c).1 (hm c).2), (h c).2⟩)
      (Cert.ReferenceIdeal.Value.run m' g')⟩

/-- The projection's reference's run. -/
theorem reference2_frame : Cert.quiescent_Reference2Ideal (hReference2Ideal := Cert.Reference2Ideal.Gen.facts) := fun m ρ _ =>
  (θ_run _ _ _).mono (fun _ h => ⟨fun c => (h c).2, funext fun s => nomatch s⟩) (Cert.Reference2Ideal.Value.run m ρ)

/-- The projection: from the same arguments the reference's output is the array the kernel leaves. -/
theorem outputs2 (m : (ℓ : Loc Cert.Kernel2Ideal.nD Cert.Kernel2Ideal.τ Cert.Kernel2Ideal.sig) → Buf (Elt Ideal) ℓ)
    (m' : (ℓ : Loc Cert.Reference2Ideal.nD Cert.Reference2Ideal.τ Cert.Reference2Ideal.sig) → Buf (Elt Ideal) ℓ)
    (c : Dev Cert.Kernel2Ideal.nD)
    (h0 : m' ((c.tc : Thread Cert.Reference2Ideal.nD Cert.Reference2Ideal.τ).loc Cert.Reference2Ideal.main_arg0) =
      m ((c.tc : Thread Cert.Kernel2Ideal.nD Cert.Kernel2Ideal.τ).loc Cert.Kernel2Ideal.main_arg0))
    (h1 : m' ((c.tc : Thread Cert.Reference2Ideal.nD Cert.Reference2Ideal.τ).loc Cert.Reference2Ideal.main_arg1) =
      m ((c.tc : Thread Cert.Kernel2Ideal.nD Cert.Kernel2Ideal.τ).loc Cert.Kernel2Ideal.main_arg1))
    (h2 : m' ((c.tc : Thread Cert.Reference2Ideal.nD Cert.Reference2Ideal.τ).loc Cert.Reference2Ideal.main_arg2) =
      m ((c.tc : Thread Cert.Kernel2Ideal.nD Cert.Kernel2Ideal.τ).loc Cert.Kernel2Ideal.main_arg2)) :
    Cert.Reference2Ideal.Read.val_main_v19 (F := Ideal) (m' ((c.tc : Thread Cert.Reference2Ideal.nD Cert.Reference2Ideal.τ).loc Cert.Reference2Ideal.main_arg0))
      (m' ((c.tc : Thread Cert.Reference2Ideal.nD Cert.Reference2Ideal.τ).loc Cert.Reference2Ideal.main_arg1))
      (m' ((c.tc : Thread Cert.Reference2Ideal.nD Cert.Reference2Ideal.τ).loc Cert.Reference2Ideal.main_arg2)) =
      Cert.Kernel2Ideal.Proj.result m c := by
  rw [h0, h1, h2]
  exact funext fun i => Cert.Reference2Ideal.Read.result_apply _ _ _ i

theorem values2 : Cert.algebraic_Kernel2Ideal_Reference2Ideal (hKernel2Ideal := Cert.Kernel2Ideal.Gen.facts)
    (hReference2Ideal := Cert.Reference2Ideal.Gen.facts) := fun m g m' g' _ hm =>
  ⟨fun c => Cert.Kernel2Ideal.Proj.result m c,
    (θ_run _ _ _).mono (fun _ h c => ⟨(h c).1.trans (Cert.Kernel2Ideal.Proj.final m c), (h c).2⟩)
      (Cert.Kernel2Ideal.Value.run_blocks m g),
    (θ_run _ _ _).mono (fun _ h c => ⟨((h c).1.trans (Cert.Reference2Ideal.Read.val_main_v19_eq _ _ _)).trans
      (outputs2 m m' c (hm c).1 (hm c).2.1 (hm c).2.2), (h c).2⟩)
      (Cert.Reference2Ideal.Value.run m' g')⟩

/-- The feed-forward's reference's run. -/
theorem reference3_frame : Cert.quiescent_Reference3Ideal (hReference3Ideal := Cert.Reference3Ideal.Gen.facts) := fun m ρ _ =>
  (θ_run _ _ _).mono (fun _ h => ⟨fun c => (h c).2, funext fun s => nomatch s⟩) (Cert.Reference3Ideal.Value.run m ρ)

/-- The feed-forward: from the same arguments the reference's output is the array the kernel leaves. -/
theorem outputs3 (m : (ℓ : Loc Cert.Kernel3Ideal.nD Cert.Kernel3Ideal.τ Cert.Kernel3Ideal.sig) → Buf (Elt Ideal) ℓ)
    (m' : (ℓ : Loc Cert.Reference3Ideal.nD Cert.Reference3Ideal.τ Cert.Reference3Ideal.sig) → Buf (Elt Ideal) ℓ)
    (c : Dev Cert.Kernel3Ideal.nD)
    (h0 : m' ((c.tc : Thread Cert.Reference3Ideal.nD Cert.Reference3Ideal.τ).loc Cert.Reference3Ideal.main_arg0) =
      m ((c.tc : Thread Cert.Kernel3Ideal.nD Cert.Kernel3Ideal.τ).loc Cert.Kernel3Ideal.main_arg0))
    (h1 : m' ((c.tc : Thread Cert.Reference3Ideal.nD Cert.Reference3Ideal.τ).loc Cert.Reference3Ideal.main_arg1) =
      m ((c.tc : Thread Cert.Kernel3Ideal.nD Cert.Kernel3Ideal.τ).loc Cert.Kernel3Ideal.main_arg1))
    (h2 : m' ((c.tc : Thread Cert.Reference3Ideal.nD Cert.Reference3Ideal.τ).loc Cert.Reference3Ideal.main_arg2) =
      m ((c.tc : Thread Cert.Kernel3Ideal.nD Cert.Kernel3Ideal.τ).loc Cert.Kernel3Ideal.main_arg2))
    (h3 : m' ((c.tc : Thread Cert.Reference3Ideal.nD Cert.Reference3Ideal.τ).loc Cert.Reference3Ideal.main_arg3) =
      m ((c.tc : Thread Cert.Kernel3Ideal.nD Cert.Kernel3Ideal.τ).loc Cert.Kernel3Ideal.main_arg3))
    (h4 : m' ((c.tc : Thread Cert.Reference3Ideal.nD Cert.Reference3Ideal.τ).loc Cert.Reference3Ideal.main_arg4) =
      m ((c.tc : Thread Cert.Kernel3Ideal.nD Cert.Kernel3Ideal.τ).loc Cert.Kernel3Ideal.main_arg4))
    (h5 : m' ((c.tc : Thread Cert.Reference3Ideal.nD Cert.Reference3Ideal.τ).loc Cert.Reference3Ideal.main_arg5) =
      m ((c.tc : Thread Cert.Kernel3Ideal.nD Cert.Kernel3Ideal.τ).loc Cert.Kernel3Ideal.main_arg5))
    (h6 : m' ((c.tc : Thread Cert.Reference3Ideal.nD Cert.Reference3Ideal.τ).loc Cert.Reference3Ideal.main_arg6) =
      m ((c.tc : Thread Cert.Kernel3Ideal.nD Cert.Kernel3Ideal.τ).loc Cert.Kernel3Ideal.main_arg6)) :
    Cert.Reference3Ideal.Value.res_main_v64 m' c = Cert.Kernel3Ideal.Ffn.result m c := by
  rw [Cert.Reference3Ideal.Read.val_main_v64_eq, h0, h1, h2, h3, h4, h5, h6]
  exact funext fun i => Cert.Reference3Ideal.Read.result_apply _ _ _ _ _ _ _ i

theorem values3 : Cert.algebraic_Kernel3Ideal_Reference3Ideal (hKernel3Ideal := Cert.Kernel3Ideal.Gen.facts)
    (hReference3Ideal := Cert.Reference3Ideal.Gen.facts) := fun m g m' g' _ hm =>
  ⟨fun c => Cert.Kernel3Ideal.Ffn.result m c,
    (θ_run _ _ _).mono (fun _ h c => ⟨((h.1 c).1 12).trans (Cert.Kernel3Ideal.Ffn.final m c), h.2 c⟩)
      (θ_run_and (Cert.Kernel3Ideal.Gen.run_main m g) (Cert.Kernel3Ideal.Gen.unchanged m g)),
    (θ_run _ _ _).mono (fun _ h c => ⟨(h c).1.trans (outputs3 m m' c (hm c).1 (hm c).2.1 (hm c).2.2.1 (hm c).2.2.2.1
      (hm c).2.2.2.2.1 (hm c).2.2.2.2.2.1 (hm c).2.2.2.2.2.2), (h c).2⟩)
      (Cert.Reference3Ideal.Value.run m' g')⟩

/-- The merge's reference's run. -/
theorem reference4_frame : Cert.quiescent_Reference4Ideal (hReference4Ideal := Cert.Reference4Ideal.Gen.facts) := fun m ρ _ =>
  (θ_run _ _ _).mono (fun _ h => ⟨fun c => (h c).2, funext fun s => nomatch s⟩) (Cert.Reference4Ideal.Value.run m ρ)

/-- The merge: from the same arguments the reference's output is the array the kernel leaves. -/
theorem outputs4 (m : (ℓ : Loc Cert.Kernel4Ideal.nD Cert.Kernel4Ideal.τ Cert.Kernel4Ideal.sig) → Buf (Elt Ideal) ℓ)
    (m' : (ℓ : Loc Cert.Reference4Ideal.nD Cert.Reference4Ideal.τ Cert.Reference4Ideal.sig) → Buf (Elt Ideal) ℓ)
    (c : Dev Cert.Kernel4Ideal.nD)
    (h0 : m' ((c.tc : Thread Cert.Reference4Ideal.nD Cert.Reference4Ideal.τ).loc Cert.Reference4Ideal.main_arg0) =
      m ((c.tc : Thread Cert.Kernel4Ideal.nD Cert.Kernel4Ideal.τ).loc Cert.Kernel4Ideal.main_arg0))
    (h1 : m' ((c.tc : Thread Cert.Reference4Ideal.nD Cert.Reference4Ideal.τ).loc Cert.Reference4Ideal.main_arg1) =
      m ((c.tc : Thread Cert.Kernel4Ideal.nD Cert.Kernel4Ideal.τ).loc Cert.Kernel4Ideal.main_arg1))
    (h2 : m' ((c.tc : Thread Cert.Reference4Ideal.nD Cert.Reference4Ideal.τ).loc Cert.Reference4Ideal.main_arg2) =
      m ((c.tc : Thread Cert.Kernel4Ideal.nD Cert.Kernel4Ideal.τ).loc Cert.Kernel4Ideal.main_arg2))
    (h3 : m' ((c.tc : Thread Cert.Reference4Ideal.nD Cert.Reference4Ideal.τ).loc Cert.Reference4Ideal.main_arg3) =
      m ((c.tc : Thread Cert.Kernel4Ideal.nD Cert.Kernel4Ideal.τ).loc Cert.Kernel4Ideal.main_arg3))
    (h4 : m' ((c.tc : Thread Cert.Reference4Ideal.nD Cert.Reference4Ideal.τ).loc Cert.Reference4Ideal.main_arg4) =
      m ((c.tc : Thread Cert.Kernel4Ideal.nD Cert.Kernel4Ideal.τ).loc Cert.Kernel4Ideal.main_arg4))
    (h5 : m' ((c.tc : Thread Cert.Reference4Ideal.nD Cert.Reference4Ideal.τ).loc Cert.Reference4Ideal.main_arg5) =
      m ((c.tc : Thread Cert.Kernel4Ideal.nD Cert.Kernel4Ideal.τ).loc Cert.Kernel4Ideal.main_arg5))
    (h6 : m' ((c.tc : Thread Cert.Reference4Ideal.nD Cert.Reference4Ideal.τ).loc Cert.Reference4Ideal.main_arg6) =
      m ((c.tc : Thread Cert.Kernel4Ideal.nD Cert.Kernel4Ideal.τ).loc Cert.Kernel4Ideal.main_arg6))
    (h7 : m' ((c.tc : Thread Cert.Reference4Ideal.nD Cert.Reference4Ideal.τ).loc Cert.Reference4Ideal.main_arg7) =
      m ((c.tc : Thread Cert.Kernel4Ideal.nD Cert.Kernel4Ideal.τ).loc Cert.Kernel4Ideal.main_arg7))
    (h8 : m' ((c.tc : Thread Cert.Reference4Ideal.nD Cert.Reference4Ideal.τ).loc Cert.Reference4Ideal.main_arg8) =
      m ((c.tc : Thread Cert.Kernel4Ideal.nD Cert.Kernel4Ideal.τ).loc Cert.Kernel4Ideal.main_arg8))
    (h9 : m' ((c.tc : Thread Cert.Reference4Ideal.nD Cert.Reference4Ideal.τ).loc Cert.Reference4Ideal.main_arg9) =
      m ((c.tc : Thread Cert.Kernel4Ideal.nD Cert.Kernel4Ideal.τ).loc Cert.Kernel4Ideal.main_arg9))
    (h10 : m' ((c.tc : Thread Cert.Reference4Ideal.nD Cert.Reference4Ideal.τ).loc Cert.Reference4Ideal.main_arg10) =
      m ((c.tc : Thread Cert.Kernel4Ideal.nD Cert.Kernel4Ideal.τ).loc Cert.Kernel4Ideal.main_arg10))
    (h11 : m' ((c.tc : Thread Cert.Reference4Ideal.nD Cert.Reference4Ideal.τ).loc Cert.Reference4Ideal.main_arg11) =
      m ((c.tc : Thread Cert.Kernel4Ideal.nD Cert.Kernel4Ideal.τ).loc Cert.Kernel4Ideal.main_arg11))
    (h12 : m' ((c.tc : Thread Cert.Reference4Ideal.nD Cert.Reference4Ideal.τ).loc Cert.Reference4Ideal.main_arg12) =
      m ((c.tc : Thread Cert.Kernel4Ideal.nD Cert.Kernel4Ideal.τ).loc Cert.Kernel4Ideal.main_arg12)) :
    Cert.Reference4Ideal.Value.res_main_v72 m' c = Cert.Kernel4Ideal.Merge.result m c := by
  rw [Cert.Reference4Ideal.Read.val_main_v72_eq, h0, h1, h2, h3, h4, h5, h6, h7, h8, h9, h10, h11, h12]
  exact funext fun i => Cert.Reference4Ideal.Read.result_apply _ _ _ _ _ _ _ _ _ _ _ _ _ i

theorem values4 : Cert.algebraic_Kernel4Ideal_Reference4Ideal (hKernel4Ideal := Cert.Kernel4Ideal.Gen.facts)
    (hReference4Ideal := Cert.Reference4Ideal.Gen.facts) := fun m g m' g' _ hm =>
  ⟨fun c => Cert.Kernel4Ideal.Merge.result m c,
    (θ_run _ _ _).mono (fun _ h c => ⟨(h c).1.trans (Cert.Kernel4Ideal.Merge.final m c), (h c).2⟩) (Cert.Kernel4Ideal.Value.run_blocks m g),
    (θ_run _ _ _).mono (fun _ h c => ⟨(h c).1.trans (outputs4 m m' c (hm c).1 (hm c).2.1 (hm c).2.2.1 (hm c).2.2.2.1 (hm c).2.2.2.2.1
      (hm c).2.2.2.2.2.1 (hm c).2.2.2.2.2.2.1 (hm c).2.2.2.2.2.2.2.1 (hm c).2.2.2.2.2.2.2.2.1 (hm c).2.2.2.2.2.2.2.2.2.1 (hm c).2.2.2.2.2.2.2.2.2.2.1
      (hm c).2.2.2.2.2.2.2.2.2.2.2.1 (hm c).2.2.2.2.2.2.2.2.2.2.2.2), (h c).2⟩)
      (Cert.Reference4Ideal.Value.run m' g')⟩

/-- The memory cross-attention's reference's run. -/
theorem reference5_frame : Cert.quiescent_Reference5Ideal (hReference5Ideal := Cert.Reference5Ideal.Gen.facts) := fun m ρ _ =>
  (θ_run _ _ _).mono (fun _ h => ⟨fun c => (h c).2, funext fun s => nomatch s⟩) (Cert.Reference5Ideal.Value.run m ρ)

/-- The memory cross-attention: from the same arguments the reference's output is the array the kernel leaves. -/
theorem outputs5 (m : (ℓ : Loc Cert.Kernel5Ideal.nD Cert.Kernel5Ideal.τ Cert.Kernel5Ideal.sig) → Buf (Elt Ideal) ℓ)
    (m' : (ℓ : Loc Cert.Reference5Ideal.nD Cert.Reference5Ideal.τ Cert.Reference5Ideal.sig) → Buf (Elt Ideal) ℓ)
    (c : Dev Cert.Kernel5Ideal.nD)
    (h0 : m' ((c.tc : Thread Cert.Reference5Ideal.nD Cert.Reference5Ideal.τ).loc Cert.Reference5Ideal.main_arg0) =
      m ((c.tc : Thread Cert.Kernel5Ideal.nD Cert.Kernel5Ideal.τ).loc Cert.Kernel5Ideal.main_arg0))
    (h1 : m' ((c.tc : Thread Cert.Reference5Ideal.nD Cert.Reference5Ideal.τ).loc Cert.Reference5Ideal.main_arg1) =
      m ((c.tc : Thread Cert.Kernel5Ideal.nD Cert.Kernel5Ideal.τ).loc Cert.Kernel5Ideal.main_arg1))
    (h2 : m' ((c.tc : Thread Cert.Reference5Ideal.nD Cert.Reference5Ideal.τ).loc Cert.Reference5Ideal.main_arg2) =
      m ((c.tc : Thread Cert.Kernel5Ideal.nD Cert.Kernel5Ideal.τ).loc Cert.Kernel5Ideal.main_arg2))
    (h3 : m' ((c.tc : Thread Cert.Reference5Ideal.nD Cert.Reference5Ideal.τ).loc Cert.Reference5Ideal.main_arg3) =
      m ((c.tc : Thread Cert.Kernel5Ideal.nD Cert.Kernel5Ideal.τ).loc Cert.Kernel5Ideal.main_arg3)) :
    Cert.Reference5Ideal.Value.res_main_v37 m' c = Cert.Kernel5Ideal.Mem.result m c := by
  rw [Cert.Reference5Ideal.Read.val_main_v37_eq, h0, h1, h2, h3]
  exact funext fun i => Cert.Reference5Ideal.Read.result_apply _ _ _ _ i

theorem values5 : Cert.algebraic_Kernel5Ideal_Reference5Ideal (hKernel5Ideal := Cert.Kernel5Ideal.Gen.facts)
    (hReference5Ideal := Cert.Reference5Ideal.Gen.facts) := fun m g m' g' _ hm =>
  ⟨fun c => Cert.Kernel5Ideal.Mem.result m c,
    (θ_run _ _ _).mono (fun _ h c => ⟨(h c).1.trans (Cert.Kernel5Ideal.Mem.final1 m g c), (h c).2⟩) (Cert.Kernel5Ideal.Mem.run m g),
    (θ_run _ _ _).mono (fun _ h c => ⟨(h c).1.trans (outputs5 m m' c (hm c).1 (hm c).2.1 (hm c).2.2.1 (hm c).2.2.2), (h c).2⟩)
      (Cert.Reference5Ideal.Value.run m' g')⟩

/-- The sample batch's feed-forward's reference's run. -/
theorem reference6_frame : Cert.quiescent_Reference6Ideal (hReference6Ideal := Cert.Reference6Ideal.Gen.facts) := fun m ρ _ =>
  (θ_run _ _ _).mono (fun _ h => ⟨fun c => (h c).2, funext fun s => nomatch s⟩) (Cert.Reference6Ideal.Value.run m ρ)

/-- The sample batch's feed-forward: from the same arguments the reference's output is the array the kernel leaves. -/
theorem outputs6 (m : (ℓ : Loc Cert.Kernel6Ideal.nD Cert.Kernel6Ideal.τ Cert.Kernel6Ideal.sig) → Buf (Elt Ideal) ℓ)
    (m' : (ℓ : Loc Cert.Reference6Ideal.nD Cert.Reference6Ideal.τ Cert.Reference6Ideal.sig) → Buf (Elt Ideal) ℓ)
    (c : Dev Cert.Kernel6Ideal.nD)
    (h0 : m' ((c.tc : Thread Cert.Reference6Ideal.nD Cert.Reference6Ideal.τ).loc Cert.Reference6Ideal.main_arg0) =
      m ((c.tc : Thread Cert.Kernel6Ideal.nD Cert.Kernel6Ideal.τ).loc Cert.Kernel6Ideal.main_arg0))
    (h1 : m' ((c.tc : Thread Cert.Reference6Ideal.nD Cert.Reference6Ideal.τ).loc Cert.Reference6Ideal.main_arg1) =
      m ((c.tc : Thread Cert.Kernel6Ideal.nD Cert.Kernel6Ideal.τ).loc Cert.Kernel6Ideal.main_arg1))
    (h2 : m' ((c.tc : Thread Cert.Reference6Ideal.nD Cert.Reference6Ideal.τ).loc Cert.Reference6Ideal.main_arg2) =
      m ((c.tc : Thread Cert.Kernel6Ideal.nD Cert.Kernel6Ideal.τ).loc Cert.Kernel6Ideal.main_arg2))
    (h3 : m' ((c.tc : Thread Cert.Reference6Ideal.nD Cert.Reference6Ideal.τ).loc Cert.Reference6Ideal.main_arg3) =
      m ((c.tc : Thread Cert.Kernel6Ideal.nD Cert.Kernel6Ideal.τ).loc Cert.Kernel6Ideal.main_arg3))
    (h4 : m' ((c.tc : Thread Cert.Reference6Ideal.nD Cert.Reference6Ideal.τ).loc Cert.Reference6Ideal.main_arg4) =
      m ((c.tc : Thread Cert.Kernel6Ideal.nD Cert.Kernel6Ideal.τ).loc Cert.Kernel6Ideal.main_arg4))
    (h5 : m' ((c.tc : Thread Cert.Reference6Ideal.nD Cert.Reference6Ideal.τ).loc Cert.Reference6Ideal.main_arg5) =
      m ((c.tc : Thread Cert.Kernel6Ideal.nD Cert.Kernel6Ideal.τ).loc Cert.Kernel6Ideal.main_arg5))
    (h6 : m' ((c.tc : Thread Cert.Reference6Ideal.nD Cert.Reference6Ideal.τ).loc Cert.Reference6Ideal.main_arg6) =
      m ((c.tc : Thread Cert.Kernel6Ideal.nD Cert.Kernel6Ideal.τ).loc Cert.Kernel6Ideal.main_arg6)) :
    Cert.Reference6Ideal.Value.res_main_v64 m' c = Cert.Kernel6Ideal.Ffn.result m c := by
  rw [Cert.Reference6Ideal.Read.val_main_v64_eq, h0, h1, h2, h3, h4, h5, h6]
  exact funext fun i => Cert.Reference6Ideal.Read.result_apply _ _ _ _ _ _ _ i

theorem values6 : Cert.algebraic_Kernel6Ideal_Reference6Ideal (hKernel6Ideal := Cert.Kernel6Ideal.Gen.facts)
    (hReference6Ideal := Cert.Reference6Ideal.Gen.facts) := fun m g m' g' _ hm =>
  ⟨fun c => Cert.Kernel6Ideal.Ffn.result m c,
    (θ_run _ _ _).mono (fun _ h c => ⟨((h.1 c).1 12).trans (Cert.Kernel6Ideal.Ffn.final m c), h.2 c⟩)
      (θ_run_and (Cert.Kernel6Ideal.Gen.run_main m g) (Cert.Kernel6Ideal.Gen.unchanged m g)),
    (θ_run _ _ _).mono (fun _ h c => ⟨(h c).1.trans (outputs6 m m' c (hm c).1 (hm c).2.1 (hm c).2.2.1 (hm c).2.2.2.1
      (hm c).2.2.2.2.1 (hm c).2.2.2.2.2.1 (hm c).2.2.2.2.2.2), (h c).2⟩)
      (Cert.Reference6Ideal.Value.run m' g')⟩

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  fun m ρ _ => Cert.Kernel.Gen.frame m ρ, fun m ρ _ => Cert.KernelIdeal.Gen.frame m ρ, reference_frame,
  fun m ρ _ => Cert.Kernel2.Gen.frame m ρ, fun m ρ _ => Cert.Kernel2Ideal.Gen.frame m ρ, reference2_frame,
  fun m ρ _ => Cert.Kernel3.Gen.frame m ρ, fun m ρ _ => Cert.Kernel3Ideal.Gen.frame m ρ, reference3_frame,
  fun m ρ _ => Cert.Kernel4.Gen.frame m ρ, fun m ρ _ => Cert.Kernel4Ideal.Gen.frame m ρ, reference4_frame,
  fun m ρ _ => Cert.Kernel5.Gen.frame m ρ, fun m ρ _ => Cert.Kernel5Ideal.Gen.frame m ρ, reference5_frame,
  fun m ρ _ => Cert.Kernel6.Gen.frame m ρ, fun m ρ _ => Cert.Kernel6Ideal.Gen.frame m ρ, reference6_frame,
  trivial, values, trivial, values2, trivial, values3, trivial, values4, trivial, values5,
  trivial, values6⟩

end Cert.Proof

end
